-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v132_0)) (v1 : (c : Dev Cert.KernelIdeal.nD) → Buf (Elt Ideal) ((c.tc : Thread Cert.KernelIdeal.nD Cert.KernelIdeal.τ).loc Cert.KernelIdeal.main_v132_1)) (v2 : (c : Dev Cert.KernelIdeal.nD) → Buf (Elt Ideal) ((c.tc : Thread Cert.KernelIdeal.nD Cert.KernelIdeal.τ).loc Cert.KernelIdeal.main_v132_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v132_0) = v0 c
          ∧ r.2.mem ((c.tc : Thread Cert.KernelIdeal.nD Cert.KernelIdeal.τ).loc Cert.KernelIdeal.main_v132_1) = v1 c
          ∧ r.2.mem ((c.tc : Thread Cert.KernelIdeal.nD Cert.KernelIdeal.τ).loc Cert.KernelIdeal.main_v132_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v228) = v0 c
          ∧ r.2.mem ((c.tc : Thread Cert.ReferenceIdeal.nD Cert.ReferenceIdeal.τ).loc Cert.ReferenceIdeal.main_v232) = v1 c
          ∧ r.2.mem ((c.tc : Thread Cert.ReferenceIdeal.nD Cert.ReferenceIdeal.τ).loc Cert.ReferenceIdeal.main_v236) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v12) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v1) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v1) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_v5) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v43) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v3_0)) (v1 : (c : Dev Cert.Kernel7Ideal.nD) → Buf (Elt Ideal) ((c.tc : Thread Cert.Kernel7Ideal.nD Cert.Kernel7Ideal.τ).loc Cert.Kernel7Ideal.main_v3_1)) (v2 : (c : Dev Cert.Kernel7Ideal.nD) → Buf (Elt Ideal) ((c.tc : Thread Cert.Kernel7Ideal.nD Cert.Kernel7Ideal.τ).loc Cert.Kernel7Ideal.main_v3_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3_0) = v0 c
          ∧ r.2.mem ((c.tc : Thread Cert.Kernel7Ideal.nD Cert.Kernel7Ideal.τ).loc Cert.Kernel7Ideal.main_v3_1) = v1 c
          ∧ r.2.mem ((c.tc : Thread Cert.Kernel7Ideal.nD Cert.Kernel7Ideal.τ).loc Cert.Kernel7Ideal.main_v3_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_v15) = v1 c
          ∧ r.2.mem ((c.tc : Thread Cert.Reference7Ideal.nD Cert.Reference7Ideal.τ).loc Cert.Reference7Ideal.main_v17) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v23) = v0 c
          ∧ r.2.mem ((c.tc : Thread Cert.Reference9Ideal.nD Cert.Reference9Ideal.τ).loc Cert.Reference9Ideal.main_v4) = v1 c
          ∧ r.2.mem ((c.tc : Thread Cert.Reference9Ideal.nD Cert.Reference9Ideal.τ).loc Cert.Reference9Ideal.main_v10) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v23) = v0 c
          ∧ r.2.mem ((c.tc : Thread Cert.Reference10Ideal.nD Cert.Reference10Ideal.τ).loc Cert.Reference10Ideal.main_v4) = v1 c
          ∧ r.2.mem ((c.tc : Thread Cert.Reference10Ideal.nD Cert.Reference10Ideal.τ).loc Cert.Reference10Ideal.main_v10) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v23) = v0 c
          ∧ r.2.mem ((c.tc : Thread Cert.Reference11Ideal.nD Cert.Reference11Ideal.τ).loc Cert.Reference11Ideal.main_v4) = v1 c
          ∧ r.2.mem ((c.tc : Thread Cert.Reference11Ideal.nD Cert.Reference11Ideal.τ).loc Cert.Reference11Ideal.main_v10) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v23) = v0 c
          ∧ r.2.mem ((c.tc : Thread Cert.Reference12Ideal.nD Cert.Reference12Ideal.τ).loc Cert.Reference12Ideal.main_v4) = v1 c
          ∧ r.2.mem ((c.tc : Thread Cert.Reference12Ideal.nD Cert.Reference12Ideal.τ).loc Cert.Reference12Ideal.main_v10) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v23) = v0 c
          ∧ r.2.mem ((c.tc : Thread Cert.Reference13Ideal.nD Cert.Reference13Ideal.τ).loc Cert.Reference13Ideal.main_v4) = v1 c
          ∧ r.2.mem ((c.tc : Thread Cert.Reference13Ideal.nD Cert.Reference13Ideal.τ).loc Cert.Reference13Ideal.main_v10) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v1_1)) (v1 : (c : Dev Cert.Kernel14Ideal.nD) → Buf (Elt Ideal) ((c.tc : Thread Cert.Kernel14Ideal.nD Cert.Kernel14Ideal.τ).loc Cert.Kernel14Ideal.main_v1_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1_1) = v0 c
          ∧ r.2.mem ((c.tc : Thread Cert.Kernel14Ideal.nD Cert.Kernel14Ideal.τ).loc Cert.Kernel14Ideal.main_v1_2) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v32) = v0 c
          ∧ r.2.mem ((c.tc : Thread Cert.Reference14Ideal.nD Cert.Reference14Ideal.τ).loc Cert.Reference14Ideal.main_v33) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== Pre_finite.lean ====
abbrev S4096x4x128 : Shape := ⟨3, ![4096, 4, 128]⟩
abbrev S4096x4 : Shape := ⟨2, ![4096, 4]⟩
abbrev S_ : Shape := ⟨0, ![]⟩

class Facts : Prop where
  bcast_S_S4096x4x128 : S_.BroadcastsInDim S4096x4x128 (![] : Fin 0 → Fin S4096x4x128.rank)
  bcast_S_S4096x4 : S_.BroadcastsInDim S4096x4 (![] : Fin 0 → Fin S4096x4.rank)

variable [Facts]

def fn_part1 {F : FTy → Type} [FloatOps F] (main_arg6 : FVec F S4096x4 .f32) (main_arg7 : FVec F S4096x4x128 .f32) (main_v2 : IVec S4096x4x128 1) (main_v5 : IVec S4096x4x128 1) (main_v8 : IVec S4096x4x128 1) (main_v11 : IVec S4096x4x128 1) (main_v14 : IVec S4096x4 1) (main_v17 : IVec S4096x4x128 1) : IVec S4096x4x128 1 × IVec S4096x4x128 1 × IVec S4096x4x128 1 × IVec S4096x4x128 1 × IVec S4096x4 1 × IVec S4096x4x128 1 × IVec S4096x4 1 × IVec S4096x4x128 1 :=
  let main_v18 : FVec F S4096x4 .f32 := Host.absf main_arg6
  let main_cst_5 : FVec F S_ .f32 := constant S_ .f32 0x7F800000#32
  let main_v19 : FVec F S4096x4 .f32 := broadcastInDim S4096x4 ![] bcast_S_S4096x4 main_cst_5
  let main_v20 : IVec S4096x4 1 := cmpf .olt main_v18 main_v19
  let main_v21 : FVec F S4096x4x128 .f32 := Host.absf main_arg7
  let main_cst_6 : FVec F S_ .f32 := constant S_ .f32 0x7F800000#32
  let main_v22 : FVec F S4096x4x128 .f32 := broadcastInDim S4096x4x128 ![] bcast_S_S4096x4x128 main_cst_6
  let main_v23 : IVec S4096x4x128 1 := cmpf .olt main_v21 main_v22
  (main_v2, main_v5, main_v8, main_v11, main_v14, main_v17, main_v20, main_v23)

def fn {F : FTy → Type} [FloatOps F] (main_arg0 : FVec F S4096x4x128 .f32) (main_arg1 : FVec F S4096x4x128 .f32) (main_arg2 : FVec F S4096x4x128 .f32) (main_arg3 : FVec F S4096x4x128 .f32) (main_arg4 : FVec F S4096x4 .f32) (main_arg5 : FVec F S4096x4x128 .f32) (main_arg6 : FVec F S4096x4 .f32) (main_arg7 : FVec F S4096x4x128 .f32) : IVec S4096x4x128 1 × IVec S4096x4x128 1 × IVec S4096x4x128 1 × IVec S4096x4x128 1 × IVec S4096x4 1 × IVec S4096x4x128 1 × IVec S4096x4 1 × IVec S4096x4x128 1 :=
  let main_v0 : FVec F S4096x4x128 .f32 := Host.absf main_arg0
  let main_cst : FVec F S_ .f32 := constant S_ .f32 0x7F800000#32
  let main_v1 : FVec F S4096x4x128 .f32 := broadcastInDim S4096x4x128 ![] bcast_S_S4096x4x128 main_cst
  let main_v2 : IVec S4096x4x128 1 := cmpf .olt main_v0 main_v1
  let main_v3 : FVec F S4096x4x128 .f32 := Host.absf main_arg1
  let main_cst_0 : FVec F S_ .f32 := constant S_ .f32 0x7F800000#32
  let main_v4 : FVec F S4096x4x128 .f32 := broadcastInDim S4096x4x128 ![] bcast_S_S4096x4x128 main_cst_0
  let main_v5 : IVec S4096x4x128 1 := cmpf .olt main_v3 main_v4
  let main_v6 : FVec F S4096x4x128 .f32 := Host.absf main_arg2
  let main_cst_1 : FVec F S_ .f32 := constant S_ .f32 0x7F800000#32
  let main_v7 : FVec F S4096x4x128 .f32 := broadcastInDim S4096x4x128 ![] bcast_S_S4096x4x128 main_cst_1
  let main_v8 : IVec S4096x4x128 1 := cmpf .olt main_v6 main_v7
  let main_v9 : FVec F S4096x4x128 .f32 := Host.absf main_arg3
  let main_cst_2 : FVec F S_ .f32 := constant S_ .f32 0x7F800000#32
  let main_v10 : FVec F S4096x4x128 .f32 := broadcastInDim S4096x4x128 ![] bcast_S_S4096x4x128 main_cst_2
  let main_v11 : IVec S4096x4x128 1 := cmpf .olt main_v9 main_v10
  let main_v12 : FVec F S4096x4 .f32 := Host.absf main_arg4
  let main_cst_3 : FVec F S_ .f32 := constant S_ .f32 0x7F800000#32
  let main_v13 : FVec F S4096x4 .f32 := broadcastInDim S4096x4 ![] bcast_S_S4096x4 main_cst_3
  let main_v14 : IVec S4096x4 1 := cmpf .olt main_v12 main_v13
  let main_v15 : FVec F S4096x4x128 .f32 := Host.absf main_arg5
  let main_cst_4 : FVec F S_ .f32 := constant S_ .f32 0x7F800000#32
  let main_v16 : FVec F S4096x4x128 .f32 := broadcastInDim S4096x4x128 ![] bcast_S_S4096x4x128 main_cst_4
  let main_v17 : IVec S4096x4x128 1 := cmpf .olt main_v15 main_v16
  fn_part1 (F := F) main_arg6 main_arg7 main_v2 main_v5 main_v8 main_v11 main_v14 main_v17
-- ==== Kernel.lean ====
abbrev S4096x4x128 : Shape := ⟨3, ![4096, 4, 128]⟩
abbrev S4096x4 : Shape := ⟨2, ![4096, 4]⟩
abbrev S1024x4x4x128 : Shape := ⟨4, ![1024, 4, 4, 128]⟩
abbrev S4x4x1024x128 : Shape := ⟨4, ![4, 4, 1024, 128]⟩
abbrev S16x1024x128 : Shape := ⟨3, ![16, 1024, 128]⟩
abbrev S4x1024x4x128 : Shape := ⟨4, ![4, 1024, 4, 128]⟩
abbrev S4x8x128x4x128 : Shape := ⟨5, ![4, 8, 128, 4, 128]⟩
abbrev S4x1x128x4x128 : Shape := ⟨5, ![4, 1, 128, 4, 128]⟩
abbrev S_ : Shape := ⟨0, ![]⟩
abbrev S4x7x128x4x128 : Shape := ⟨5, ![4, 7, 128, 4, 128]⟩
abbrev S4x8x256x4x128 : Shape := ⟨5, ![4, 8, 256, 4, 128]⟩
abbrev S4x8x4x128x256 : Shape := ⟨5, ![4, 8, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S8 : Shape := ⟨1, ![8]⟩
abbrev S8x1 : Shape := ⟨2, ![8, 1]⟩
abbrev S8x256 : Shape := ⟨2, ![8, 256]⟩
abbrev S1x128x256 : Shape := ⟨3, ![1, 128, 256]⟩
abbrev S8x1x256 : Shape := ⟨3, ![8, 1, 256]⟩
abbrev S8x128x256 : Shape := ⟨3, ![8, 128, 256]⟩
abbrev S1x8x1x128x256 : Shape := ⟨5, ![1, 8, 1, 128, 256]⟩
abbrev S4x8x4x128 : Shape := ⟨4, ![4, 8, 4, 128]⟩
abbrev S4x8x4x128x1 : Shape := ⟨5, ![4, 8, 4, 128, 1]⟩
abbrev S4x8x4x128x128 : Shape := ⟨5, ![4, 8, 4, 128, 128]⟩
abbrev S4x8x128x4 : Shape := ⟨4, ![4, 8, 128, 4]⟩
abbrev S4x1024x4 : Shape := ⟨3, ![4, 1024, 4]⟩
abbrev S1024x4x4 : Shape := ⟨3, ![1024, 4, 4]⟩
abbrev S4096x4x1 : Shape := ⟨3, ![4096, 4, 1]⟩
abbrev S16x128x128 : Shape := ⟨3, ![16, 128, 128]⟩
abbrev S128x128 : Shape := ⟨2, ![128, 128]⟩
abbrev S1x128x128 : Shape := ⟨3, ![1, 128, 128]⟩
abbrev S256x128 : Shape := ⟨2, ![256, 128]⟩

abbrev nBuf : Space → Nat
  | .hbm => 158
  | .vmem => 30
  | .smem => 0
  | _ => 0

abbrev hbmTy0_0 (i : Nat) : BufTy := match i % 128 with
  | 0 => ⟨S4096x4x128, .f32⟩
  | 1 => ⟨S4096x4x128, .f32⟩
  | 2 => ⟨S4096x4x128, .f32⟩
  | 3 => ⟨S4096x4x128, .f32⟩
  | 4 => ⟨S4096x4, .f32⟩
  | 5 => ⟨S4096x4x128, .f32⟩
  | 6 => ⟨S4096x4, .f32⟩
  | 7 => ⟨S4096x4x128, .f32⟩
  | 8 => ⟨S1024x4x4x128, .f32⟩
  | 9 => ⟨S4x4x1024x128, .f32⟩
  | 10 => ⟨S16x1024x128, .f32⟩
  | 11 => ⟨S16x1024x128, .bf16⟩
  | 12 => ⟨S1024x4x4x128, .f32⟩
  | 13 => ⟨S4x4x1024x128, .f32⟩
  | 14 => ⟨S16x1024x128, .f32⟩
  | 15 => ⟨S16x1024x128, .bf16⟩
  | 16 => ⟨S1024x4x4x128, .f32⟩
  | 17 => ⟨S4x4x1024x128, .f32⟩
  | 18 => ⟨S16x1024x128, .f32⟩
  | 19 => ⟨S16x1024x128, .bf16⟩
  | 20 => ⟨S1024x4x4x128, .f32⟩
  | 21 => ⟨S4x1024x4x128, .f32⟩
  | 22 => ⟨S4x8x128x4x128, .f32⟩
  | 23 => ⟨S1024x4x4x128, .f32⟩
  | 24 => ⟨S4x1024x4x128, .f32⟩
  | 25 => ⟨S4x8x128x4x128, .f32⟩
  | 26 => ⟨S4x1x128x4x128, .f32⟩
  | 27 => ⟨S_, .f32⟩
  | 28 => ⟨S4x1x128x4x128, .f32⟩
  | 29 => ⟨S4x7x128x4x128, .f32⟩
  | 30 => ⟨S4x8x128x4x128, .f32⟩
  | 31 => ⟨S4x8x256x4x128, .f32⟩
  | 32 => ⟨S1024x4x4x128, .f32⟩
  | 33 => ⟨S4x1024x4x128, .f32⟩
  | 34 => ⟨S4x8x128x4x128, .f32⟩
  | 35 => ⟨S4x1x128x4x128, .f32⟩
  | 36 => ⟨S_, .f32⟩
  | 37 => ⟨S4x1x128x4x128, .f32⟩
  | 38 => ⟨S4x7x128x4x128, .f32⟩
  | 39 => ⟨S4x8x128x4x128, .f32⟩
  | 40 => ⟨S4x8x256x4x128, .f32⟩
  | 41 => ⟨S4x8x4x128x256, .f32⟩
  | 42 => ⟨S_, .f32⟩
  | 43 => ⟨S4x8x4x128x256, .f32⟩
  | 44 => ⟨S4x8x4x128x256, .f32⟩
  | 45 => ⟨S128, .i32⟩
  | 46 => ⟨S128x1, .i32⟩
  | 47 => ⟨S256, .i32⟩
  | 48 => ⟨S1x256, .i32⟩
  | 49 => ⟨S_, .i32⟩
  | 50 => ⟨S128x1, .i32⟩
  | 51 => ⟨S128x1, .i32⟩
  | 52 => ⟨S128x256, .i32⟩
  | 53 => ⟨S128x256, .i32⟩
  | 54 => ⟨S128x256, .i32⟩
  | 55 => ⟨S_, .i32⟩
  | 56 => ⟨S128x256, .i32⟩
  | 57 => ⟨S128x256, .i1⟩
  | 58 => ⟨S_, .i32⟩
  | 59 => ⟨S128x256, .i32⟩
  | 60 => ⟨S128x256, .i1⟩
  | 61 => ⟨S128x256, .i1⟩
  | 62 => ⟨S8, .i32⟩
  | 63 => ⟨S8x1, .i32⟩
  | 64 => ⟨S_, .i32⟩
  | 65 => ⟨S8x1, .i32⟩
  | 66 => ⟨S8x1, .i1⟩
  | 67 => ⟨S256, .i32⟩
  | 68 => ⟨S1x256, .i32⟩
  | 69 => ⟨S_, .i32⟩
  | 70 => ⟨S1x256, .i32⟩
  | 71 => ⟨S1x256, .i1⟩
  | 72 => ⟨S8x256, .i1⟩
  | 73 => ⟨S8x256, .i1⟩
  | 74 => ⟨S8x256, .i1⟩
  | 75 => ⟨S1x128x256, .i1⟩
  | 76 => ⟨S8x1x256, .i1⟩
  | 77 => ⟨S8x128x256, .i1⟩
  | 78 => ⟨S8x128x256, .i1⟩
  | 79 => ⟨S8x128x256, .i1⟩
  | 80 => ⟨S1x8x1x128x256, .i1⟩
  | 81 => ⟨S_, .f32⟩
  | 82 => ⟨S_, .f32⟩
  | 83 => ⟨S4x8x4x128x256, .i1⟩
  | 84 => ⟨S4x8x4x128x256, .f32⟩
  | 85 => ⟨S4x8x4x128x256, .f32⟩
  | 86 => ⟨S_, .f32⟩
  | 87 => ⟨S4x8x4x128, .f32⟩
  | 88 => ⟨S4x8x4x128x1, .f32⟩
  | 89 => ⟨S4x8x4x128x256, .f32⟩
  | 90 => ⟨S4x8x4x128x256, .f32⟩
  | 91 => ⟨S4x8x4x128x256, .f32⟩
  | 92 => ⟨S_, .f32⟩
  | 93 => ⟨S4x8x4x128, .f32⟩
  | 94 => ⟨S4x8x4x128x1, .f32⟩
  | 95 => ⟨S4x8x4x128x256, .f32⟩
  | 96 => ⟨S4x8x4x128x256, .f32⟩
  | 97 => ⟨S1024x4x4x128, .f32⟩
  | 98 => ⟨S4x4x1024x128, .f32⟩
  | 99 => ⟨S16x1024x128, .f32⟩
  | 100 => ⟨S16x1024x128, .bf16⟩
  | 101 => ⟨S4x8x4x128x128, .f32⟩
  | 102 => ⟨S4x8x128x4x128, .f32⟩
  | 103 => ⟨S4x8x4x128x1, .f32⟩
  | 104 => ⟨S4x8x4x128x1, .f32⟩
  | 105 => ⟨S4x8x4x128, .f32⟩
  | 106 => ⟨S4x1024x4x128, .f32⟩
  | 107 => ⟨S1024x4x4x128, .f32⟩
  | 108 => ⟨S4096x4x128, .f32⟩
  | 109 => ⟨S4x8x128x4, .f32⟩
  | 110 => ⟨S4x1024x4, .f32⟩
  | 111 => ⟨S1024x4x4, .f32⟩
  | 112 => ⟨S4096x4, .f32⟩
  | 113 => ⟨S4096x4, .f32⟩
  | 114 => ⟨S4096x4, .f32⟩
  | 115 => ⟨S4096x4, .f32⟩
  | 116 => ⟨S4096x4, .f32⟩
  | 117 => ⟨S4096x4, .f32⟩
  | 118 => ⟨S4096x4, .f32⟩
  | 119 => ⟨S4096x4, .f32⟩
  | 120 => ⟨S4096x4, .f32⟩
  | 121 => ⟨S4096x4, .f32⟩
  | 122 => ⟨S4096x4, .f32⟩
  | 123 => ⟨S4096x4, .f32⟩
  | 124 => ⟨S4096x4, .f32⟩
  | 125 => ⟨S4096x4, .f32⟩
  | 126 => ⟨S4096x4, .f32⟩
  | 127 => ⟨S4096x4x1, .f32⟩
  | _ => ⟨S4096x4x128, .f32⟩

abbrev hbmTy0_1 (i : Nat) : BufTy := match i % 128 with
  | 0 => ⟨S4096x4x128, .f32⟩
  | 1 => ⟨S4096x4x128, .f32⟩
  | 2 => ⟨S4096x4, .f32⟩
  | 3 => ⟨S4096x4, .f32⟩
  | 4 => ⟨S4096x4x1, .f32⟩
  | 5 => ⟨S4096x4x128, .f32⟩
  | 6 => ⟨S4096x4x128, .f32⟩
  | 7 => ⟨S4096x4x128, .f32⟩
  | 8 => ⟨S4096x4, .f32⟩
  | 9 => ⟨S4096x4, .f32⟩
  | 10 => ⟨S4096x4x1, .f32⟩
  | 11 => ⟨S4096x4x128, .f32⟩
  | 12 => ⟨S4096x4x128, .f32⟩
  | 13 => ⟨S4096x4x128, .f32⟩
  | 14 => ⟨S4096x4x128, .f32⟩
  | 15 => ⟨S_, .f32⟩
  | 16 => ⟨S4096x4, .f32⟩
  | 17 => ⟨S4096x4x1, .f32⟩
  | 18 => ⟨S4096x4x128, .f32⟩
  | 19 => ⟨S1024x4x4x128, .f32⟩
  | 20 => ⟨S4x4x1024x128, .f32⟩
  | 21 => ⟨S16x1024x128, .f32⟩
  | 22 => ⟨S4096x4x1, .f32⟩
  | 23 => ⟨S4096x4x128, .f32⟩
  | 24 => ⟨S1024x4x4x128, .f32⟩
  | 25 => ⟨S4x4x1024x128, .f32⟩
  | 26 => ⟨S16x1024x128, .f32⟩
  | 27 => ⟨S16x1024x128, .bf16⟩
  | 28 => ⟨S16x1024x128, .bf16⟩
  | 29 => ⟨S16x1024x128, .bf16⟩
  | _ => ⟨S4096x4x128, .f32⟩

abbrev hbmTy (i : Nat) : BufTy := match i / 128 with
  | 0 => hbmTy0_0 i
  | 1 => hbmTy0_1 i
  | _ => ⟨S4096x4x128, .f32⟩

abbrev bufTy : (tb : Table) → Fin (tcTables nBuf tb) → BufTy
  | .hbm, ⟨i, _⟩ => hbmTy i
  | .local _ .vmem, ⟨0, _⟩ => ⟨S16x128x128, .bf16⟩
  | .local _ .vmem, ⟨1, _⟩ => ⟨S16x128x128, .bf16⟩
  | .local _ .vmem, ⟨2, _⟩ => ⟨S16x128x128, .bf16⟩
  | .local _ .vmem, ⟨3, _⟩ => ⟨S16x128x128, .bf16⟩
  | .local _ .vmem, ⟨4, _⟩ => ⟨S16x128x128, .bf16⟩
  | .local _ .vmem, ⟨5, _⟩ => ⟨S16x128x128, .bf16⟩
  | .local _ .vmem, ⟨6, _⟩ => ⟨S16x128x128, .bf16⟩
  | .local _ .vmem, ⟨7, _⟩ => ⟨S16x128x128, .bf16⟩
  | .local _ .vmem, ⟨8, _⟩ => ⟨S16x128x128, .bf16⟩
  | .local _ .vmem, ⟨9, _⟩ => ⟨S16x128x128, .bf16⟩
  | .local _ .vmem, ⟨10, _⟩ => ⟨S16x128x128, .bf16⟩
  | .local _ .vmem, ⟨11, _⟩ => ⟨S16x128x128, .bf16⟩
  | .local _ .vmem, ⟨12, _⟩ => ⟨S16x128x128, .bf16⟩
  | .local _ .vmem, ⟨13, _⟩ => ⟨S16x128x128, .bf16⟩
  | .local _ .vmem, ⟨14, _⟩ => ⟨S16x128x128, .bf16⟩
  | .local _ .vmem, ⟨15, _⟩ => ⟨S16x128x128, .bf16⟩
  | .local _ .vmem, ⟨16, _⟩ => ⟨S16x128x128, .f32⟩
  | .local _ .vmem, ⟨17, _⟩ => ⟨S16x128x128, .f32⟩
  | .local _ .vmem, ⟨18, _⟩ => ⟨S16x128x128, .f32⟩
  | .local _ .vmem, ⟨19, _⟩ => ⟨S16x128x128, .f32⟩
  | .local _ .vmem, ⟨20, _⟩ => ⟨S16x128x128, .f32⟩
  | .local _ .vmem, ⟨21, _⟩ => ⟨S16x128x128, .f32⟩
  | .local _ .vmem, ⟨22, _⟩ => ⟨S16x128x128, .f32⟩
  | .local _ .vmem, ⟨23, _⟩ => ⟨S16x128x128, .f32⟩
  | .local _ .vmem, ⟨24, _⟩ => ⟨S16x128x128, .bf16⟩
  | .local _ .vmem, ⟨25, _⟩ => ⟨S16x128x128, .bf16⟩
  | .local _ .vmem, ⟨26, _⟩ => ⟨S16x128x128, .bf16⟩
  | .local _ .vmem, ⟨27, _⟩ => ⟨S16x128x128, .bf16⟩
  | .local _ .vmem, ⟨28, _⟩ => ⟨S16x128x128, .bf16⟩
  | .local _ .vmem, ⟨29, _⟩ => ⟨S16x128x128, .bf16⟩
  | _, _ => ⟨S4096x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_0 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_1 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_c : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_c_2 : Ref sig .tc := ⟨.hbm, 55, rfl⟩
abbrev main_v43 : Ref sig .tc := ⟨.hbm, 56, rfl⟩
abbrev main_v44 : Ref sig .tc := ⟨.hbm, 57, rfl⟩
abbrev main_c_3 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_c_4 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_c_5 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_6 : Ref sig .tc := ⟨.hbm, 81, rfl⟩
abbrev main_call0_v0 : Ref sig .tc := ⟨.hbm, 82, rfl⟩
abbrev main_call0_v1 : Ref sig .tc := ⟨.hbm, 83, rfl⟩
abbrev main_call0_v2 : Ref sig .tc := ⟨.hbm, 84, rfl⟩
abbrev main_v65 : Ref sig .tc := ⟨.hbm, 85, rfl⟩
abbrev main_cst_7 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_8 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_cst_9 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132_0 : Ref sig .tc := ⟨.hbm, 155, rfl⟩
abbrev main_v132_1 : Ref sig .tc := ⟨.hbm, 156, rfl⟩
abbrev main_v132_2 : Ref sig .tc := ⟨.hbm, 157, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![1, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.muli v0 c1_i32_0
  let c7_i32 : BitVec 32 := 7#32
  let v2 : BitVec 32 := Scalar.minsi v1 c7_i32
  let c0_i32 : BitVec 32 := 0#32
  let c0_i32_1 : BitVec 32 := 0#32
  ![arg0.toNat, v2.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg1 c1_i32
  let c1_i32_0 : BitVec 32 := 1#32
  let v1 : BitVec 32 := Scalar.subi v0 c1_i32_0
  let c0_i32 : BitVec 32 := 0#32
  let v2 : BitVec 32 := Scalar.maxsi v1 c0_i32
  let c0_i32_1 : BitVec 32 := 0#32
  let c0_i32_2 : BitVec 32 := 0#32
  ![arg0.toNat, v2.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg1 c1_i32
  let c1_i32_0 : BitVec 32 := 1#32
  let v1 : BitVec 32 := Scalar.subi v0 c1_i32_0
  let c0_i32 : BitVec 32 := 0#32
  let v2 : BitVec 32 := Scalar.maxsi v1 c0_i32
  let c0_i32_1 : BitVec 32 := 0#32
  let c0_i32_2 : BitVec 32 := 0#32
  ![arg0.toNat, v2.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.muli v0 c1_i32_0
  let c7_i32 : BitVec 32 := 7#32
  let v2 : BitVec 32 := Scalar.minsi v1 c7_i32
  let c0_i32 : BitVec 32 := 0#32
  let c0_i32_1 : BitVec 32 := 0#32
  ![arg0.toNat, v2.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.muli v0 c1_i32_0
  let c7_i32 : BitVec 32 := 7#32
  let v2 : BitVec 32 := Scalar.minsi v1 c7_i32
  let c0_i32 : BitVec 32 := 0#32
  let c0_i32_1 : BitVec 32 := 0#32
  ![arg0.toNat, v2.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.muli v0 c1_i32_0
  let c7_i32 : BitVec 32 := 7#32
  let v2 : BitVec 32 := Scalar.minsi v1 c7_i32
  let c0_i32 : BitVec 32 := 0#32
  let c0_i32_1 : BitVec 32 := 0#32
  ![arg0.toNat, v2.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S16x128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S16x128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S16x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S16x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S16x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S16x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S16x128x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S16x128x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S16x128x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== ReferenceIdeal.lean ====
abbrev S4096x4x128 : Shape := ⟨3, ![4096, 4, 128]⟩
abbrev S4096x4 : Shape := ⟨2, ![4096, 4]⟩
abbrev S1024x4x4x128 : Shape := ⟨4, ![1024, 4, 4, 128]⟩
abbrev S4x1024x4x128 : Shape := ⟨4, ![4, 1024, 4, 128]⟩
abbrev S4x8x128x4x128 : Shape := ⟨5, ![4, 8, 128, 4, 128]⟩
abbrev S4x1x128x4x128 : Shape := ⟨5, ![4, 1, 128, 4, 128]⟩
abbrev S_ : Shape := ⟨0, ![]⟩
abbrev S4x7x128x4x128 : Shape := ⟨5, ![4, 7, 128, 4, 128]⟩
abbrev S4x8x256x4x128 : Shape := ⟨5, ![4, 8, 256, 4, 128]⟩
abbrev S4x8x4x128x256 : Shape := ⟨5, ![4, 8, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S8 : Shape := ⟨1, ![8]⟩
abbrev S8x1 : Shape := ⟨2, ![8, 1]⟩
abbrev S8x256 : Shape := ⟨2, ![8, 256]⟩
abbrev S1x128x256 : Shape := ⟨3, ![1, 128, 256]⟩
abbrev S8x1x256 : Shape := ⟨3, ![8, 1, 256]⟩
abbrev S8x128x256 : Shape := ⟨3, ![8, 128, 256]⟩
abbrev S1x8x1x128x256 : Shape := ⟨5, ![1, 8, 1, 128, 256]⟩
abbrev S4x8x4x128 : Shape := ⟨4, ![4, 8, 4, 128]⟩
abbrev S4x8x4x128x1 : Shape := ⟨5, ![4, 8, 4, 128, 1]⟩
abbrev S4x8x4x128x128 : Shape := ⟨5, ![4, 8, 4, 128, 128]⟩
abbrev S4x8x128x4 : Shape := ⟨4, ![4, 8, 128, 4]⟩
abbrev S4x1024x4 : Shape := ⟨3, ![4, 1024, 4]⟩
abbrev S1024x4x4 : Shape := ⟨3, ![1024, 4, 4]⟩
abbrev S4096x4x1 : Shape := ⟨3, ![4096, 4, 1]⟩
abbrev S4x8x4x256x128 : Shape := ⟨5, ![4, 8, 4, 256, 128]⟩
abbrev S4x4x1024x128 : Shape := ⟨4, ![4, 4, 1024, 128]⟩
abbrev S16x1024x128 : Shape := ⟨3, ![16, 1024, 128]⟩

abbrev nBuf : Space → Nat
  | .hbm => 289
  | .vmem => 0
  | .smem => 0
  | _ => 0

abbrev hbmTy0_0 (i : Nat) : BufTy := match i % 128 with
  | 0 => ⟨S4096x4x128, .f32⟩
  | 1 => ⟨S4096x4x128, .f32⟩
  | 2 => ⟨S4096x4x128, .f32⟩
  | 3 => ⟨S4096x4x128, .f32⟩
  | 4 => ⟨S4096x4, .f32⟩
  | 5 => ⟨S4096x4x128, .f32⟩
  | 6 => ⟨S4096x4, .f32⟩
  | 7 => ⟨S4096x4x128, .f32⟩
  | 8 => ⟨S1024x4x4x128, .f32⟩
  | 9 => ⟨S4x1024x4x128, .f32⟩
  | 10 => ⟨S4x8x128x4x128, .f32⟩
  | 11 => ⟨S1024x4x4x128, .f32⟩
  | 12 => ⟨S4x1024x4x128, .f32⟩
  | 13 => ⟨S4x8x128x4x128, .f32⟩
  | 14 => ⟨S4x1x128x4x128, .f32⟩
  | 15 => ⟨S_, .f32⟩
  | 16 => ⟨S4x1x128x4x128, .f32⟩
  | 17 => ⟨S4x7x128x4x128, .f32⟩
  | 18 => ⟨S4x8x128x4x128, .f32⟩
  | 19 => ⟨S_, .f32⟩
  | 20 => ⟨S4x1x128x4x128, .f32⟩
  | 21 => ⟨S4x8x256x4x128, .f32⟩
  | 22 => ⟨S1024x4x4x128, .f32⟩
  | 23 => ⟨S4x1024x4x128, .f32⟩
  | 24 => ⟨S4x8x128x4x128, .f32⟩
  | 25 => ⟨S4x1x128x4x128, .f32⟩
  | 26 => ⟨S_, .f32⟩
  | 27 => ⟨S4x1x128x4x128, .f32⟩
  | 28 => ⟨S4x7x128x4x128, .f32⟩
  | 29 => ⟨S4x8x128x4x128, .f32⟩
  | 30 => ⟨S_, .f32⟩
  | 31 => ⟨S4x1x128x4x128, .f32⟩
  | 32 => ⟨S4x8x256x4x128, .f32⟩
  | 33 => ⟨S4x8x4x128x256, .f32⟩
  | 34 => ⟨S_, .f32⟩
  | 35 => ⟨S4x8x4x128x256, .f32⟩
  | 36 => ⟨S4x8x4x128x256, .f32⟩
  | 37 => ⟨S128, .i32⟩
  | 38 => ⟨S128x1, .i32⟩
  | 39 => ⟨S256, .i32⟩
  | 40 => ⟨S1x256, .i32⟩
  | 41 => ⟨S_, .i32⟩
  | 42 => ⟨S128x1, .i32⟩
  | 43 => ⟨S128x1, .i32⟩
  | 44 => ⟨S128x256, .i32⟩
  | 45 => ⟨S128x256, .i32⟩
  | 46 => ⟨S128x256, .i32⟩
  | 47 => ⟨S_, .i32⟩
  | 48 => ⟨S128x256, .i32⟩
  | 49 => ⟨S128x256, .i1⟩
  | 50 => ⟨S_, .i32⟩
  | 51 => ⟨S128x256, .i32⟩
  | 52 => ⟨S128x256, .i1⟩
  | 53 => ⟨S128x256, .i1⟩
  | 54 => ⟨S8, .i32⟩
  | 55 => ⟨S8x1, .i32⟩
  | 56 => ⟨S_, .i32⟩
  | 57 => ⟨S8x1, .i32⟩
  | 58 => ⟨S8x1, .i1⟩
  | 59 => ⟨S256, .i32⟩
  | 60 => ⟨S1x256, .i32⟩
  | 61 => ⟨S_, .i32⟩
  | 62 => ⟨S1x256, .i32⟩
  | 63 => ⟨S1x256, .i1⟩
  | 64 => ⟨S8x256, .i1⟩
  | 65 => ⟨S8x256, .i1⟩
  | 66 => ⟨S8x256, .i1⟩
  | 67 => ⟨S1x128x256, .i1⟩
  | 68 => ⟨S8x1x256, .i1⟩
  | 69 => ⟨S8x128x256, .i1⟩
  | 70 => ⟨S8x128x256, .i1⟩
  | 71 => ⟨S8x128x256, .i1⟩
  | 72 => ⟨S1x8x1x128x256, .i1⟩
  | 73 => ⟨S_, .f32⟩
  | 74 => ⟨S_, .f32⟩
  | 75 => ⟨S4x8x4x128x256, .i1⟩
  | 76 => ⟨S4x8x4x128x256, .f32⟩
  | 77 => ⟨S4x8x4x128x256, .f32⟩
  | 78 => ⟨S_, .f32⟩
  | 79 => ⟨S4x8x4x128x256, .f32⟩
  | 80 => ⟨S_, .f32⟩
  | 81 => ⟨S4x8x4x128, .f32⟩
  | 82 => ⟨S4x8x4x128x1, .f32⟩
  | 83 => ⟨S4x8x4x128x256, .f32⟩
  | 84 => ⟨S4x8x4x128x256, .i1⟩
  | 85 => ⟨S4x8x4x128x256, .f32⟩
  | 86 => ⟨S_, .f32⟩
  | 87 => ⟨S4x8x4x128, .f32⟩
  | 88 => ⟨S4x8x4x128x1, .f32⟩
  | 89 => ⟨S4x8x4x128x256, .f32⟩
  | 90 => ⟨S4x8x4x128x256, .f32⟩
  | 91 => ⟨S4x8x4x128x256, .f32⟩
  | 92 => ⟨S_, .f32⟩
  | 93 => ⟨S4x8x4x128, .f32⟩
  | 94 => ⟨S4x8x4x128x1, .f32⟩
  | 95 => ⟨S4x8x4x128x256, .f32⟩
  | 96 => ⟨S4x8x4x128x256, .f32⟩
  | 97 => ⟨S4x8x4x128x1, .f32⟩
  | 98 => ⟨S_, .f32⟩
  | 99 => ⟨S4x8x4x128x1, .f32⟩
  | 100 => ⟨S4x8x4x128x1, .f32⟩
  | 101 => ⟨S4x8x4x128x128, .f32⟩
  | 102 => ⟨S4x8x128x4x128, .f32⟩
  | 103 => ⟨S4x8x4x128x1, .f32⟩
  | 104 => ⟨S4x8x4x128x1, .f32⟩
  | 105 => ⟨S4x8x4x128, .f32⟩
  | 106 => ⟨S4x1024x4x128, .f32⟩
  | 107 => ⟨S1024x4x4x128, .f32⟩
  | 108 => ⟨S4096x4x128, .f32⟩
  | 109 => ⟨S4x8x128x4, .f32⟩
  | 110 => ⟨S4x1024x4, .f32⟩
  | 111 => ⟨S1024x4x4, .f32⟩
  | 112 => ⟨S4096x4, .f32⟩
  | 113 => ⟨S4096x4, .f32⟩
  | 114 => ⟨S4096x4, .i1⟩
  | 115 => ⟨S4096x4, .i1⟩
  | 116 => ⟨S_, .f32⟩
  | 117 => ⟨S4096x4, .f32⟩
  | 118 => ⟨S_, .f32⟩
  | 119 => ⟨S4096x4, .f32⟩
  | 120 => ⟨S_, .f32⟩
  | 121 => ⟨S4096x4, .f32⟩
  | 122 => ⟨S4096x4, .f32⟩
  | 123 => ⟨S4096x4, .f32⟩
  | 124 => ⟨S4096x4, .f32⟩
  | 125 => ⟨S4096x4, .i1⟩
  | 126 => ⟨S4096x4, .i1⟩
  | 127 => ⟨S_, .f32⟩
  | _ => ⟨S4096x4x128, .f32⟩

abbrev hbmTy0_1 (i : Nat) : BufTy := match i % 128 with
  | 0 => ⟨S4096x4, .f32⟩
  | 1 => ⟨S_, .f32⟩
  | 2 => ⟨S4096x4, .f32⟩
  | 3 => ⟨S_, .f32⟩
  | 4 => ⟨S4096x4, .f32⟩
  | 5 => ⟨S4096x4, .f32⟩
  | 6 => ⟨S4096x4, .f32⟩
  | 7 => ⟨S4096x4, .f32⟩
  | 8 => ⟨S4096x4, .f32⟩
  | 9 => ⟨S4096x4, .f32⟩
  | 10 => ⟨S4096x4, .f32⟩
  | 11 => ⟨S4096x4, .f32⟩
  | 12 => ⟨S4096x4, .f32⟩
  | 13 => ⟨S4096x4, .f32⟩
  | 14 => ⟨S4096x4, .f32⟩
  | 15 => ⟨S4096x4, .f32⟩
  | 16 => ⟨S4096x4, .f32⟩
  | 17 => ⟨S_, .f32⟩
  | 18 => ⟨S4096x4, .f32⟩
  | 19 => ⟨S4096x4, .f32⟩
  | 20 => ⟨S4096x4x1, .f32⟩
  | 21 => ⟨S4096x4x128, .f32⟩
  | 22 => ⟨S4096x4x128, .f32⟩
  | 23 => ⟨S4096x4, .f32⟩
  | 24 => ⟨S4096x4, .f32⟩
  | 25 => ⟨S_, .f32⟩
  | 26 => ⟨S4096x4, .f32⟩
  | 27 => ⟨S4096x4, .f32⟩
  | 28 => ⟨S4096x4x1, .f32⟩
  | 29 => ⟨S4096x4x128, .f32⟩
  | 30 => ⟨S4096x4x128, .f32⟩
  | 31 => ⟨S4096x4x128, .f32⟩
  | 32 => ⟨S4096x4, .f32⟩
  | 33 => ⟨S4096x4, .f32⟩
  | 34 => ⟨S_, .f32⟩
  | 35 => ⟨S4096x4, .f32⟩
  | 36 => ⟨S4096x4, .f32⟩
  | 37 => ⟨S4096x4x1, .f32⟩
  | 38 => ⟨S4096x4x128, .f32⟩
  | 39 => ⟨S4096x4x128, .f32⟩
  | 40 => ⟨S4096x4x128, .f32⟩
  | 41 => ⟨S4096x4x128, .f32⟩
  | 42 => ⟨S4096x4x128, .f32⟩
  | 43 => ⟨S4096x4x128, .f32⟩
  | 44 => ⟨S_, .f32⟩
  | 45 => ⟨S4096x4, .f32⟩
  | 46 => ⟨S4096x4x1, .f32⟩
  | 47 => ⟨S_, .f32⟩
  | 48 => ⟨S4096x4, .f32⟩
  | 49 => ⟨S4096x4, .f32⟩
  | 50 => ⟨S4096x4, .f32⟩
  | 51 => ⟨S4096x4, .f32⟩
  | 52 => ⟨S4096x4x128, .f32⟩
  | 53 => ⟨S4096x4x128, .f32⟩
  | 54 => ⟨S4096x4x128, .f32⟩
  | 55 => ⟨S_, .f32⟩
  | 56 => ⟨S4096x4, .f32⟩
  | 57 => ⟨S4096x4x1, .f32⟩
  | 58 => ⟨S_, .f32⟩
  | 59 => ⟨S4096x4, .f32⟩
  | 60 => ⟨S4096x4, .f32⟩
  | 61 => ⟨S4096x4, .f32⟩
  | 62 => ⟨S4096x4, .f32⟩
  | 63 => ⟨S4096x4, .f32⟩
  | 64 => ⟨S4096x4, .f32⟩
  | 65 => ⟨S4096x4, .f32⟩
  | 66 => ⟨S4096x4x128, .f32⟩
  | 67 => ⟨S_, .f32⟩
  | 68 => ⟨S4096x4, .f32⟩
  | 69 => ⟨S4096x4x1, .f32⟩
  | 70 => ⟨S_, .f32⟩
  | 71 => ⟨S4096x4, .f32⟩
  | 72 => ⟨S4096x4, .f32⟩
  | 73 => ⟨S4096x4, .f32⟩
  | 74 => ⟨S4096x4, .f32⟩
  | 75 => ⟨S4096x4, .f32⟩
  | 76 => ⟨S4096x4, .f32⟩
  | 77 => ⟨S1024x4x4, .f32⟩
  | 78 => ⟨S4x1024x4, .f32⟩
  | 79 => ⟨S4x8x128x4, .f32⟩
  | 80 => ⟨S4x8x4x128, .f32⟩
  | 81 => ⟨S1024x4x4x128, .f32⟩
  | 82 => ⟨S4x1024x4x128, .f32⟩
  | 83 => ⟨S4x8x128x4x128, .f32⟩
  | 84 => ⟨S4x8x4x128x1, .f32⟩
  | 85 => ⟨S4x8x4x128x1, .f32⟩
  | 86 => ⟨S4x8x4x128x128, .f32⟩
  | 87 => ⟨S4x8x4x128x256, .f32⟩
  | 88 => ⟨S4x8x4x128x256, .f32⟩
  | 89 => ⟨S4x8x256x4x128, .f32⟩
  | 90 => ⟨S4x8x4x128x256, .f32⟩
  | 91 => ⟨S4x8x4x128x256, .f32⟩
  | 92 => ⟨S4x8x4x128x256, .f32⟩
  | 93 => ⟨S_, .f32⟩
  | 94 => ⟨S4x8x4x128, .f32⟩
  | 95 => ⟨S4x8x4x128x1, .f32⟩
  | 96 => ⟨S4x8x4x128x1, .f32⟩
  | 97 => ⟨S4x8x4x128x1, .f32⟩
  | 98 => ⟨S4x8x4x128x256, .f32⟩
  | 99 => ⟨S4x8x4x128x256, .f32⟩
  | 100 => ⟨S_, .f32⟩
  | 101 => ⟨S4x8x4x128, .f32⟩
  | 102 => ⟨S4x8x4x128x256, .f32⟩
  | 103 => ⟨S4x8x4x128x256, .f32⟩
  | 104 => ⟨S4x8x4x128x256, .f32⟩
  | 105 => ⟨S4x8x4x128x256, .f32⟩
  | 106 => ⟨S_, .f32⟩
  | 107 => ⟨S4x8x4x128, .f32⟩
  | 108 => ⟨S4x8x4x128x1, .f32⟩
  | 109 => ⟨S4x8x4x128x1, .f32⟩
  | 110 => ⟨S_, .f32⟩
  | 111 => ⟨S4x8x4x128, .f32⟩
  | 112 => ⟨S4x8x4x128, .f32⟩
  | 113 => ⟨S4x8x4x128x256, .f32⟩
  | 114 => ⟨S4x8x4x128x256, .f32⟩
  | 115 => ⟨S4x8x4x128x256, .f32⟩
  | 116 => ⟨S_, .f32⟩
  | 117 => ⟨S4x8x4x128x256, .f32⟩
  | 118 => ⟨S4x8x4x128x256, .f32⟩
  | 119 => ⟨S_, .f32⟩
  | 120 => ⟨S4x8x4x128x256, .f32⟩
  | 121 => ⟨S4x8x4x128x256, .f32⟩
  | 122 => ⟨S4x8x4x256x128, .f32⟩
  | 123 => ⟨S4x8x256x4x128, .f32⟩
  | 124 => ⟨S4x8x4x128x128, .f32⟩
  | 125 => ⟨S4x8x128x4x128, .f32⟩
  | 126 => ⟨S4x8x128x4x128, .f32⟩
  | 127 => ⟨S4x8x128x4x128, .f32⟩
  | _ => ⟨S4096x4x128, .f32⟩

abbrev hbmTy0_2 (i : Nat) : BufTy := match i % 128 with
  | 0 => ⟨S4x1x128x4x128, .f32⟩
  | 1 => ⟨S4x7x128x4x128, .f32⟩
  | 2 => ⟨S_, .f32⟩
  | 3 => ⟨S4x8x128x4x128, .f32⟩
  | 4 => ⟨S4x8x128x4x128, .f32⟩
  | 5 => ⟨S4x1024x4x128, .f32⟩
  | 6 => ⟨S1024x4x4x128, .f32⟩
  | 7 => ⟨S4096x4x128, .f32⟩
  | 8 => ⟨S4x8x128x4x128, .f32⟩
  | 9 => ⟨S4x8x128x4x128, .f32⟩
  | 10 => ⟨S4x1x128x4x128, .f32⟩
  | 11 => ⟨S4x7x128x4x128, .f32⟩
  | 12 => ⟨S_, .f32⟩
  | 13 => ⟨S4x8x128x4x128, .f32⟩
  | 14 => ⟨S4x8x128x4x128, .f32⟩
  | 15 => ⟨S4x1024x4x128, .f32⟩
  | 16 => ⟨S1024x4x4x128, .f32⟩
  | 17 => ⟨S4096x4x128, .f32⟩
  | 18 => ⟨S4x1024x4x128, .f32⟩
  | 19 => ⟨S1024x4x4x128, .f32⟩
  | 20 => ⟨S4096x4x128, .f32⟩
  | 21 => ⟨S1024x4x4x128, .f32⟩
  | 22 => ⟨S4x4x1024x128, .f32⟩
  | 23 => ⟨S16x1024x128, .f32⟩
  | 24 => ⟨S16x1024x128, .bf16⟩
  | 25 => ⟨S1024x4x4x128, .f32⟩
  | 26 => ⟨S4x4x1024x128, .f32⟩
  | 27 => ⟨S16x1024x128, .f32⟩
  | 28 => ⟨S16x1024x128, .bf16⟩
  | 29 => ⟨S1024x4x4x128, .f32⟩
  | 30 => ⟨S4x4x1024x128, .f32⟩
  | 31 => ⟨S16x1024x128, .f32⟩
  | 32 => ⟨S16x1024x128, .bf16⟩
  | _ => ⟨S4096x4x128, .f32⟩

abbrev hbmTy (i : Nat) : BufTy := match i / 128 with
  | 0 => hbmTy0_0 i
  | 1 => hbmTy0_1 i
  | 2 => hbmTy0_2 i
  | _ => ⟨S4096x4x128, .f32⟩

abbrev bufTy : (tb : Table) → Fin (tcTables nBuf tb) → BufTy
  | .hbm, ⟨i, _⟩ => hbmTy i
  | _, _ => ⟨S4096x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_4 : Ref sig .tc := ⟨.hbm, 47, rfl⟩
abbrev main_v33 : Ref sig .tc := ⟨.hbm, 48, rfl⟩
abbrev main_v34 : Ref sig .tc := ⟨.hbm, 49, rfl⟩
abbrev main_c_5 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_c_6 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_7 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_8 : Ref sig .tc := ⟨.hbm, 73, rfl⟩
abbrev main_call0_v0 : Ref sig .tc := ⟨.hbm, 74, rfl⟩
abbrev main_v55_1 : Ref sig .tc := ⟨.hbm, 75, rfl⟩
abbrev main_call0_v2 : Ref sig .tc := ⟨.hbm, 76, rfl⟩
abbrev main_v55_0 : Ref sig .tc := ⟨.hbm, 77, rfl⟩
abbrev main_call0_cst : Ref sig .tc := ⟨.hbm, 78, rfl⟩
abbrev main_v55_2 : Ref sig .tc := ⟨.hbm, 79, rfl⟩
abbrev main_cst_9 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_10 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_11 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_12 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_cst_13 : Ref sig .tc := ⟨.hbm, 116, rfl⟩
abbrev main_v88 : Ref sig .tc := ⟨.hbm, 117, rfl⟩
abbrev main_cst_14 : Ref sig .tc := ⟨.hbm, 118, rfl⟩
abbrev main_v89 : Ref sig .tc := ⟨.hbm, 119, rfl⟩
abbrev main_cst_15 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_cst_16 : Ref sig .tc := ⟨.hbm, 127, rfl⟩
abbrev main_v96 : Ref sig .tc := ⟨.hbm, 128, rfl⟩
abbrev main_cst_17 : Ref sig .tc := ⟨.hbm, 129, rfl⟩
abbrev main_v97 : Ref sig .tc := ⟨.hbm, 130, rfl⟩
abbrev main_cst_18 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_cst_19 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_cst_20 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_cst_21 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_cst_22 : Ref sig .tc := ⟨.hbm, 172, rfl⟩
abbrev main_v135 : Ref sig .tc := ⟨.hbm, 173, rfl⟩
abbrev main_v136 : Ref sig .tc := ⟨.hbm, 174, rfl⟩
abbrev main_cst_23 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_cst_24 : Ref sig .tc := ⟨.hbm, 183, rfl⟩
abbrev main_v144 : Ref sig .tc := ⟨.hbm, 184, rfl⟩
abbrev main_v145 : Ref sig .tc := ⟨.hbm, 185, rfl⟩
abbrev main_cst_25 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_cst_26 : Ref sig .tc := ⟨.hbm, 195, rfl⟩
abbrev main_v154 : Ref sig .tc := ⟨.hbm, 196, rfl⟩
abbrev main_v155 : Ref sig .tc := ⟨.hbm, 197, rfl⟩
abbrev main_cst_27 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_cst_28 : Ref sig .tc := ⟨.hbm, 221, rfl⟩
abbrev main_v178 : Ref sig .tc := ⟨.hbm, 222, rfl⟩
abbrev main_v179 : Ref sig .tc := ⟨.hbm, 223, rfl⟩
abbrev main_v180 : Ref sig .tc := ⟨.hbm, 224, rfl⟩
abbrev main_v181 : Ref sig .tc := ⟨.hbm, 225, rfl⟩
abbrev main_v182 : Ref sig .tc := ⟨.hbm, 226, rfl⟩
abbrev main_v183 : Ref sig .tc := ⟨.hbm, 227, rfl⟩
abbrev main_cst_29 : Ref sig .tc := ⟨.hbm, 228, rfl⟩
abbrev main_v184 : Ref sig .tc := ⟨.hbm, 229, rfl⟩
abbrev main_v185 : Ref sig .tc := ⟨.hbm, 230, rfl⟩
abbrev main_v186 : Ref sig .tc := ⟨.hbm, 231, rfl⟩
abbrev main_v187 : Ref sig .tc := ⟨.hbm, 232, rfl⟩
abbrev main_v188 : Ref sig .tc := ⟨.hbm, 233, rfl⟩
abbrev main_cst_30 : Ref sig .tc := ⟨.hbm, 234, rfl⟩
abbrev main_v189 : Ref sig .tc := ⟨.hbm, 235, rfl⟩
abbrev main_v190 : Ref sig .tc := ⟨.hbm, 236, rfl⟩
abbrev main_v191 : Ref sig .tc := ⟨.hbm, 237, rfl⟩
abbrev main_cst_31 : Ref sig .tc := ⟨.hbm, 238, rfl⟩
abbrev main_v192 : Ref sig .tc := ⟨.hbm, 239, rfl⟩
abbrev main_v193 : Ref sig .tc := ⟨.hbm, 240, rfl⟩
abbrev main_v194 : Ref sig .tc := ⟨.hbm, 241, rfl⟩
abbrev main_v195 : Ref sig .tc := ⟨.hbm, 242, rfl⟩
abbrev main_v196 : Ref sig .tc := ⟨.hbm, 243, rfl⟩
abbrev main_call1_cst : Ref sig .tc := ⟨.hbm, 244, rfl⟩
abbrev main_call1_v0 : Ref sig .tc := ⟨.hbm, 245, rfl⟩
abbrev main_v197 : Ref sig .tc := ⟨.hbm, 246, rfl⟩
abbrev main_cst_32 : Ref sig .tc := ⟨.hbm, 247, rfl⟩
abbrev main_v198 : Ref sig .tc := ⟨.hbm, 248, rfl⟩
abbrev main_v199 : Ref sig .tc := ⟨.hbm, 249, rfl⟩
abbrev main_v200 : Ref sig .tc := ⟨.hbm, 250, rfl⟩
abbrev main_v201 : Ref sig .tc := ⟨.hbm, 251, rfl⟩
abbrev main_v202 : Ref sig .tc := ⟨.hbm, 252, rfl⟩
abbrev main_v203 : Ref sig .tc := ⟨.hbm, 253, rfl⟩
abbrev main_v204 : Ref sig .tc := ⟨.hbm, 254, rfl⟩
abbrev main_v205 : Ref sig .tc := ⟨.hbm, 255, rfl⟩
abbrev main_v206 : Ref sig .tc := ⟨.hbm, 256, rfl⟩
abbrev main_v207 : Ref sig .tc := ⟨.hbm, 257, rfl⟩
abbrev main_cst_33 : Ref sig .tc := ⟨.hbm, 258, rfl⟩
abbrev main_v208 : Ref sig .tc := ⟨.hbm, 259, rfl⟩
abbrev main_v209 : Ref sig .tc := ⟨.hbm, 260, rfl⟩
abbrev main_v210 : Ref sig .tc := ⟨.hbm, 261, rfl⟩
abbrev main_v211 : Ref sig .tc := ⟨.hbm, 262, rfl⟩
abbrev main_v212 : Ref sig .tc := ⟨.hbm, 263, rfl⟩
abbrev main_v213 : Ref sig .tc := ⟨.hbm, 264, rfl⟩
abbrev main_v214 : Ref sig .tc := ⟨.hbm, 265, rfl⟩
abbrev main_v215 : Ref sig .tc := ⟨.hbm, 266, rfl⟩
abbrev main_v216 : Ref sig .tc := ⟨.hbm, 267, rfl⟩
abbrev main_cst_34 : Ref sig .tc := ⟨.hbm, 268, rfl⟩
abbrev main_v217 : Ref sig .tc := ⟨.hbm, 269, rfl⟩
abbrev main_v218 : Ref sig .tc := ⟨.hbm, 270, rfl⟩
abbrev main_v219 : Ref sig .tc := ⟨.hbm, 271, rfl⟩
abbrev main_v220 : Ref sig .tc := ⟨.hbm, 272, rfl⟩
abbrev main_v221 : Ref sig .tc := ⟨.hbm, 273, rfl⟩
abbrev main_v222 : Ref sig .tc := ⟨.hbm, 274, rfl⟩
abbrev main_v223 : Ref sig .tc := ⟨.hbm, 275, rfl⟩
abbrev main_v224 : Ref sig .tc := ⟨.hbm, 276, rfl⟩
abbrev main_v225 : Ref sig .tc := ⟨.hbm, 277, rfl⟩
abbrev main_v226 : Ref sig .tc := ⟨.hbm, 278, rfl⟩
abbrev main_v227 : Ref sig .tc := ⟨.hbm, 279, rfl⟩
abbrev main_v228 : Ref sig .tc := ⟨.hbm, 280, rfl⟩
abbrev main_v229 : Ref sig .tc := ⟨.hbm, 281, rfl⟩
abbrev main_v230 : Ref sig .tc := ⟨.hbm, 282, rfl⟩
abbrev main_v231 : Ref sig .tc := ⟨.hbm, 283, rfl⟩
abbrev main_v232 : Ref sig .tc := ⟨.hbm, 284, rfl⟩
abbrev main_v233 : Ref sig .tc := ⟨.hbm, 285, rfl⟩
abbrev main_v234 : Ref sig .tc := ⟨.hbm, 286, rfl⟩
abbrev main_v235 : Ref sig .tc := ⟨.hbm, 287, rfl⟩
abbrev main_v236 : Ref sig .tc := ⟨.hbm, 288, rfl⟩

abbrev nD : Nat := 1
abbrev τ : Topo := Topo.v7x

variable {F : FTy → Type} [FloatOps F]
-- ==== Kernel2.lean ====
abbrev S4096x1024 : Shape := ⟨2, ![4096, 1024]⟩
abbrev S1024x10752 : Shape := ⟨2, ![1024, 10752]⟩
abbrev S4096x10752 : Shape := ⟨2, ![4096, 10752]⟩
abbrev S1024x4096 : Shape := ⟨2, ![1024, 4096]⟩
abbrev S4x1024x2688 : Shape := ⟨3, ![4, 1024, 2688]⟩
abbrev S4096x896 : Shape := ⟨2, ![4096, 896]⟩
abbrev S1x1024x896 : Shape := ⟨3, ![1, 1024, 896]⟩
abbrev S1024x896 : Shape := ⟨2, ![1024, 896]⟩

abbrev nBuf : Space → Nat
  | .hbm => 7
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x10752, .f32⟩
  | .hbm, ⟨2, _⟩ => ⟨S4096x10752, .f32⟩
  | .hbm, ⟨3, _⟩ => ⟨S1024x4096, .f32⟩
  | .hbm, ⟨4, _⟩ => ⟨S1024x4096, .bf16⟩
  | .hbm, ⟨5, _⟩ => ⟨S4096x10752, .bf16⟩
  | .hbm, ⟨6, _⟩ => ⟨S4x1024x2688, .bf16⟩
  | .local _ .vmem, ⟨0, _⟩ => ⟨S1024x4096, .bf16⟩
  | .local _ .vmem, ⟨1, _⟩ => ⟨S4096x896, .bf16⟩
  | .local _ .vmem, ⟨2, _⟩ => ⟨S4096x896, .bf16⟩
  | .local _ .vmem, ⟨3, _⟩ => ⟨S1x1024x896, .bf16⟩
  | .local _ .vmem, ⟨4, _⟩ => ⟨S1x1024x896, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S4096x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S4096x1024 : Shape := ⟨2, ![4096, 1024]⟩
abbrev S1024x10752 : Shape := ⟨2, ![1024, 10752]⟩
abbrev S4096x10752 : Shape := ⟨2, ![4096, 10752]⟩
abbrev S10752x1024 : Shape := ⟨2, ![10752, 1024]⟩
abbrev S1024x2688 : Shape := ⟨2, ![1024, 2688]⟩
abbrev S1x1024x2688 : Shape := ⟨3, ![1, 1024, 2688]⟩
abbrev S4x1024x2688 : Shape := ⟨3, ![4, 1024, 2688]⟩

abbrev nBuf : Space → Nat
  | .hbm => 16
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x10752, .f32⟩
  | .hbm, ⟨2, _⟩ => ⟨S4096x10752, .f32⟩
  | .hbm, ⟨3, _⟩ => ⟨S4096x10752, .f32⟩
  | .hbm, ⟨4, _⟩ => ⟨S10752x1024, .f32⟩
  | .hbm, ⟨5, _⟩ => ⟨S1024x10752, .f32⟩
  | .hbm, ⟨6, _⟩ => ⟨S1024x2688, .f32⟩
  | .hbm, ⟨7, _⟩ => ⟨S1024x2688, .f32⟩
  | .hbm, ⟨8, _⟩ => ⟨S1024x2688, .f32⟩
  | .hbm, ⟨9, _⟩ => ⟨S1024x2688, .f32⟩
  | .hbm, ⟨10, _⟩ => ⟨S1x1024x2688, .f32⟩
  | .hbm, ⟨11, _⟩ => ⟨S1x1024x2688, .f32⟩
  | .hbm, ⟨12, _⟩ => ⟨S1x1024x2688, .f32⟩
  | .hbm, ⟨13, _⟩ => ⟨S1x1024x2688, .f32⟩
  | .hbm, ⟨14, _⟩ => ⟨S4x1024x2688, .f32⟩
  | .hbm, ⟨15, _⟩ => ⟨S4x1024x2688, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Kernel3.lean ====
abbrev S4096x1024 : Shape := ⟨2, ![4096, 1024]⟩
abbrev S1024x10752 : Shape := ⟨2, ![1024, 10752]⟩
abbrev S4096x10752 : Shape := ⟨2, ![4096, 10752]⟩
abbrev S1024x4x2688 : Shape := ⟨3, ![1024, 4, 2688]⟩
abbrev S4x1024x2688 : Shape := ⟨3, ![4, 1024, 2688]⟩
abbrev S1024x2688 : Shape := ⟨2, ![1024, 2688]⟩
abbrev S1x1024x2688 : Shape := ⟨3, ![1, 1024, 2688]⟩
abbrev S1024x1024 : Shape := ⟨2, ![1024, 1024]⟩

abbrev nBuf : Space → Nat
  | .hbm => 8
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x10752, .f32⟩
  | .hbm, ⟨2, _⟩ => ⟨S4096x10752, .f32⟩
  | .hbm, ⟨3, _⟩ => ⟨S4096x10752, .bf16⟩
  | .hbm, ⟨4, _⟩ => ⟨S1024x4x2688, .f32⟩
  | .hbm, ⟨5, _⟩ => ⟨S4x1024x2688, .f32⟩
  | .hbm, ⟨6, _⟩ => ⟨S4x1024x2688, .bf16⟩
  | .hbm, ⟨7, _⟩ => ⟨S4096x1024, .f32⟩
  | .local _ .vmem, ⟨0, _⟩ => ⟨S1024x2688, .bf16⟩
  | .local _ .vmem, ⟨1, _⟩ => ⟨S1024x2688, .bf16⟩
  | .local _ .vmem, ⟨2, _⟩ => ⟨S1x1024x2688, .bf16⟩
  | .local _ .vmem, ⟨3, _⟩ => ⟨S1x1024x2688, .bf16⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_4 : BitVec 32 := 0#32
  let v7 : BitVec 1 := Scalar.cmpi .ne v6 c0_i32_4
  v7

def k0_cond2 (i : grid0.Coords) : BitVec 1 :=
  let arg1 : BitVec 32 := BitVec.ofNat 32 (i 1).val
  let c0_i32_5 : BitVec 32 := 0#32
  let v8 : BitVec 1 := Scalar.cmpi .sgt arg1 c0_i32_5
  let v9 : BitVec 32 := Scalar.extui v8
  let c0_i32_6 : BitVec 32 := 0#32
  let v10 : BitVec 1 := Scalar.cmpi .ne v9 c0_i32_6
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2688 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x2688 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S4096x1024 : Shape := ⟨2, ![4096, 1024]⟩
abbrev S1024x10752 : Shape := ⟨2, ![1024, 10752]⟩
abbrev S4096x10752 : Shape := ⟨2, ![4096, 10752]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x10752, .f32⟩
  | .hbm, ⟨2, _⟩ => ⟨S4096x10752, .f32⟩
  | .hbm, ⟨3, _⟩ => ⟨S4096x10752, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel4.lean ====
abbrev S4096x1024 : Shape := ⟨2, ![4096, 1024]⟩
abbrev S1024x10752 : Shape := ⟨2, ![1024, 10752]⟩
abbrev S1024x4x2688 : Shape := ⟨3, ![1024, 4, 2688]⟩
abbrev S4x1024x2688 : Shape := ⟨3, ![4, 1024, 2688]⟩
abbrev S4096x10752 : Shape := ⟨2, ![4096, 10752]⟩
abbrev S512x1024 : Shape := ⟨2, ![512, 1024]⟩
abbrev S1x1024x2688 : Shape := ⟨3, ![1, 1024, 2688]⟩
abbrev S512x2688 : Shape := ⟨2, ![512, 2688]⟩
abbrev S1024x2688 : Shape := ⟨2, ![1024, 2688]⟩

abbrev nBuf : Space → Nat
  | .hbm => 7
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x10752, .f32⟩
  | .hbm, ⟨2, _⟩ => ⟨S4096x1024, .bf16⟩
  | .hbm, ⟨3, _⟩ => ⟨S1024x4x2688, .f32⟩
  | .hbm, ⟨4, _⟩ => ⟨S4x1024x2688, .f32⟩
  | .hbm, ⟨5, _⟩ => ⟨S4x1024x2688, .bf16⟩
  | .hbm, ⟨6, _⟩ => ⟨S4096x10752, .bf16⟩
  | .local _ .vmem, ⟨0, _⟩ => ⟨S512x1024, .bf16⟩
  | .local _ .vmem, ⟨1, _⟩ => ⟨S512x1024, .bf16⟩
  | .local _ .vmem, ⟨2, _⟩ => ⟨S1x1024x2688, .bf16⟩
  | .local _ .vmem, ⟨3, _⟩ => ⟨S1x1024x2688, .bf16⟩
  | .local _ .vmem, ⟨4, _⟩ => ⟨S512x2688, .bf16⟩
  | .local _ .vmem, ⟨5, _⟩ => ⟨S512x2688, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2688 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2688 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S4096x1024 : Shape := ⟨2, ![4096, 1024]⟩
abbrev S1024x10752 : Shape := ⟨2, ![1024, 10752]⟩
abbrev S4096x10752 : Shape := ⟨2, ![4096, 10752]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x10752, .f32⟩
  | .hbm, ⟨2, _⟩ => ⟨S4096x10752, .f32⟩
  | .hbm, ⟨3, _⟩ => ⟨S4096x10752, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel5.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 7
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S4096x1024, .bf16⟩
  | .hbm, ⟨4, _⟩ => ⟨S1024x1024, .bf16⟩
  | .hbm, ⟨5, _⟩ => ⟨S4096x1024, .bf16⟩
  | .hbm, ⟨6, _⟩ => ⟨S1024x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S512x1024, .bf16⟩
  | .local _ .vmem, ⟨6, _⟩ => ⟨S512x1024, .bf16⟩
  | .local _ .vmem, ⟨7, _⟩ => ⟨S1024x1024, .bf16⟩
  | .local _ .vmem, ⟨8, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v16 : BitVec 1 := Scalar.cmpi .eq arg0 c7_i32
  let v17 : BitVec 32 := Scalar.extui v16
  let c0_i32_11 : BitVec 32 := 0#32
  let v18 : BitVec 1 := Scalar.cmpi .ne v17 c0_i32_11
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference5Ideal.lean ====
abbrev S4096x1024 : Shape := ⟨2, ![4096, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S4096x1024, .f32⟩
  | .hbm, ⟨7, _⟩ => ⟨S4096x1024, .bf16⟩
  | .hbm, ⟨8, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S4x4096x512 : Shape := ⟨3, ![4, 4096, 512]⟩
abbrev S4x512x1024 : Shape := ⟨3, ![4, 512, 1024]⟩
abbrev S4096x10752 : Shape := ⟨2, ![4096, 10752]⟩
abbrev S4x512x4x256 : Shape := ⟨4, ![4, 512, 4, 256]⟩
abbrev S4x4x512x256 : Shape := ⟨4, ![4, 4, 512, 256]⟩
abbrev S4096x1024 : Shape := ⟨2, ![4096, 1024]⟩
abbrev S4x256x512 : Shape := ⟨3, ![4, 256, 512]⟩
abbrev S256x512 : Shape := ⟨2, ![256, 512]⟩
abbrev S256x1024 : Shape := ⟨2, ![256, 1024]⟩
abbrev S256x256 : Shape := ⟨2, ![256, 256]⟩
abbrev S1x256x512 : Shape := ⟨3, ![1, 256, 512]⟩
abbrev S1x1x512x256 : Shape := ⟨4, ![1, 1, 512, 256]⟩
abbrev S512x256 : Shape := ⟨2, ![512, 256]⟩

abbrev nBuf : Space → Nat
  | .hbm => 9
  | .vmem => 21
  | .smem => 0
  | _ => 0

abbrev bufTy : (tb : Table) → Fin (tcTables nBuf tb) → BufTy
  | .hbm, ⟨0, _⟩ => ⟨S4x4096x512, .f32⟩
  | .hbm, ⟨1, _⟩ => ⟨S4x512x1024, .f32⟩
  | .hbm, ⟨2, _⟩ => ⟨S4096x10752, .f32⟩
  | .hbm, ⟨3, _⟩ => ⟨S4x4096x512, .bf16⟩
  | .hbm, ⟨4, _⟩ => ⟨S4x512x4x256, .f32⟩
  | .hbm, ⟨5, _⟩ => ⟨S4x4x512x256, .f32⟩
  | .hbm, ⟨6, _⟩ => ⟨S4x4x512x256, .bf16⟩
  | .hbm, ⟨7, _⟩ => ⟨S4096x10752, .bf16⟩
  | .hbm, ⟨8, _⟩ => ⟨S4096x1024, .bf16⟩
  | .local _ .vmem, ⟨0, _⟩ => ⟨S4x256x512, .bf16⟩
  | .local _ .vmem, ⟨1, _⟩ => ⟨S4x256x512, .bf16⟩
  | .local _ .vmem, ⟨2, _⟩ => ⟨S4x4x512x256, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S256x512, .bf16⟩
  | .local _ .vmem, ⟨19, _⟩ => ⟨S256x1024, .bf16⟩
  | .local _ .vmem, ⟨20, _⟩ => ⟨S256x1024, .bf16⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_3 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_4 (i : grid0.Coords) : Fin 2 → Nat :=
  let arg0 : BitVec 32 := BitVec.ofNat 32 (i 0).val
  let c15_i32 : BitVec 32 := 15#32
  let c0_i32 : BitVec 32 := 0#32
  ![arg0.toNat, c15_i32.toNat]

def cc0_transform_5 (i : grid0.Coords) : Fin 2 → Nat :=
  let arg0 : BitVec 32 := BitVec.ofNat 32 (i 0).val
  let c16_i32 : BitVec 32 := 16#32
  let c0_i32 : BitVec 32 := 0#32
  ![arg0.toNat, c16_i32.toNat]

def cc0_transform_6 (i : grid0.Coords) : Fin 2 → Nat :=
  let arg0 : BitVec 32 := BitVec.ofNat 32 (i 0).val
  let c17_i32 : BitVec 32 := 17#32
  let c0_i32 : BitVec 32 := 0#32
  ![arg0.toNat, c17_i32.toNat]

def cc0_transform_7 (i : grid0.Coords) : Fin 2 → Nat :=
  let arg0 : BitVec 32 := BitVec.ofNat 32 (i 0).val
  let c18_i32 : BitVec 32 := 18#32
  let c0_i32 : BitVec 32 := 0#32
  ![arg0.toNat, c18_i32.toNat]

def cc0_transform_8 (i : grid0.Coords) : Fin 2 → Nat :=
  let arg0 : BitVec 32 := BitVec.ofNat 32 (i 0).val
  let c19_i32 : BitVec 32 := 19#32
  let c0_i32 : BitVec 32 := 0#32
  ![arg0.toNat, c19_i32.toNat]

def cc0_transform_9 (i : grid0.Coords) : Fin 2 → Nat :=
  let arg0 : BitVec 32 := BitVec.ofNat 32 (i 0).val
  let c20_i32 : BitVec 32 := 20#32
  let c0_i32 : BitVec 32 := 0#32
  ![arg0.toNat, c20_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x4x512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference6Ideal.lean ====
abbrev S4x4096x512 : Shape := ⟨3, ![4, 4096, 512]⟩
abbrev S4x512x1024 : Shape := ⟨3, ![4, 512, 1024]⟩
abbrev S4096x10752 : Shape := ⟨2, ![4096, 10752]⟩
abbrev S4096x4096 : Shape := ⟨2, ![4096, 4096]⟩
abbrev S4096x4x1024 : Shape := ⟨3, ![4096, 4, 1024]⟩
abbrev S_ : Shape := ⟨0, ![]⟩
abbrev S4096x1x1024 : Shape := ⟨3, ![4096, 1, 1024]⟩
abbrev S4096x1024 : Shape := ⟨2, ![4096, 1024]⟩
abbrev S1x4096x512 : Shape := ⟨3, ![1, 4096, 512]⟩
abbrev S4096x512 : Shape := ⟨2, ![4096, 512]⟩
abbrev S1x512x1024 : Shape := ⟨3, ![1, 512, 1024]⟩
abbrev S512x1024 : Shape := ⟨2, ![512, 1024]⟩

abbrev nBuf : Space → Nat
  | .hbm => 49
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S4x512x1024, .f32⟩
  | .hbm, ⟨2, _⟩ => ⟨S4096x10752, .f32⟩
  | .hbm, ⟨3, _⟩ => ⟨S4096x4096, .f32⟩
  | .hbm, ⟨4, _⟩ => ⟨S4096x4x1024, .f32⟩
  | .hbm, ⟨5, _⟩ => ⟨S4096x4x1024, .f32⟩
  | .hbm, ⟨6, _⟩ => ⟨S4096x4x1024, .f32⟩
  | .hbm, ⟨7, _⟩ => ⟨S_, .f32⟩
  | .hbm, ⟨8, _⟩ => ⟨S4096x4x1024, .f32⟩
  | .hbm, ⟨9, _⟩ => ⟨S4096x4x1024, .f32⟩
  | .hbm, ⟨10, _⟩ => ⟨S_, .f32⟩
  | .hbm, ⟨11, _⟩ => ⟨S4096x4x1024, .f32⟩
  | .hbm, ⟨12, _⟩ => ⟨S4096x4x1024, .f32⟩
  | .hbm, ⟨13, _⟩ => ⟨S4096x1x1024, .f32⟩
  | .hbm, ⟨14, _⟩ => ⟨S4096x1024, .f32⟩
  | .hbm, ⟨15, _⟩ => ⟨S1x4096x512, .f32⟩
  | .hbm, ⟨16, _⟩ => ⟨S4096x512, .f32⟩
  | .hbm, ⟨17, _⟩ => ⟨S1x512x1024, .f32⟩
  | .hbm, ⟨18, _⟩ => ⟨S512x1024, .f32⟩
  | .hbm, ⟨19, _⟩ => ⟨S4096x1024, .f32⟩
  | .hbm, ⟨20, _⟩ => ⟨S4096x1024, .f32⟩
  | .hbm, ⟨21, _⟩ => ⟨S4096x1x1024, .f32⟩
  | .hbm, ⟨22, _⟩ => ⟨S4096x1024, .f32⟩
  | .hbm, ⟨23, _⟩ => ⟨S1x4096x512, .f32⟩
  | .hbm, ⟨24, _⟩ => ⟨S4096x512, .f32⟩
  | .hbm, ⟨25, _⟩ => ⟨S1x512x1024, .f32⟩
  | .hbm, ⟨26, _⟩ => ⟨S512x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1x1024, .f32⟩
  | .hbm, ⟨31, _⟩ => ⟨S4096x1024, .f32⟩
  | .hbm, ⟨32, _⟩ => ⟨S1x4096x512, .f32⟩
  | .hbm, ⟨33, _⟩ => ⟨S4096x512, .f32⟩
  | .hbm, ⟨34, _⟩ => ⟨S1x512x1024, .f32⟩
  | .hbm, ⟨35, _⟩ => ⟨S512x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1x1024, .f32⟩
  | .hbm, ⟨40, _⟩ => ⟨S4096x1024, .f32⟩
  | .hbm, ⟨41, _⟩ => ⟨S1x4096x512, .f32⟩
  | .hbm, ⟨42, _⟩ => ⟨S4096x512, .f32⟩
  | .hbm, ⟨43, _⟩ => ⟨S1x512x1024, .f32⟩
  | .hbm, ⟨44, _⟩ => ⟨S512x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .bf16⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩

abbrev nD : Nat := 1
abbrev τ : Topo := Topo.v7x

variable {F : FTy → Type} [FloatOps F]
-- ==== Kernel7.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S1024x4096 : Shape := ⟨2, ![1024, 4096]⟩
abbrev S512x1024 : Shape := ⟨2, ![512, 1024]⟩
abbrev S1024x512 : Shape := ⟨2, ![1024, 512]⟩
abbrev S512 : Shape := ⟨1, ![512]⟩
abbrev S512x1 : Shape := ⟨2, ![512, 1]⟩

abbrev nBuf : Space → Nat
  | .hbm => 10
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S4096x1024, .bf16⟩
  | .hbm, ⟨5, _⟩ => ⟨S1024x1024, .bf16⟩
  | .hbm, ⟨6, _⟩ => ⟨S1x1024, .f32⟩
  | .hbm, ⟨7, _⟩ => ⟨S4096x1024, .f32⟩
  | .hbm, ⟨8, _⟩ => ⟨S4096x1024, .bf16⟩
  | .hbm, ⟨9, _⟩ => ⟨S1024x4096, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1024x512, .bf16⟩
  | .local _ .vmem, ⟨11, _⟩ => ⟨S1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference7Ideal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x4096 : Shape := ⟨2, ![1024, 4096]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .bf16⟩
  | .hbm, ⟨23, _⟩ => ⟨S1024x4096, .f32⟩
  | .hbm, ⟨24, _⟩ => ⟨S1024x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel8.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S1024x1024, .bf16⟩
  | .hbm, ⟨5, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference8Ideal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel9.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel9Ideal.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference9Ideal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel10.lean ====
abbrev S4x512 : Shape := ⟨2, ![4, 512]⟩

abbrev nBuf : Space → Nat
  | .hbm => 7
  | .vmem => 7
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S4x512, .f32⟩
  | .hbm, ⟨5, _⟩ => ⟨S4x512, .f32⟩
  | .hbm, ⟨6, _⟩ => ⟨S4x512, .f32⟩
  | .local _ .vmem, ⟨0, _⟩ => ⟨S4x512, .f32⟩
  | .local _ .vmem, ⟨1, _⟩ => ⟨S4x512, .f32⟩
  | .local _ .vmem, ⟨2, _⟩ => ⟨S4x512, .f32⟩
  | .local _ .vmem, ⟨3, _⟩ => ⟨S4x512, .f32⟩
  | .local _ .vmem, ⟨4, _⟩ => ⟨S4x512, .f32⟩
  | .local _ .vmem, ⟨5, _⟩ => ⟨S4x512, .f32⟩
  | .local _ .vmem, ⟨6, _⟩ => ⟨S4x512, .f32⟩
  | _, _ => ⟨S4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel10Ideal.lean ====
abbrev S4x512 : Shape := ⟨2, ![4, 512]⟩

abbrev nBuf : Space → Nat
  | .hbm => 7
  | .vmem => 7
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S4x512, .f32⟩
  | .hbm, ⟨5, _⟩ => ⟨S4x512, .f32⟩
  | .hbm, ⟨6, _⟩ => ⟨S4x512, .f32⟩
  | .local _ .vmem, ⟨0, _⟩ => ⟨S4x512, .f32⟩
  | .local _ .vmem, ⟨1, _⟩ => ⟨S4x512, .f32⟩
  | .local _ .vmem, ⟨2, _⟩ => ⟨S4x512, .f32⟩
  | .local _ .vmem, ⟨3, _⟩ => ⟨S4x512, .f32⟩
  | .local _ .vmem, ⟨4, _⟩ => ⟨S4x512, .f32⟩
  | .local _ .vmem, ⟨5, _⟩ => ⟨S4x512, .f32⟩
  | .local _ .vmem, ⟨6, _⟩ => ⟨S4x512, .f32⟩
  | _, _ => ⟨S4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference10Ideal.lean ====
abbrev S4x512 : Shape := ⟨2, ![4, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S_, .f32⟩
  | .hbm, ⟨5, _⟩ => ⟨S4x512, .f32⟩
  | .hbm, ⟨6, _⟩ => ⟨S4x512, .f32⟩
  | .hbm, ⟨7, _⟩ => ⟨S_, .f32⟩
  | .hbm, ⟨8, _⟩ => ⟨S4x512, .f32⟩
  | .hbm, ⟨9, _⟩ => ⟨S4x512, .f32⟩
  | .hbm, ⟨10, _⟩ => ⟨S4x512, .f32⟩
  | .hbm, ⟨11, _⟩ => ⟨S_, .f32⟩
  | .hbm, ⟨12, _⟩ => ⟨S4x512, .f32⟩
  | .hbm, ⟨13, _⟩ => ⟨S4x512, .f32⟩
  | .hbm, ⟨14, _⟩ => ⟨S4x512, .f32⟩
  | .hbm, ⟨15, _⟩ => ⟨S_, .f32⟩
  | .hbm, ⟨16, _⟩ => ⟨S4x512, .f32⟩
  | .hbm, ⟨17, _⟩ => ⟨S4x512, .f32⟩
  | .hbm, ⟨18, _⟩ => ⟨S4x512, .f32⟩
  | .hbm, ⟨19, _⟩ => ⟨S_, .f32⟩
  | .hbm, ⟨20, _⟩ => ⟨S4x512, .f32⟩
  | .hbm, ⟨21, _⟩ => ⟨S4x512, .f32⟩
  | .hbm, ⟨22, _⟩ => ⟨S_, .f32⟩
  | .hbm, ⟨23, _⟩ => ⟨S4x512, .f32⟩
  | .hbm, ⟨24, _⟩ => ⟨S4x512, .f32⟩
  | .hbm, ⟨25, _⟩ => ⟨S4x512, .f32⟩
  | .hbm, ⟨26, _⟩ => ⟨S_, .f32⟩
  | .hbm, ⟨27, _⟩ => ⟨S4x512, .f32⟩
  | .hbm, ⟨28, _⟩ => ⟨S4x512, .f32⟩
  | .hbm, ⟨29, _⟩ => ⟨S4x512, .f32⟩
  | .hbm, ⟨30, _⟩ => ⟨S_, .f32⟩
  | .hbm, ⟨31, _⟩ => ⟨S4x512, .f32⟩
  | .hbm, ⟨32, _⟩ => ⟨S4x512, .f32⟩
  | .hbm, ⟨33, _⟩ => ⟨S4x512, .f32⟩
  | .hbm, ⟨34, _⟩ => ⟨S_, .f32⟩
  | .hbm, ⟨35, _⟩ => ⟨S4x512, .f32⟩
  | .hbm, ⟨36, _⟩ => ⟨S4x512, .f32⟩
  | _, _ => ⟨S4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel11.lean ====
abbrev S2048x128 : Shape := ⟨2, ![2048, 128]⟩

abbrev nBuf : Space → Nat
  | .hbm => 7
  | .vmem => 7
  | .smem => 0
  | _ => 0

abbrev bufTy : (tb : Table) → Fin (tcTables nBuf tb) → BufTy
  | .hbm, ⟨0, _⟩ => ⟨S2048x128, .f32⟩
  | .hbm, ⟨1, _⟩ => ⟨S2048x128, .f32⟩
  | .hbm, ⟨2, _⟩ => ⟨S2048x128, .f32⟩
  | .hbm, ⟨3, _⟩ => ⟨S2048x128, .f32⟩
  | .hbm, ⟨4, _⟩ => ⟨S2048x128, .f32⟩
  | .hbm, ⟨5, _⟩ => ⟨S2048x128, .f32⟩
  | .hbm, ⟨6, _⟩ => ⟨S2048x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel11Ideal.lean ====
abbrev S2048x128 : Shape := ⟨2, ![2048, 128]⟩

abbrev nBuf : Space → Nat
  | .hbm => 7
  | .vmem => 7
  | .smem => 0
  | _ => 0

abbrev bufTy : (tb : Table) → Fin (tcTables nBuf tb) → BufTy
  | .hbm, ⟨0, _⟩ => ⟨S2048x128, .f32⟩
  | .hbm, ⟨1, _⟩ => ⟨S2048x128, .f32⟩
  | .hbm, ⟨2, _⟩ => ⟨S2048x128, .f32⟩
  | .hbm, ⟨3, _⟩ => ⟨S2048x128, .f32⟩
  | .hbm, ⟨4, _⟩ => ⟨S2048x128, .f32⟩
  | .hbm, ⟨5, _⟩ => ⟨S2048x128, .f32⟩
  | .hbm, ⟨6, _⟩ => ⟨S2048x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference11Ideal.lean ====
abbrev S2048x128 : Shape := ⟨2, ![2048, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S2048x128, .f32⟩
  | .hbm, ⟨2, _⟩ => ⟨S2048x128, .f32⟩
  | .hbm, ⟨3, _⟩ => ⟨S2048x128, .f32⟩
  | .hbm, ⟨4, _⟩ => ⟨S_, .f32⟩
  | .hbm, ⟨5, _⟩ => ⟨S2048x128, .f32⟩
  | .hbm, ⟨6, _⟩ => ⟨S2048x128, .f32⟩
  | .hbm, ⟨7, _⟩ => ⟨S_, .f32⟩
  | .hbm, ⟨8, _⟩ => ⟨S2048x128, .f32⟩
  | .hbm, ⟨9, _⟩ => ⟨S2048x128, .f32⟩
  | .hbm, ⟨10, _⟩ => ⟨S2048x128, .f32⟩
  | .hbm, ⟨11, _⟩ => ⟨S_, .f32⟩
  | .hbm, ⟨12, _⟩ => ⟨S2048x128, .f32⟩
  | .hbm, ⟨13, _⟩ => ⟨S2048x128, .f32⟩
  | .hbm, ⟨14, _⟩ => ⟨S2048x128, .f32⟩
  | .hbm, ⟨15, _⟩ => ⟨S_, .f32⟩
  | .hbm, ⟨16, _⟩ => ⟨S2048x128, .f32⟩
  | .hbm, ⟨17, _⟩ => ⟨S2048x128, .f32⟩
  | .hbm, ⟨18, _⟩ => ⟨S2048x128, .f32⟩
  | .hbm, ⟨19, _⟩ => ⟨S_, .f32⟩
  | .hbm, ⟨20, _⟩ => ⟨S2048x128, .f32⟩
  | .hbm, ⟨21, _⟩ => ⟨S2048x128, .f32⟩
  | .hbm, ⟨22, _⟩ => ⟨S_, .f32⟩
  | .hbm, ⟨23, _⟩ => ⟨S2048x128, .f32⟩
  | .hbm, ⟨24, _⟩ => ⟨S2048x128, .f32⟩
  | .hbm, ⟨25, _⟩ => ⟨S2048x128, .f32⟩
  | .hbm, ⟨26, _⟩ => ⟨S_, .f32⟩
  | .hbm, ⟨27, _⟩ => ⟨S2048x128, .f32⟩
  | .hbm, ⟨28, _⟩ => ⟨S2048x128, .f32⟩
  | .hbm, ⟨29, _⟩ => ⟨S2048x128, .f32⟩
  | .hbm, ⟨30, _⟩ => ⟨S_, .f32⟩
  | .hbm, ⟨31, _⟩ => ⟨S2048x128, .f32⟩
  | .hbm, ⟨32, _⟩ => ⟨S2048x128, .f32⟩
  | .hbm, ⟨33, _⟩ => ⟨S2048x128, .f32⟩
  | .hbm, ⟨34, _⟩ => ⟨S_, .f32⟩
  | .hbm, ⟨35, _⟩ => ⟨S2048x128, .f32⟩
  | .hbm, ⟨36, _⟩ => ⟨S2048x128, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel12.lean ====
abbrev S16x128 : Shape := ⟨2, ![16, 128]⟩

abbrev nBuf : Space → Nat
  | .hbm => 7
  | .vmem => 7
  | .smem => 0
  | _ => 0

abbrev bufTy : (tb : Table) → Fin (tcTables nBuf tb) → BufTy
  | .hbm, ⟨0, _⟩ => ⟨S16x128, .f32⟩
  | .hbm, ⟨1, _⟩ => ⟨S16x128, .f32⟩
  | .hbm, ⟨2, _⟩ => ⟨S16x128, .f32⟩
  | .hbm, ⟨3, _⟩ => ⟨S16x128, .f32⟩
  | .hbm, ⟨4, _⟩ => ⟨S16x128, .f32⟩
  | .hbm, ⟨5, _⟩ => ⟨S16x128, .f32⟩
  | .hbm, ⟨6, _⟩ => ⟨S16x128, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | _, _ => ⟨S16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel12Ideal.lean ====
abbrev S16x128 : Shape := ⟨2, ![16, 128]⟩

abbrev nBuf : Space → Nat
  | .hbm => 7
  | .vmem => 7
  | .smem => 0
  | _ => 0

abbrev bufTy : (tb : Table) → Fin (tcTables nBuf tb) → BufTy
  | .hbm, ⟨0, _⟩ => ⟨S16x128, .f32⟩
  | .hbm, ⟨1, _⟩ => ⟨S16x128, .f32⟩
  | .hbm, ⟨2, _⟩ => ⟨S16x128, .f32⟩
  | .hbm, ⟨3, _⟩ => ⟨S16x128, .f32⟩
  | .hbm, ⟨4, _⟩ => ⟨S16x128, .f32⟩
  | .hbm, ⟨5, _⟩ => ⟨S16x128, .f32⟩
  | .hbm, ⟨6, _⟩ => ⟨S16x128, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | _, _ => ⟨S16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference12Ideal.lean ====
abbrev S16x128 : Shape := ⟨2, ![16, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x128, .f32⟩
  | .hbm, ⟨1, _⟩ => ⟨S16x128, .f32⟩
  | .hbm, ⟨2, _⟩ => ⟨S16x128, .f32⟩
  | .hbm, ⟨3, _⟩ => ⟨S16x128, .f32⟩
  | .hbm, ⟨4, _⟩ => ⟨S_, .f32⟩
  | .hbm, ⟨5, _⟩ => ⟨S16x128, .f32⟩
  | .hbm, ⟨6, _⟩ => ⟨S16x128, .f32⟩
  | .hbm, ⟨7, _⟩ => ⟨S_, .f32⟩
  | .hbm, ⟨8, _⟩ => ⟨S16x128, .f32⟩
  | .hbm, ⟨9, _⟩ => ⟨S16x128, .f32⟩
  | .hbm, ⟨10, _⟩ => ⟨S16x128, .f32⟩
  | .hbm, ⟨11, _⟩ => ⟨S_, .f32⟩
  | .hbm, ⟨12, _⟩ => ⟨S16x128, .f32⟩
  | .hbm, ⟨13, _⟩ => ⟨S16x128, .f32⟩
  | .hbm, ⟨14, _⟩ => ⟨S16x128, .f32⟩
  | .hbm, ⟨15, _⟩ => ⟨S_, .f32⟩
  | .hbm, ⟨16, _⟩ => ⟨S16x128, .f32⟩
  | .hbm, ⟨17, _⟩ => ⟨S16x128, .f32⟩
  | .hbm, ⟨18, _⟩ => ⟨S16x128, .f32⟩
  | .hbm, ⟨19, _⟩ => ⟨S_, .f32⟩
  | .hbm, ⟨20, _⟩ => ⟨S16x128, .f32⟩
  | .hbm, ⟨21, _⟩ => ⟨S16x128, .f32⟩
  | .hbm, ⟨22, _⟩ => ⟨S_, .f32⟩
  | .hbm, ⟨23, _⟩ => ⟨S16x128, .f32⟩
  | .hbm, ⟨24, _⟩ => ⟨S16x128, .f32⟩
  | .hbm, ⟨25, _⟩ => ⟨S16x128, .f32⟩
  | .hbm, ⟨26, _⟩ => ⟨S_, .f32⟩
  | .hbm, ⟨27, _⟩ => ⟨S16x128, .f32⟩
  | .hbm, ⟨28, _⟩ => ⟨S16x128, .f32⟩
  | .hbm, ⟨29, _⟩ => ⟨S16x128, .f32⟩
  | .hbm, ⟨30, _⟩ => ⟨S_, .f32⟩
  | .hbm, ⟨31, _⟩ => ⟨S16x128, .f32⟩
  | .hbm, ⟨32, _⟩ => ⟨S16x128, .f32⟩
  | .hbm, ⟨33, _⟩ => ⟨S16x128, .f32⟩
  | .hbm, ⟨34, _⟩ => ⟨S_, .f32⟩
  | .hbm, ⟨35, _⟩ => ⟨S16x128, .f32⟩
  | .hbm, ⟨36, _⟩ => ⟨S16x128, .f32⟩
  | _, _ => ⟨S16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel13.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference13Ideal.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel14.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 7
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1x1024, .f32⟩
  | .hbm, ⟨4, _⟩ => ⟨S4096x1024, .f32⟩
  | .hbm, ⟨5, _⟩ => ⟨S1x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v38 : BitVec 1 := Scalar.cmpi .eq arg0 c0_i32
  let v39 : BitVec 32 := Scalar.extui v38
  let c0_i32_14 : BitVec 32 := 0#32
  let v40 : BitVec 1 := Scalar.cmpi .ne v39 c0_i32_14
  v40

def k0_cond2 (i : grid0.Coords) : BitVec 1 :=
  let arg0 : BitVec 32 := BitVec.ofNat 32 (i 0).val
  let c0_i32_15 : BitVec 32 := 0#32
  let v41 : BitVec 1 := Scalar.cmpi .sgt arg0 c0_i32_15
  let v42 : BitVec 32 := Scalar.extui v41
  let c0_i32_16 : BitVec 32 := 0#32
  let v43 : BitVec 1 := Scalar.cmpi .ne v42 c0_i32_16
  v43

def k0_cond3 (i : grid0.Coords) : BitVec 1 :=
  let arg0 : BitVec 32 := BitVec.ofNat 32 (i 0).val
  let c7_i32 : BitVec 32 := 7#32
  let v44 : BitVec 1 := Scalar.cmpi .eq arg0 c7_i32
  let v45 : BitVec 32 := Scalar.extui v44
  let c0_i32_17 : BitVec 32 := 0#32
  let v46 : BitVec 1 := Scalar.cmpi .ne v45 c0_i32_17
  v46

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference14Ideal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096, .f32⟩
  | .hbm, ⟨26, _⟩ => ⟨S_, .f32⟩
  | .hbm, ⟨27, _⟩ => ⟨S4096, .f32⟩
  | .hbm, ⟨28, _⟩ => ⟨S4096, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S4096, .f32⟩
  | .hbm, ⟨37, _⟩ => ⟨S_, .f32⟩
  | .hbm, ⟨38, _⟩ => ⟨S4096, .f32⟩
  | .hbm, ⟨39, _⟩ => ⟨S4096, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩
abbrev main_cst_7 : Ref sig .tc := ⟨.hbm, 33, rfl⟩
abbrev main_cst_8 : Ref sig .tc := ⟨.hbm, 34, rfl⟩
abbrev main_v22 : Ref sig .tc := ⟨.hbm, 35, rfl⟩
abbrev main_v23 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_10 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩

abbrev nD : Nat := 1
abbrev τ : Topo := Topo.v7x

variable {F : FTy → Type} [FloatOps F]
-- ==== Proof.Math.lean ====
module

public import Idealize.ShloMosaic.Lib.Pointwise

@[expose] public section

noncomputable section

namespace Cert.Attn

open scoped BigOperators

/-- A real array of tokens, heads and channels. -/
abbrev Tok := Fin 4096 → Fin 4 → Fin 128 → ℝ
/-- A real array of tokens and heads. -/
abbrev Row := Fin 4096 → Fin 4 → ℝ

/-- The eight arguments, as real arrays. -/
structure Args where
  q : Tok
  k : Tok
  v : Tok
  o0 : Tok
  l0 : Row
  o2 : Tok
  l2 : Row
  ct : Tok

/-- The token at position `i` of block `n` among the tokens of residue `r` modulo four. -/
def tok (r : Fin 4) (n : Fin 8) (i : Fin 128) : Fin 4096 := ⟨(n.val * 128 + i.val) * 4 + r.val, by omega⟩
def resOf (t : Fin 4096) : Fin 4 := ⟨t.val % 4, by omega⟩
def blkOf (t : Fin 4096) : Fin 8 := ⟨t.val / 512, by omega⟩
def posOf (t : Fin 4096) : Fin 128 := ⟨t.val / 4 % 128, by omega⟩

@[simp] theorem resOf_tok (r n i) : resOf (tok r n i) = r := Fin.ext (by simp only [resOf, tok]; omega)
@[simp] theorem blkOf_tok (r n i) : blkOf (tok r n i) = n := Fin.ext (by simp only [blkOf, tok]; omega)
@[simp] theorem posOf_tok (r n i) : posOf (tok r n i) = i := Fin.ext (by simp only [posOf, tok]; omega)
theorem tok_of (t) : tok (resOf t) (blkOf t) (posOf t) = t := Fin.ext (by simp only [resOf, blkOf, posOf, tok]; omega)

/-- The scale of the scores: the f32 number nearest to 1/√128. -/
def scale : ℝ := 11863283 / 134217728

/-- Key (or value) `j` of block `n`: the previous block's rows first, zeros before the first block, then its own. -/
def key (t : Tok) (r : Fin 4) (n : Fin 8) (j : Fin 256) (h : Fin 4) (e : Fin 128) : ℝ :=
  if hj : 128 ≤ j.val then t (tok r n ⟨j.val - 128, by omega⟩) h e
  else if 0 < n.val then t (tok r ⟨n.val - 1, by omega⟩ ⟨j.val, by omega⟩) h e else 0

/-- Query `i` of block `n` sees key `j`. -/
def valid (n : Fin 8) (i : Fin 128) (j : Fin 256) : Prop :=
  (i.val ≤ j.val ∧ j.val ≤ i.val + 128) ∧ (0 < n.val ∨ 128 ≤ j.val)

instance (n : Fin 8) (i : Fin 128) (j : Fin 256) : Decidable (valid n i j) := by unfold valid; infer_instance

theorem valid_diag (n : Fin 8) (i : Fin 128) : valid n i ⟨i.val + 128, by omega⟩ := ⟨⟨by simp, by simp⟩, Or.inr (by simp)⟩

theorem valid_nonempty (n : Fin 8) (i : Fin 128) : (Finset.univ.filter (valid n i)).Nonempty :=
  ⟨_, Finset.mem_filter.mpr ⟨Finset.mem_univ _, valid_diag n i⟩⟩

variable (x : Args)

def score (r : Fin 4) (n : Fin 8) (h : Fin 4) (i : Fin 128) (j : Fin 256) : ℝ :=
  (∑ e : Fin 128, x.q (tok r n i) h e * key x.k r n j h e) * scale

/-- The largest score a query has. -/
def top (r : Fin 4) (n : Fin 8) (h : Fin 4) (i : Fin 128) : ℝ :=
  (Finset.univ.filter (valid n i)).sup' (valid_nonempty n i) (score x r n h i)

theorem top_attained (r n h i) : ∃ j, valid n i j ∧ top x r n h i = score x r n h i j := by
  obtain ⟨j, hj, e⟩ := Finset.exists_mem_eq_sup' (valid_nonempty n i) (score x r n h i)
  exact ⟨j, (Finset.mem_filter.mp hj).2, e⟩

theorem score_le_top (r n h i j) (hv : valid n i j) : score x r n h i j ≤ top x r n h i :=
  Finset.le_sup' (score x r n h i) (Finset.mem_filter.mpr ⟨Finset.mem_univ _, hv⟩)

/-- The numerators of the softmax. -/
def ex (r : Fin 4) (n : Fin 8) (h : Fin 4) (i : Fin 128) (j : Fin 256) : ℝ :=
  if valid n i j then Real.exp (score x r n h i j - top x r n h i) else 0

def den (r : Fin 4) (n : Fin 8) (h : Fin 4) (i : Fin 128) : ℝ := ∑ j : Fin 256, ex x r n h i j

theorem den_pos (r n h i) : 0 < den x r n h i := by
  refine Finset.sum_pos' (fun j _ => ?_) ⟨⟨i.val + 128, by omega⟩, Finset.mem_univ _, ?_⟩
  · unfold ex; split
    · exact (Real.exp_pos _).le
    · exact le_rfl
  · unfold ex; rw [if_pos (valid_diag n i)]; exact Real.exp_pos _

def prob (r : Fin 4) (n : Fin 8) (h : Fin 4) (i : Fin 128) (j : Fin 256) : ℝ := ex x r n h i j / den x r n h i

/-- The group's output and log-sum-exp at a place of a block, and by token. -/
def outB (r : Fin 4) (n : Fin 8) (h : Fin 4) (e i : Fin 128) : ℝ :=
  ∑ j : Fin 256, key x.v r n j h e * prob x r n h i j
def lseB (r : Fin 4) (n : Fin 8) (h : Fin 4) (i : Fin 128) : ℝ := top x r n h i + Real.log (den x r n h i)
def o1 (t : Fin 4096) (h : Fin 4) (e : Fin 128) : ℝ := outB x (resOf t) (blkOf t) h e (posOf t)
def l1 (t : Fin 4096) (h : Fin 4) : ℝ := lseB x (resOf t) (blkOf t) h (posOf t)

/-- The mixture of the three groups. -/
def mx (t : Fin 4096) (h : Fin 4) : ℝ := max (max (x.l0 t h) (l1 x t h)) (x.l2 t h)
def e0 (t : Fin 4096) (h : Fin 4) : ℝ := Real.exp (x.l0 t h - mx x t h)
def e1 (t : Fin 4096) (h : Fin 4) : ℝ := Real.exp (l1 x t h - mx x t h)
def e2 (t : Fin 4096) (h : Fin 4) : ℝ := Real.exp (x.l2 t h - mx x t h)
def z (t : Fin 4096) (h : Fin 4) : ℝ := e0 x t h + e1 x t h + e2 x t h
theorem z_pos (t h) : 0 < z x t h := by
  unfold z e0 e1 e2; have := Real.exp_pos (x.l0 t h - mx x t h); have := Real.exp_pos (l1 x t h - mx x t h)
  have := Real.exp_pos (x.l2 t h - mx x t h); positivity

/-- The log-sum-exp over the three groups, as the kernel's host lines have it. -/
def lse (t : Fin 4096) (h : Fin 4) : ℝ := mx x t h + Real.log (z x t h)
def delta (t : Fin 4096) (h : Fin 4) : ℝ :=
  ∑ e : Fin 128, x.ct t h e * (Real.exp (x.l0 t h - lse x t h) * x.o0 t h e
    + Real.exp (l1 x t h - lse x t h) * o1 x t h e + Real.exp (x.l2 t h - lse x t h) * x.o2 t h e)

/-- The recomputed softmax weights over all keys of all groups, the gradient of them, and of the scores. -/
def wt (r : Fin 4) (n : Fin 8) (h : Fin 4) (i : Fin 128) (j : Fin 256) : ℝ :=
  if valid n i j then Real.exp (score x r n h i j - lse x (tok r n i) h) else 0
def dp (r : Fin 4) (n : Fin 8) (h : Fin 4) (i : Fin 128) (j : Fin 256) : ℝ :=
  ∑ e : Fin 128, x.ct (tok r n i) h e * key x.v r n j h e
def ds (r : Fin 4) (n : Fin 8) (h : Fin 4) (i : Fin 128) (j : Fin 256) : ℝ :=
  wt x r n h i j * (dp x r n h i j - delta x (tok r n i) h) * scale

/-- The three gradients at a place of a block. -/
def gq (r : Fin 4) (n : Fin 8) (h : Fin 4) (i e : Fin 128) : ℝ := ∑ j : Fin 256, ds x r n h i j * key x.k r n j h e
def gk (r : Fin 4) (n : Fin 8) (h : Fin 4) (j e : Fin 128) : ℝ :=
  (∑ i : Fin 128, ds x r n h i ⟨128 + j.val, by omega⟩ * x.q (tok r n i) h e)
    + if hn : n.val < 7 then ∑ i : Fin 128, ds x r ⟨n.val + 1, by omega⟩ h i ⟨j.val, by omega⟩ * x.q (tok r ⟨n.val + 1, by omega⟩ i) h e else 0
def gv (r : Fin 4) (n : Fin 8) (h : Fin 4) (j e : Fin 128) : ℝ :=
  (∑ i : Fin 128, wt x r n h i ⟨128 + j.val, by omega⟩ * x.ct (tok r n i) h e)
    + if hn : n.val < 7 then ∑ i : Fin 128, wt x r ⟨n.val + 1, by omega⟩ h i ⟨j.val, by omega⟩ * x.ct (tok r ⟨n.val + 1, by omega⟩ i) h e else 0

/-! ## The derivative as the chain rule through the softmax and the mixture writes it -/

def c0 (t : Fin 4096) (h : Fin 4) : ℝ := ∑ e : Fin 128, x.ct t h e * x.o0 t h e
def c1 (t : Fin 4096) (h : Fin 4) : ℝ := ∑ e : Fin 128, x.ct t h e * o1 x t h e
def c2 (t : Fin 4096) (h : Fin 4) : ℝ := ∑ e : Fin 128, x.ct t h e * x.o2 t h e
def al (t : Fin 4096) (h : Fin 4) : ℝ := e1 x t h / z x t h
/-- The gradient of the group's log-sum-exp. -/
def dl (t : Fin 4096) (h : Fin 4) : ℝ :=
  (-(c2 x t h * (1 / (z x t h * z x t h)) * e2 x t h) + -(c1 x t h * (1 / (z x t h * z x t h)) * e1 x t h)
    + c1 x t h / z x t h + -(c0 x t h * (1 / (z x t h * z x t h)) * e0 x t h)) * e1 x t h
def rdp (r : Fin 4) (n : Fin 8) (h : Fin 4) (i : Fin 128) (j : Fin 256) : ℝ :=
  ∑ e : Fin 128, al x (tok r n i) h * x.ct (tok r n i) h e * key x.v r n j h e
def dden (r : Fin 4) (n : Fin 8) (h : Fin 4) (i : Fin 128) : ℝ :=
  dl x (tok r n i) h / den x r n h i
    + -∑ j : Fin 256, rdp x r n h i j * (1 / (den x r n h i * den x r n h i)) * ex x r n h i j
def dex (r : Fin 4) (n : Fin 8) (h : Fin 4) (i : Fin 128) (j : Fin 256) : ℝ :=
  (rdp x r n h i j / den x r n h i + dden x r n h i) * ex x r n h i j
def dtop (r : Fin 4) (n : Fin 8) (h : Fin 4) (i : Fin 128) : ℝ :=
  dl x (tok r n i) h + ∑ j : Fin 256, -dex x r n h i j

theorem exp_sub_lse (t h) (a : ℝ) : Real.exp (a - lse x t h) = Real.exp (a - mx x t h) / z x t h := by
  unfold lse
  rw [show a - (mx x t h + Real.log (z x t h)) = (a - mx x t h) - Real.log (z x t h) by ring, Real.exp_sub,
    Real.exp_log (z_pos x t h)]

theorem delta_eq (t h) : delta x t h = (e0 x t h * c0 x t h + e1 x t h * c1 x t h + e2 x t h * c2 x t h) / z x t h := by
  unfold delta c0 c1 c2
  rw [Finset.mul_sum, Finset.mul_sum, Finset.mul_sum, ← Finset.sum_add_distrib, ← Finset.sum_add_distrib, Finset.sum_div]
  refine Finset.sum_congr rfl fun e _ => ?_
  rw [exp_sub_lse, exp_sub_lse, exp_sub_lse]; unfold e0 e1 e2; ring

theorem dl_eq (t h) : dl x t h = al x t h * (c1 x t h - delta x t h) := by
  have hz := (z_pos x t h).ne'
  rw [delta_eq]; unfold dl al
  field_simp
  ring

theorem rdp_eq (r n h i j) : rdp x r n h i j = al x (tok r n i) h * dp x r n h i j := by
  unfold rdp dp; rw [Finset.mul_sum]; exact Finset.sum_congr rfl fun e _ => by ring

theorem sum_dp_ex (r n h i) : ∑ j : Fin 256, dp x r n h i j * ex x r n h i j = c1 x (tok r n i) h * den x r n h i := by
  have hd := (den_pos x r n h i).ne'
  unfold c1 o1 outB dp prob
  simp only [resOf_tok, blkOf_tok, posOf_tok]
  simp only [Finset.sum_mul, Finset.mul_sum]
  rw [Finset.sum_comm]
  refine Finset.sum_congr rfl fun e _ => Finset.sum_congr rfl fun j _ => ?_
  field_simp

theorem dden_mul (r n h i) : dden x r n h i * den x r n h i = - (al x (tok r n i) h * delta x (tok r n i) h) := by
  have hd := (den_pos x r n h i).ne'
  have hs : ∑ j : Fin 256, rdp x r n h i j * (1 / (den x r n h i * den x r n h i)) * ex x r n h i j
      = al x (tok r n i) h * c1 x (tok r n i) h / den x r n h i := by
    rw [show al x (tok r n i) h * c1 x (tok r n i) h / den x r n h i
      = al x (tok r n i) h / (den x r n h i * den x r n h i) * (c1 x (tok r n i) h * den x r n h i) by field_simp,
      ← sum_dp_ex, Finset.mul_sum]
    refine Finset.sum_congr rfl fun j _ => ?_
    rw [rdp_eq]; ring
  unfold dden
  rw [hs, dl_eq]; field_simp; ring

theorem dex_eq (r n h i j) : dex x r n h i j
    = ex x r n h i j / den x r n h i * al x (tok r n i) h * (dp x r n h i j - delta x (tok r n i) h) := by
  have hd := (den_pos x r n h i).ne'
  have hm := dden_mul x r n h i
  have h2 : dden x r n h i = - (al x (tok r n i) h * delta x (tok r n i) h) / den x r n h i := by
    rw [← hm]; field_simp
  unfold dex
  rw [rdp_eq, h2]; ring

theorem dtop_eq (r n h i) : dtop x r n h i = 0 := by
  have hd := (den_pos x r n h i).ne'
  have hs : ∑ j : Fin 256, dex x r n h i j = dl x (tok r n i) h := by
    have : ∀ j, dex x r n h i j = al x (tok r n i) h / den x r n h i * (dp x r n h i j * ex x r n h i j)
        - al x (tok r n i) h * delta x (tok r n i) h / den x r n h i * ex x r n h i j := fun j => by
      rw [dex_eq]; ring
    simp only [this]
    rw [Finset.sum_sub_distrib, ← Finset.mul_sum, ← Finset.mul_sum, sum_dp_ex]
    change _ - _ * den x r n h i = _
    rw [dl_eq]; field_simp
  unfold dtop
  rw [Finset.sum_neg_distrib, hs]; ring

/-- The softmax weight inside the group times the group's share is the weight over all groups. -/
theorem prob_mul_al (r n h i j) : ex x r n h i j / den x r n h i * al x (tok r n i) h = wt x r n h i j := by
  have hd := den_pos x r n h i
  unfold ex wt
  split
  · rw [exp_sub_lse]; unfold al
    have hz := (z_pos x (tok r n i) h).ne'
    have h1 : e1 x (tok r n i) h = Real.exp (top x r n h i - mx x (tok r n i) h) * den x r n h i := by
      unfold e1 l1 lseB
      simp only [resOf_tok, blkOf_tok, posOf_tok]
      rw [show top x r n h i + Real.log (den x r n h i) - mx x (tok r n i) h
        = (top x r n h i - mx x (tok r n i) h) + Real.log (den x r n h i) by ring, Real.exp_add, Real.exp_log hd]
    rw [h1, show score x r n h i j - mx x (tok r n i) h
      = (score x r n h i j - top x r n h i) + (top x r n h i - mx x (tok r n i) h) by ring, Real.exp_add]
    have := hd.ne'
    field_simp
  · simp

theorem dex_eq_ds (r n h i j) : dex x r n h i j * scale = ds x r n h i j := by
  rw [dex_eq, prob_mul_al]; rfl

theorem wt_of_not_valid (r n h i j) (hv : ¬ valid n i j) : wt x r n h i j = 0 := if_neg hv
theorem ds_of_not_valid (r n h i j) (hv : ¬ valid n i j) : ds x r n h i j = 0 := by
  unfold ds; rw [wt_of_not_valid x r n h i j hv]; ring

/-- The gradient of the values, from the group's own softmax and its share. -/
theorem al_ct_prob (r n h i j e) : al x (tok r n i) h * x.ct (tok r n i) h e * prob x r n h i j
    = wt x r n h i j * x.ct (tok r n i) h e := by
  rw [← prob_mul_al]; unfold prob; ring

end Cert.Attn

end
-- ==== Proof.Reals.lean ====
module

public import proofs.«01_k».proof.Proof.Math
public import Idealize.ShloMosaic.Lib.WordCmp

@[expose] public section

set_option maxRecDepth 16384

noncomputable section

namespace Cert.Attn

open Idealize.ShloMosaic

/-! Extended reals that are real: the operations of the programs on them. -/

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem div_real (a b : ℝ) (hb : b ≠ 0) : Ideal.div (a : EReal) (b : EReal) = ((a / b : ℝ) : EReal) := by
  rw [Ideal.div_coe hb, ← EReal.coe_mul]; congr 1; ring

theorem zero_div {b : EReal} (hb : b ≠ 0) : Ideal.div 0 b = 0 := by
  unfold Ideal.div; rw [if_neg hb, zero_mul]

theorem log_real (a : ℝ) (ha : 0 < a) : Ideal.log (a : EReal) = ((Real.log a : ℝ) : EReal) := by
  rw [Ideal.log_coe, if_neg (not_le.mpr ha)]

theorem max_real (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

theorem scale_word : Ideal.ofBits .f32 0x3DB504F3#32 = ((scale : ℝ) : EReal) := by
  unfold scale; simp [Ideal.ofBits, Ideal.ieee, -EReal.coe_mul]; norm_num

theorem one_word : Ideal.ofBits .f32 0x3F800000#32 = ((1 : ℝ) : EReal) := by
  simp [Ideal.ofBits, Ideal.ieee, -EReal.coe_mul]; norm_num

theorem ninf_word : Ideal.ofBits .f32 0xFF800000#32 = ⊥ := by
  simp [Ideal.ofBits, Ideal.ieee]

theorem inf_word : Ideal.ofBits .f32 0x7F800000#32 = ⊤ := by
  simp [Ideal.ofBits, Ideal.ieee]

section Ops

variable (a b : ℝ)

theorem r_add : FloatOps.addf (F := Ideal) (φ := .f32) (a : EReal) (b : EReal) = ((a + b : ℝ) : EReal) := (EReal.coe_add a b).symm
theorem r_sub : FloatOps.subf (F := Ideal) (φ := .f32) (a : EReal) (b : EReal) = ((a - b : ℝ) : EReal) := (EReal.coe_sub a b).symm
theorem r_mul : FloatOps.mulf (F := Ideal) (φ := .f32) (a : EReal) (b : EReal) = ((a * b : ℝ) : EReal) := (EReal.coe_mul a b).symm
theorem r_max : FloatOps.maximumf (F := Ideal) (φ := .f32) (a : EReal) (b : EReal) = ((max a b : ℝ) : EReal) := max_real a b
theorem r_neg : FloatOps.hostNegf (F := Ideal) (φ := .f32) (a : EReal) = ((-a : ℝ) : EReal) := (EReal.coe_neg a).symm
theorem r_exp : FloatOps.hostUnary (F := Ideal) (φ := .f32) .exp (a : EReal) = ((Real.exp a : ℝ) : EReal) := rfl
theorem r_log (h : 0 < a) : FloatOps.hostUnary (F := Ideal) (φ := .f32) .log (a : EReal) = ((Real.log a : ℝ) : EReal) :=
  log_real a h
theorem r_div (h : b ≠ 0) : FloatOps.hostDivf (F := Ideal) (φ := .f32) (a : EReal) (b : EReal) = ((a / b : ℝ) : EReal) :=
  div_real a b h

end Ops

/-- The maximum, from −∞, of a list whose entries are real where `p` holds and −∞ elsewhere. -/
theorem fold_masked_max {n : Nat} (p : Fin n → Prop) [DecidablePred p] (f : Fin n → ℝ) (hne : (Finset.univ.filter p).Nonempty) :
    Finset.fold max (⊥ : EReal) (fun j => if p j then ((f j : ℝ) : EReal) else ⊥) Finset.univ
      = (((Finset.univ.filter p).sup' hne f : ℝ) : EReal) := by
  have h : Finset.fold max (⊥ : EReal) (fun j => if p j then ((f j : ℝ) : EReal) else ⊥) Finset.univ
      = Finset.univ.sup (fun j => if p j then ((f j : ℝ) : EReal) else ⊥) := rfl
  rw [h]
  apply le_antisymm
  · refine Finset.sup_le fun j _ => ?_
    split
    · rename_i hp
      exact EReal.coe_le_coe_iff.mpr (Finset.le_sup' f (Finset.mem_filter.mpr ⟨Finset.mem_univ _, hp⟩))
    · exact bot_le
  · obtain ⟨j, hj, e⟩ := Finset.exists_mem_eq_sup' hne f
    rw [e]
    have := Finset.le_sup (f := fun j => if p j then ((f j : ℝ) : EReal) else ⊥) (Finset.mem_univ j)
    rwa [if_pos (Finset.mem_filter.mp hj).2] at this

/-- A sum of zeros and ones of which one is one is not zero. -/
theorem count_ne_zero {n : Nat} (b : Fin n → BitVec 1) (j : Fin n) (hj : b j = 1#1) :
    (∑ k : Fin n, (((b k).toNat : ℝ) : EReal)) ≠ 0 := by
  rw [← coe_sum]
  have : 0 < ∑ k : Fin n, ((b k).toNat : ℝ) :=
    Finset.sum_pos' (fun k _ => by positivity) ⟨j, Finset.mem_univ _, by rw [hj]; simp⟩
  exact_mod_cast this.ne'

/-- The word of a decided proposition. -/
def bit (p : Prop) [Decidable p] : BitVec 1 := BitVec.ofBool (decide p)

theorem select_bit {α : Type} (p : Prop) [Decidable p] (a b : α) : Scalar.select (bit p) a b = if p then a else b := by
  unfold bit Scalar.select
  by_cases h : p <;> simp [h]

theorem ofBool_and (a b : Bool) : IntOp.andi (BitVec.ofBool a) (BitVec.ofBool b) = BitVec.ofBool (a && b) := by
  cases a <;> cases b <;> rfl
theorem ofBool_or (a b : Bool) : IntOp.ori (BitVec.ofBool a) (BitVec.ofBool b) = BitVec.ofBool (a || b) := by
  cases a <;> cases b <;> rfl

theorem toInt_small (a : Nat) (ha : a < 2 ^ 31) : (BitVec.ofNat 32 a).toInt = a := by
  rw [BitVec.toInt_eq_toNat_of_lt] <;> simp <;> omega

end Cert.Attn

end
-- ==== Proof.RefA.lean ====
module

public import proofs.«01_k».proof.Proof.Gen.ReferenceIdeal.Read
public import proofs.«01_k».proof.Proof.Reals

@[expose] public section

set_option maxRecDepth 16384

noncomputable section

namespace Cert.Attn

open Cert.ReferenceIdeal Cert.ReferenceIdeal.Gen Cert.ReferenceIdeal.Read
open Idealize.ShloMosaic Idealize.ShloMosaic.TcCoe Idealize.SL.Sem

/-! # The reference's forward operations on real arguments -/

abbrev A3 := FVec Ideal S4096x4x128 .f32
abbrev A2 := FVec Ideal S4096x4 .f32

/-- A real array as a contents over the extended reals. -/
def up3 (t : Tok) : A3 := fun j => ((t (j 0) (j 1) (j 2) : ℝ) : EReal)
def up2 (t : Row) : A2 := fun j => ((t (j 0) (j 1) : ℝ) : EReal)
theorem up3_at (t : Tok) (a : Fin 4096) (b : Fin 4) (c : Fin 128) : up3 t (ix3 a b c) = ((t a b c : ℝ) : EReal) := rfl
theorem up2_at (t : Row) (a : Fin 4096) (b : Fin 4) : up2 t (ix2 a b) = ((t a b : ℝ) : EReal) := rfl

theorem v2_at (t : Tok) (r : Fin 4) (n : Fin 8) (i : Fin 128) (h : Fin 4) (e : Fin 128) :
    val_main_v2 (F := Ideal) (up3 t) (ix5 r n i h e) = ((t (tok r n i) h e : ℝ) : EReal) := by
  pointwise [val_main_v2, val_main_v1, val_main_v0]
  rfl

theorem v11_at (t : Tok) (r : Fin 4) (n : Fin 8) (j : Fin 256) (h : Fin 4) (e : Fin 128) :
    val_main_v11 (F := Ideal) (up3 t) (ix5 r n j h e) = ((key t r n j h e : ℝ) : EReal) := by
  pointwise [val_main_v11, val_main_v9, val_main_v8, val_main_v7, val_main_cst, val_main_v5, val_main_v4, val_main_v3]
  unfold key
  by_cases h1 : j.val < 128
  · rw [dif_pos h1, dif_neg (not_le.mpr h1)]
    by_cases h2 : n.val < 1
    · rw [dif_pos h2, if_neg (show ¬ 0 < n.val by omega)]; rfl
    · rw [dif_neg h2, if_pos (show 0 < n.val by omega)]; rfl
  · rw [dif_neg h1, dif_pos (not_lt.mp h1)]; rfl

theorem v20_at (t : Tok) (r : Fin 4) (n : Fin 8) (j : Fin 256) (h : Fin 4) (e : Fin 128) :
    val_main_v20 (F := Ideal) (up3 t) (ix5 r n j h e) = ((key t r n j h e : ℝ) : EReal) := by
  pointwise [val_main_v20, val_main_v18, val_main_v17, val_main_v16, val_main_cst_1, val_main_v14, val_main_v13, val_main_v12]
  unfold key
  by_cases h1 : j.val < 128
  · rw [dif_pos h1, dif_neg (not_le.mpr h1)]
    by_cases h2 : n.val < 1
    · rw [dif_pos h2, if_neg (show ¬ 0 < n.val by omega)]; rfl
    · rw [dif_neg h2, if_pos (show 0 < n.val by omega)]; rfl
  · rw [dif_neg h1, dif_pos (not_lt.mp h1)]; rfl

theorem mask_word (n : Fin 8) (i : Fin 128) (j : Fin 256) : IntOp.andi
      (IntOp.andi
        (IntOp.cmpi CmpIPredicate.sge (IntOp.subi (IntOp.addi (128#32) (BitVec.ofNat 32 ↑i)) (BitVec.ofNat 32 ↑j)) 0#32)
        (IntOp.cmpi CmpIPredicate.sle (IntOp.subi (IntOp.addi (128#32) (BitVec.ofNat 32 ↑i)) (BitVec.ofNat 32 ↑j))
          128#32))
      (IntOp.ori (IntOp.cmpi CmpIPredicate.sgt (BitVec.ofNat 32 ↑n) 0#32)
        (IntOp.cmpi CmpIPredicate.sge (BitVec.ofNat 32 ↑j) 128#32)) = bit (valid n i j) := by
  have hd : (IntOp.subi (IntOp.addi (128#32) (BitVec.ofNat 32 ↑i)) (BitVec.ofNat 32 ↑j)).toInt = 128 + (i.val : Int) - j.val := by
    unfold IntOp.subi IntOp.addi
    rw [BitVec.toInt_sub, BitVec.toInt_add, toInt_small i.val (by omega), toInt_small j.val (by omega),
      show (128#32).toInt = 128 by decide]
    have hi := i.isLt; have hj := j.isLt
    rw [Int.bmod_eq_of_le (n := 128 + (i.val : Int)) (by omega) (by omega)]
    apply Int.bmod_eq_of_le <;> omega
  rw [WordCmp.cmpi_sge_eq, WordCmp.cmpi_sle_eq, WordCmp.cmpi_sgt_eq, WordCmp.cmpi_sge_eq, hd, toInt_small n.val (by omega), toInt_small j.val (by omega),
    show (128#32).toInt = 128 by decide, show (0#32).toInt = 0 by decide, ofBool_and, ofBool_or, ofBool_and]
  unfold bit valid
  congr 1
  rw [← Bool.decide_and, ← Bool.decide_or, ← Bool.decide_and]
  apply decide_eq_decide.mpr
  omega

theorem v55_1_at (r : Fin 4) (n : Fin 8) (h : Fin 4) (i : Fin 128) (j : Fin 256) :
    val_main_v55_1 (F := Ideal) (ix5 r n h i j) = bit (valid n i j) := by
  pointwise [val_main_v55_1, val_main_v54, val_main_v53, val_main_v52, val_main_v51, val_main_v50, val_main_v49, val_main_v48,
    val_main_v47, val_main_v46, val_main_v45, val_main_v44, val_main_v43, val_main_v42, val_main_v41, val_main_v40,
    val_main_v39, val_main_v38, val_main_v37, val_main_v36, val_main_v35, val_main_v34, val_main_v33, val_main_v32,
    val_main_v31, val_main_v30, val_main_v29, val_main_v28, val_main_v27, val_main_v26, val_main_v25, val_main_v24,
    val_main_c, val_main_c_4, val_main_c_5, val_main_c_6, val_main_c_7]
  exact mask_word n i j

variable (x : Args)

theorem v23_at (r : Fin 4) (n : Fin 8) (h : Fin 4) (i : Fin 128) (j : Fin 256) :
    val_main_v23 (F := Ideal) (up3 x.q) (up3 x.k) (ix5 r n h i j) = ((score x r n h i j : ℝ) : EReal) := by
  pointwise [val_main_v23, val_main_v22, val_main_cst_3, val_main_v21]
  simp only [v2_at, v11_at, scale_word, ← EReal.coe_mul, ← coe_sum]
  rfl

theorem v55_at (r : Fin 4) (n : Fin 8) (h : Fin 4) (i : Fin 128) (j : Fin 256) :
    val_main_v55_0 (F := Ideal) (up3 x.q) (up3 x.k) (ix5 r n h i j)
      = if valid n i j then ((score x r n h i j : ℝ) : EReal) else ⊥ := by
  rw [val_main_v55_0_apply, v55_1_at, select_bit, v23_at]
  have e : val_main_call0_v2 (F := Ideal) (ix5 r n h i j) = ⊥ := by
    pointwise [val_main_call0_v2, val_main_call0_v0, val_main_cst_8]
    exact ninf_word
  rw [e]

theorem v56_at (r : Fin 4) (n : Fin 8) (h : Fin 4) (i : Fin 128) :
    val_main_v56 (F := Ideal) (up3 x.q) (up3 x.k) (ix4 r n h i) = ((top x r n h i : ℝ) : EReal) := by
  pointwise [val_main_v56, val_main_cst_9]
  simp only [v55_at]
  erw [ninf_word]
  exact fold_masked_max _ _ _

theorem v65_at (r : Fin 4) (n : Fin 8) (h : Fin 4) (i : Fin 128) (j : Fin 256) :
    val_main_v65 (F := Ideal) (up3 x.q) (up3 x.k) (ix5 r n h i j) = ((ex x r n h i j : ℝ) : EReal) := by
  pointwise [val_main_v65, val_main_v64, val_main_v63, val_main_v62]
  rw [v55_at, v56_at]
  unfold ex
  split
  · rw [← EReal.coe_sub]; rfl
  · rw [EReal.bot_sub]; rfl

theorem v66_at (r : Fin 4) (n : Fin 8) (h : Fin 4) (i : Fin 128) :
    val_main_v66 (F := Ideal) (up3 x.q) (up3 x.k) (ix4 r n h i) = ((den x r n h i : ℝ) : EReal) := by
  pointwise [val_main_v66, val_main_cst_11]
  simp only [v65_at, ← coe_sum]
  rfl

theorem v67_at (r : Fin 4) (n : Fin 8) (h : Fin 4) (i : Fin 128) (u : Fin 1) :
    val_main_v67 (F := Ideal) (up3 x.q) (up3 x.k) (ix5 r n h i u) = ((den x r n h i : ℝ) : EReal) := by
  pointwise [val_main_v67]
  exact v66_at x r n h i

theorem v69_at (r : Fin 4) (n : Fin 8) (h : Fin 4) (i : Fin 128) (j : Fin 256) :
    val_main_v69 (F := Ideal) (up3 x.q) (up3 x.k) (ix5 r n h i j) = ((prob x r n h i j : ℝ) : EReal) := by
  pointwise [val_main_v69, val_main_v68]
  rw [v65_at, v67_at, div_real _ _ (den_pos x r n h i).ne']
  rfl

theorem v73_at (r : Fin 4) (n : Fin 8) (h : Fin 4) (e i : Fin 128) :
    val_main_v73 (F := Ideal) (up3 x.q) (up3 x.k) (up3 x.v) (ix5 r n h e i) = ((outB x r n h e i : ℝ) : EReal) := by
  pointwise [val_main_v73]
  simp only [v20_at, v69_at, ← EReal.coe_mul, ← coe_sum]
  rfl

theorem v80_at (t : Fin 4096) (h : Fin 4) (e : Fin 128) :
    val_main_v80 (F := Ideal) (up3 x.q) (up3 x.k) (up3 x.v) (ix3 t h e) = ((o1 x t h e : ℝ) : EReal) := by
  pointwise [val_main_v80, val_main_v79, val_main_v78, val_main_v74]
  have e1 : (⟨t.val / 4 / 128, by omega⟩ : Fin 8) = blkOf t := Fin.ext (by simp only [blkOf]; omega)
  rw [e1]
  exact v73_at x (resOf t) (blkOf t) h e (posOf t)

end Cert.Attn

end
-- ==== Proof.RefB.lean ====
module

public import proofs.«01_k».proof.Proof.RefA

@[expose] public section

set_option maxRecDepth 16384

noncomputable section

namespace Cert.Attn

open Cert.ReferenceIdeal Cert.ReferenceIdeal.Gen Cert.ReferenceIdeal.Read
open Idealize.ShloMosaic Idealize.ShloMosaic.TcCoe Idealize.SL.Sem

variable (x : Args)

theorem idx77 (r : Fin 4) (n : Fin 8) (h : Fin 4) (i : Fin 128) :
    idx_main_v77 (ix4 r n h i) = ix5 r n h i 0 := by
    funext a
    have hr := r.isLt; have hn := n.isLt; have hh := h.isLt; have hi := i.isLt
    match a with
    | ⟨0, _⟩ => exact Fin.ext (by show (((r.val * 8 + n.val) * 4 + h.val) * 128 + i.val) / 4096 = r.val; omega)
    | ⟨1, _⟩ => exact Fin.ext (by show (((r.val * 8 + n.val) * 4 + h.val) * 128 + i.val) / 512 % 8 = n.val; omega)
    | ⟨2, _⟩ => exact Fin.ext (by show (((r.val * 8 + n.val) * 4 + h.val) * 128 + i.val) / 128 % 4 = h.val; omega)
    | ⟨3, _⟩ => exact Fin.ext (by show (((r.val * 8 + n.val) * 4 + h.val) * 128 + i.val) / 1 % 128 = i.val; omega)
    | ⟨4, _⟩ => rfl

theorem v62_at (r : Fin 4) (n : Fin 8) (h : Fin 4) (i : Fin 128) (u : Fin 1) :
    val_main_v62 (F := Ideal) (up3 x.q) (up3 x.k) (ix5 r n h i u) = ((top x r n h i : ℝ) : EReal) := by
  pointwise [val_main_v62]
  exact v56_at x r n h i
theorem v76_at (r : Fin 4) (n : Fin 8) (h : Fin 4) (i : Fin 128) (u : Fin 1) :
    val_main_v76 (F := Ideal) (up3 x.q) (up3 x.k) (ix5 r n h i u) = ((lseB x r n h i : ℝ) : EReal) := by
  rw [val_main_v76_apply, val_main_v75_apply, v62_at, v67_at]
  show ((top x r n h i : ℝ) : EReal) + Ideal.log ((den x r n h i : ℝ) : EReal) = _
  rw [log_real _ (den_pos x r n h i), ← EReal.coe_add]
  rfl

theorem v77_at (r : Fin 4) (n : Fin 8) (h : Fin 4) (i : Fin 128) :
    val_main_v77 (F := Ideal) (up3 x.q) (up3 x.k) (ix4 r n h i) = ((lseB x r n h i : ℝ) : EReal) := by
  rw [val_main_v77_apply, idx77, v76_at]

theorem v84_at (t : Fin 4096) (h : Fin 4) :
    val_main_v84 (F := Ideal) (up3 x.q) (up3 x.k) (ix2 t h) = ((l1 x t h : ℝ) : EReal) := by
  pointwise [val_main_v84, val_main_v83, val_main_v82, val_main_v81]
  have e1 : (⟨t.val / 4 / 128, by omega⟩ : Fin 8) = blkOf t := Fin.ext (by simp only [blkOf]; omega)
  rw [e1]
  exact v77_at x (resOf t) (blkOf t) h (posOf t)

end Cert.Attn

end
-- ==== Proof.RefC.lean ====
module

public import proofs.«01_k».proof.Proof.RefB

@[expose] public section

set_option maxRecDepth 16384

noncomputable section

namespace Cert.Attn

open Cert.ReferenceIdeal Cert.ReferenceIdeal.Gen Cert.ReferenceIdeal.Read
open Idealize.ShloMosaic Idealize.ShloMosaic.TcCoe Idealize.SL.Sem

/-! # The reference's mixture of the three groups and the gradient of it -/

variable (x : Args)

theorem v93_at (t : Fin 4096) (h : Fin 4) :
    val_main_v93 (F := Ideal) (up3 x.q) (up3 x.k) (up2 x.l0) (up2 x.l2) (ix2 t h) = ((mx x t h : ℝ) : EReal) := by
  rw [val_main_v93_apply, val_main_v85_apply, v84_at, up2_at, up2_at, r_max, r_max, mx]

theorem v102_at (t : Fin 4096) (h : Fin 4) :
    val_main_v102 (F := Ideal) (up3 x.q) (up3 x.k) (up2 x.l0) (up2 x.l2) (ix2 t h) = ((e0 x t h : ℝ) : EReal) := by
  rw [val_main_v102_apply, val_main_v101_apply, v93_at, up2_at, r_sub, r_exp, e0]

theorem v104_at (t : Fin 4096) (h : Fin 4) :
    val_main_v104 (F := Ideal) (up3 x.q) (up3 x.k) (up2 x.l0) (up2 x.l2) (ix2 t h) = ((e1 x t h : ℝ) : EReal) := by
  rw [val_main_v104_apply, val_main_v103_apply, v93_at, v84_at, r_sub, r_exp, e1]

theorem v106_at (t : Fin 4096) (h : Fin 4) :
    val_main_v106 (F := Ideal) (up3 x.q) (up3 x.k) (up2 x.l0) (up2 x.l2) (ix2 t h) = ((e2 x t h : ℝ) : EReal) := by
  rw [val_main_v106_apply, val_main_v105_apply, v93_at, up2_at, r_sub, r_exp, e2]

theorem v108_at (t : Fin 4096) (h : Fin 4) :
    val_main_v108 (F := Ideal) (up3 x.q) (up3 x.k) (up2 x.l0) (up2 x.l2) (ix2 t h) = ((z x t h : ℝ) : EReal) := by
  rw [val_main_v108_apply, val_main_v107_apply, v102_at, v104_at, v106_at, r_add, r_add, z]

theorem v111_at (t : Fin 4096) (h : Fin 4) : val_main_v111 (F := Ideal) (ix2 t h) = ((1 : ℝ) : EReal) := by
  rw [val_main_v111_apply]; exact one_word

theorem v112_at (t : Fin 4096) (h : Fin 4) :
    val_main_v112 (F := Ideal) (up3 x.q) (up3 x.k) (up2 x.l0) (up2 x.l2) (ix2 t h) = ((1 / (z x t h * z x t h) : ℝ) : EReal) := by
  rw [val_main_v112_apply, val_main_v110_apply, v108_at, v111_at, r_mul, r_div _ _ (mul_ne_zero (z_pos x t h).ne' (z_pos x t h).ne')]

theorem v118_at (t : Fin 4096) (h : Fin 4) : val_main_v118 (F := Ideal) (ix2 t h) = ((1 : ℝ) : EReal) := by
  rw [val_main_v118_apply]; exact one_word

theorem v119_at (t : Fin 4096) (h : Fin 4) :
    val_main_v119 (F := Ideal) (up3 x.q) (up3 x.k) (up2 x.l0) (up2 x.l2) (ix2 t h) = ((1 / (z x t h * z x t h) : ℝ) : EReal) := by
  rw [val_main_v119_apply, val_main_v117_apply, v108_at, v118_at, r_mul, r_div _ _ (mul_ne_zero (z_pos x t h).ne' (z_pos x t h).ne')]

theorem v126_at (t : Fin 4096) (h : Fin 4) : val_main_v126 (F := Ideal) (ix2 t h) = ((1 : ℝ) : EReal) := by
  rw [val_main_v126_apply]; exact one_word

theorem v127_at (t : Fin 4096) (h : Fin 4) :
    val_main_v127 (F := Ideal) (up3 x.q) (up3 x.k) (up2 x.l0) (up2 x.l2) (ix2 t h) = ((1 / (z x t h * z x t h) : ℝ) : EReal) := by
  rw [val_main_v127_apply, val_main_v125_apply, v108_at, v126_at, r_mul, r_div _ _ (mul_ne_zero (z_pos x t h).ne' (z_pos x t h).ne')]

theorem v137_at (t : Fin 4096) (h : Fin 4) :
    val_main_v137 (F := Ideal) (up3 x.o2) (up3 x.ct) (ix2 t h) = ((c2 x t h : ℝ) : EReal) := by
  pointwise [val_main_v137, val_main_v136, val_main_v135, val_main_v134, val_main_v133, val_main_cst_22, val_main_cst_23]
  simp only [up3_at, ← EReal.coe_mul, ← coe_sum, Fin.sum_univ_one]
  rfl

theorem v144_at (t : Fin 4096) (h : Fin 4) :
    val_main_v144 (F := Ideal) (up3 x.q) (up3 x.k) (up3 x.v) (up3 x.ct) (ix2 t h) = ((c1 x t h : ℝ) : EReal) := by
  have e : ∀ k : Fin 128, val_main_v143 (F := Ideal) (up3 x.q) (up3 x.k) (up3 x.v) (up3 x.ct) (ix3 t h k) = ((x.ct t h k * o1 x t h k : ℝ) : EReal) := fun k => by
    rw [val_main_v143_apply, v80_at, show val_main_v132 (F := Ideal) (up3 x.ct) (ix3 t h k) = ((x.ct t h k : ℝ) : EReal) by
      pointwise [val_main_v132]; rfl]
    exact r_mul _ _
  pointwise [val_main_v144, val_main_cst_24]
  simp only [e, ← coe_sum]
  rfl

theorem v146_at (t : Fin 4096) (h : Fin 4) :
    val_main_v146 (F := Ideal) (up3 x.q) (up3 x.k) (up3 x.v) (up3 x.ct) (ix2 t h) = ((c1 x t h : ℝ) : EReal) := by
  pointwise [val_main_v146, val_main_v145, val_main_cst_25]
  simp only [v144_at, ← coe_sum, Fin.sum_univ_one]

theorem v156_at (t : Fin 4096) (h : Fin 4) :
    val_main_v156 (F := Ideal) (up3 x.o0) (up3 x.ct) (ix2 t h) = ((c0 x t h : ℝ) : EReal) := by
  pointwise [val_main_v156, val_main_v155, val_main_v154, val_main_v153, val_main_v132, val_main_cst_26, val_main_cst_27]
  simp only [up3_at, ← EReal.coe_mul, ← coe_sum, Fin.sum_univ_one]
  rfl

theorem v140_at (t : Fin 4096) (h : Fin 4) :
    val_main_v140 (F := Ideal) (up3 x.q) (up3 x.k) (up2 x.l0) (up3 x.o2) (up2 x.l2) (up3 x.ct) (ix2 t h) = ((-(c2 x t h * (1 / (z x t h * z x t h)) * e2 x t h) : ℝ) : EReal) := by
  rw [val_main_v140_apply, val_main_v139_apply, val_main_v138_apply, v137_at, v127_at, v106_at, r_mul, r_mul, r_neg]

theorem v149_at (t : Fin 4096) (h : Fin 4) :
    val_main_v149 (F := Ideal) (up3 x.q) (up3 x.k) (up3 x.v) (up2 x.l0) (up2 x.l2) (up3 x.ct) (ix2 t h) = ((-(c1 x t h * (1 / (z x t h * z x t h)) * e1 x t h) : ℝ) : EReal) := by
  rw [val_main_v149_apply, val_main_v148_apply, val_main_v147_apply, v146_at, v119_at, v104_at, r_mul, r_mul, r_neg]

theorem v159_at (t : Fin 4096) (h : Fin 4) :
    val_main_v159 (F := Ideal) (up3 x.q) (up3 x.k) (up3 x.o0) (up2 x.l0) (up2 x.l2) (up3 x.ct) (ix2 t h) = ((-(c0 x t h * (1 / (z x t h * z x t h)) * e0 x t h) : ℝ) : EReal) := by
  rw [val_main_v159_apply, val_main_v158_apply, val_main_v157_apply, v156_at, v112_at, v102_at, r_mul, r_mul, r_neg]

theorem v151_at (t : Fin 4096) (h : Fin 4) :
    val_main_v151 (F := Ideal) (up3 x.q) (up3 x.k) (up3 x.v) (up2 x.l0) (up2 x.l2) (up3 x.ct) (ix2 t h) = ((c1 x t h / z x t h : ℝ) : EReal) := by
  rw [val_main_v151_apply, v146_at, v108_at, r_div _ _ (z_pos x t h).ne']

theorem v161_at (t : Fin 4096) (h : Fin 4) :
    val_main_v161 (F := Ideal) (up3 x.q) (up3 x.k) (up3 x.v) (up3 x.o0) (up2 x.l0) (up3 x.o2) (up2 x.l2) (up3 x.ct) (ix2 t h) = ((dl x t h : ℝ) : EReal) := by
  rw [val_main_v161_apply, val_main_v160_apply, val_main_v152_apply, val_main_v150_apply, v140_at, v149_at, v151_at,
    v159_at, v104_at, r_add, r_add, r_add, r_mul, dl]

theorem v165_at (r : Fin 4) (n : Fin 8) (h : Fin 4) (i : Fin 128) :
    val_main_v165 (F := Ideal) (up3 x.q) (up3 x.k) (up3 x.v) (up3 x.o0) (up2 x.l0) (up3 x.o2) (up2 x.l2) (up3 x.ct) (ix4 r n h i)
      = ((dl x (tok r n i) h : ℝ) : EReal) := by
  pointwise [val_main_v165, val_main_v164, val_main_v163, val_main_v162]
  exact v161_at x (tok r n i) h

theorem v116_at (t : Fin 4096) (h : Fin 4) :
    val_main_v116 (F := Ideal) (up3 x.q) (up3 x.k) (up2 x.l0) (up2 x.l2) (ix2 t h) = ((al x t h : ℝ) : EReal) := by
  rw [val_main_v116_apply, v104_at, v108_at, r_div _ _ (z_pos x t h).ne', al]

theorem v142_at (t : Fin 4096) (h : Fin 4) (e : Fin 128) :
    val_main_v142 (F := Ideal) (up3 x.q) (up3 x.k) (up2 x.l0) (up2 x.l2) (up3 x.ct) (ix3 t h e) = ((al x t h * x.ct t h e : ℝ) : EReal) := by
  have e1 : val_main_v141 (F := Ideal) (up3 x.q) (up3 x.k) (up2 x.l0) (up2 x.l2) (ix3 t h e) = ((al x t h : ℝ) : EReal) := by
    pointwise [val_main_v141, val_main_v120]
    exact v116_at x t h
  rw [val_main_v142_apply, e1, show val_main_v132 (F := Ideal) (up3 x.ct) (ix3 t h e) = ((x.ct t h e : ℝ) : EReal) by
      pointwise [val_main_v132]; rfl]
  exact r_mul _ _

theorem v171_at (r : Fin 4) (n : Fin 8) (h : Fin 4) (e i : Fin 128) :
    val_main_v171 (F := Ideal) (up3 x.q) (up3 x.k) (up2 x.l0) (up2 x.l2) (up3 x.ct) (ix5 r n h e i)
      = ((al x (tok r n i) h * x.ct (tok r n i) h e : ℝ) : EReal) := by
  pointwise [val_main_v171, val_main_v168, val_main_v167, val_main_v166]
  exact v142_at x (tok r n i) h e

end Cert.Attn

end
-- ==== Proof.Host.lean ====
module

public import proofs.«01_k».proof.Proof.Gen.KernelIdeal.Value
public import proofs.«01_k».proof.Proof.RefC
public import Idealize.ShloMosaic.Lib.Claim

@[expose] public section

set_option maxRecDepth 16384

noncomputable section

namespace Cert.Attn

open Cert.KernelIdeal Cert.KernelIdeal.Gen Idealize.ShloMosaic.StableHlo
open Idealize.ShloMosaic Idealize.ShloMosaic.TcCoe Idealize.SL.Sem

/-! # What the kernel's host lines hand to the call -/

/-- A vector of the shape and element named. -/
abbrev fv (s : Shape) (e : FTy) (t : FVec Ideal s e) : FVec Ideal s e := t

/-- The contents of a buffer in a valuation. -/
abbrev at' (σ : Valuation τ sig (Elt Ideal)) (b : Ref sig .tc) := σ (Proc.devRef .tc b)

theorem after_append (l₁ l₂ : List (HloOp τ sig (Elt Ideal))) (σ : Valuation τ sig (Elt Ideal)) :
    after (l₁ ++ l₂) σ = after l₂ (after l₁ σ) := by
  induction l₁ generalizing σ with
  | nil => rfl
  | cons op l ih => exact ih _

abbrev L1 : List (HloOp τ sig (Elt Ideal)) := (hostOps0_2.drop 0).take 11
abbrev L2 : List (HloOp τ sig (Elt Ideal)) := (hostOps0_2.drop 11).take 16
abbrev L3 : List (HloOp τ sig (Elt Ideal)) := (hostOps0_2.drop 27).take 12
abbrev L4 : List (HloOp τ sig (Elt Ideal)) := (hostOps0_2.drop 39).take 20
abbrev L5 : List (HloOp τ sig (Elt Ideal)) := (hostOps0_2.drop 59).take 10

variable (σ : Valuation τ sig (Elt Ideal))

theorem s55 : @Eq (FVec Ideal S4x8x4x128x1 .f32) (at' (after L1 σ) main_v67) <|
    broadcastInDim S4x8x4x128x1 ![0, 1, 2, 3] bcast_S4x8x4x128_S4x8x4x128x1_0_1_2_3 (Host.reduce FloatOps.maximumf (fv S4x8x4x128x256 .f32 (at' σ main_v65)) (constant S_ .f32 0xFF800000#32) reducesTo_S4x8x4x128x256_S4x8x4x128_d4 h_S_) := by
  simp only [at', L1, hostOps0_2, List.drop_succ_cons, List.drop_zero, List.take_succ_cons, List.take_zero]
  entry_read
  rfl

theorem s60 : @Eq (FVec Ideal S4x8x4x128x1 .f32) (at' (after L1 σ) main_v72) <|
    broadcastInDim S4x8x4x128x1 ![0, 1, 2, 3] bcast_S4x8x4x128_S4x8x4x128x1_0_1_2_3 (Host.reduceAdd (Host.exp (subf (fv S4x8x4x128x256 .f32 (at' σ main_v65)) (broadcastInDim S4x8x4x128x256 ![0, 1, 2, 3, 4] bcast_S4x8x4x128x1_S4x8x4x128x256_0_1_2_3_4 (broadcastInDim S4x8x4x128x1 ![0, 1, 2, 3] bcast_S4x8x4x128_S4x8x4x128x1_0_1_2_3 (Host.reduce FloatOps.maximumf (fv S4x8x4x128x256 .f32 (at' σ main_v65)) (constant S_ .f32 0xFF800000#32) reducesTo_S4x8x4x128x256_S4x8x4x128_d4 h_S_))))) (constant S_ .f32 0x00000000#32) reducesTo_S4x8x4x128x256_S4x8x4x128_d4 h_S_) := by
  simp only [at', L1, hostOps0_2, List.drop_succ_cons, List.drop_zero, List.take_succ_cons, List.take_zero]
  entry_read
  rfl

theorem s62 : @Eq (FVec Ideal S4x8x4x128x256 .f32) (at' (after L1 σ) main_v74) <|
    Host.divf (Host.exp (subf (fv S4x8x4x128x256 .f32 (at' σ main_v65)) (broadcastInDim S4x8x4x128x256 ![0, 1, 2, 3, 4] bcast_S4x8x4x128x1_S4x8x4x128x256_0_1_2_3_4 (broadcastInDim S4x8x4x128x1 ![0, 1, 2, 3] bcast_S4x8x4x128_S4x8x4x128x1_0_1_2_3 (Host.reduce FloatOps.maximumf (fv S4x8x4x128x256 .f32 (at' σ main_v65)) (constant S_ .f32 0xFF800000#32) reducesTo_S4x8x4x128x256_S4x8x4x128_d4 h_S_))))) (broadcastInDim S4x8x4x128x256 ![0, 1, 2, 3, 4] bcast_S4x8x4x128x1_S4x8x4x128x256_0_1_2_3_4 (broadcastInDim S4x8x4x128x1 ![0, 1, 2, 3] bcast_S4x8x4x128_S4x8x4x128x1_0_1_2_3 (Host.reduceAdd (Host.exp (subf (fv S4x8x4x128x256 .f32 (at' σ main_v65)) (broadcastInDim S4x8x4x128x256 ![0, 1, 2, 3, 4] bcast_S4x8x4x128x1_S4x8x4x128x256_0_1_2_3_4 (broadcastInDim S4x8x4x128x1 ![0, 1, 2, 3] bcast_S4x8x4x128_S4x8x4x128x1_0_1_2_3 (Host.reduce FloatOps.maximumf (fv S4x8x4x128x256 .f32 (at' σ main_v65)) (constant S_ .f32 0xFF800000#32) reducesTo_S4x8x4x128x256_S4x8x4x128_d4 h_S_))))) (constant S_ .f32 0x00000000#32) reducesTo_S4x8x4x128x256_S4x8x4x128_d4 h_S_))) := by
  simp only [at', L1, hostOps0_2, List.drop_succ_cons, List.drop_zero, List.take_succ_cons, List.take_zero]
  entry_read
  rfl

theorem s70 : @Eq (FVec Ideal S4096x4x128 .f32) (at' (after L2 σ) main_v86) <|
    shapeCast S4096x4x128 (transpose S1024x4x4x128 [1, 0, 2, 3] (shapeCast S4x1024x4x128 (transpose S4x8x128x4x128 [0, 1, 4, 2, 3] (Host.dotGeneral dot_S4x8x256x4x128_S4x8x4x128x256_S4x8x4x128x128_2_4_4_3_013_012 none (fv S4x8x256x4x128 .f32 (at' σ main_v30)) (fv S4x8x4x128x256 .f32 (at' σ main_v74))) transposes_S4x8x4x128x128_S4x8x128x4x128_0_1_4_2_3) shapeCasts_S4x8x128x4x128_S4x1024x4x128) transposes_S4x1024x4x128_S1024x4x4x128_1_0_2_3) shapeCasts_S1024x4x4x128_S4096x4x128 := by
  simp only [at', L2, hostOps0_2, List.drop_succ_cons, List.drop_zero, List.take_succ_cons, List.take_zero]
  entry_read
  rfl

theorem s74 : @Eq (FVec Ideal S4096x4 .f32) (at' (after L2 σ) main_v90) <|
    shapeCast S4096x4 (transpose S1024x4x4 [1, 0, 2] (shapeCast S4x1024x4 (transpose S4x8x128x4 [0, 1, 3, 2] (shapeCast S4x8x4x128 (addf (fv S4x8x4x128x1 .f32 (at' σ main_v67)) (Host.log (fv S4x8x4x128x1 .f32 (at' σ main_v72)))) shapeCasts_S4x8x4x128x1_S4x8x4x128) transposes_S4x8x4x128_S4x8x128x4_0_1_3_2) shapeCasts_S4x8x128x4_S4x1024x4) transposes_S4x1024x4_S1024x4x4_1_0_2) shapeCasts_S1024x4x4_S4096x4 := by
  simp only [at', L2, hostOps0_2, List.drop_succ_cons, List.drop_zero, List.take_succ_cons, List.take_zero]
  entry_read
  rfl

theorem s86 : @Eq (FVec Ideal S4096x4 .f32) (at' (after L3 σ) main_v102) <|
    addf (maximumf (maximumf (fv S4096x4 .f32 (at' σ main_arg4)) (fv S4096x4 .f32 (at' σ main_v90))) (fv S4096x4 .f32 (at' σ main_arg6))) (Host.log (addf (addf (Host.exp (subf (fv S4096x4 .f32 (at' σ main_arg4)) (maximumf (maximumf (fv S4096x4 .f32 (at' σ main_arg4)) (fv S4096x4 .f32 (at' σ main_v90))) (fv S4096x4 .f32 (at' σ main_arg6))))) (Host.exp (subf (fv S4096x4 .f32 (at' σ main_v90)) (maximumf (maximumf (fv S4096x4 .f32 (at' σ main_arg4)) (fv S4096x4 .f32 (at' σ main_v90))) (fv S4096x4 .f32 (at' σ main_arg6)))))) (Host.exp (subf (fv S4096x4 .f32 (at' σ main_arg6)) (maximumf (maximumf (fv S4096x4 .f32 (at' σ main_arg4)) (fv S4096x4 .f32 (at' σ main_v90))) (fv S4096x4 .f32 (at' σ main_arg6))))))) := by
  simp only [at', L3, hostOps0_2, List.drop_succ_cons, List.drop_zero, List.take_succ_cons, List.take_zero]
  entry_read
  rfl

theorem s105 : @Eq (FVec Ideal S4096x4 .f32) (at' (after L4 σ) main_v121) <|
    Host.reduceAdd (mulf (fv S4096x4x128 .f32 (at' σ main_arg7)) (addf (addf (mulf (broadcastInDim S4096x4x128 ![0, 1, 2] bcast_S4096x4x1_S4096x4x128_0_1_2 (broadcastInDim S4096x4x1 ![0, 1] bcast_S4096x4_S4096x4x1_0_1 (Host.exp (subf (fv S4096x4 .f32 (at' σ main_arg4)) (fv S4096x4 .f32 (at' σ main_v102)))))) (fv S4096x4x128 .f32 (at' σ main_arg3)))
      (mulf (broadcastInDim S4096x4x128 ![0, 1, 2] bcast_S4096x4x1_S4096x4x128_0_1_2 (broadcastInDim S4096x4x1 ![0, 1] bcast_S4096x4_S4096x4x1_0_1 (Host.exp (subf (fv S4096x4 .f32 (at' σ main_v90)) (fv S4096x4 .f32 (at' σ main_v102)))))) (fv S4096x4x128 .f32 (at' σ main_v86)))) (mulf (broadcastInDim S4096x4x128 ![0, 1, 2] bcast_S4096x4x1_S4096x4x128_0_1_2 (broadcastInDim S4096x4x1 ![0, 1] bcast_S4096x4_S4096x4x1_0_1 (Host.exp (subf (fv S4096x4 .f32 (at' σ main_arg6)) (fv S4096x4 .f32 (at' σ main_v102)))))) (fv S4096x4x128 .f32 (at' σ main_arg5)))))
      (constant S_ .f32 0x00000000#32) reducesTo_S4096x4x128_S4096x4_d2 h_S_ := by
  simp only [at', L4, hostOps0_2, List.drop_succ_cons, List.drop_zero, List.take_succ_cons, List.take_zero]
  entry_read
  rfl

/-- Rows by residue and head, as the call takes them. -/
def rowsOf (t : FVec Ideal S4096x4x128 .f32) : FVec Ideal S16x1024x128 .f32 :=
  shapeCast S16x1024x128 (transpose S4x4x1024x128 [1, 2, 0, 3] (shapeCast S1024x4x4x128 t shapeCasts_S4096x4x128_S1024x4x4x128) transposes_S1024x4x4x128_S4x4x1024x128_1_2_0_3) shapeCasts_S4x4x1024x128_S16x1024x128

/-- A number per token and head along all lanes, by the same rows. -/
def lanesOf (t : FVec Ideal S4096x4 .f32) : FVec Ideal S16x1024x128 .f32 :=
  rowsOf (broadcastInDim S4096x4x128 ![0, 1, 2] bcast_S4096x4x1_S4096x4x128_0_1_2 (broadcastInDim S4096x4x1 ![0, 1] bcast_S4096x4_S4096x4x1_0_1 t))

theorem s121 : @Eq (FVec Ideal S16x1024x128 .bf16) (at' (after L2 σ) main_v78) <|
    truncf .bf16 (rowsOf (fv S4096x4x128 .f32 (at' σ main_arg7))) bitsLt_bf16_f32 := by
  simp only [at', L2, hostOps0_2, List.drop_succ_cons, List.drop_zero, List.take_succ_cons, List.take_zero]
  entry_read
  rfl

theorem s126 : @Eq (FVec Ideal S16x1024x128 .f32) (at' (after L5 σ) main_v126) <|
    lanesOf (fv S4096x4 .f32 (at' σ main_v102)) := by
  simp only [at', L5, hostOps0_2, List.drop_succ_cons, List.drop_zero, List.take_succ_cons, List.take_zero]
  entry_read
  rfl

theorem s131 : @Eq (FVec Ideal S16x1024x128 .f32) (at' (after L5 σ) main_v131) <|
    lanesOf (fv S4096x4 .f32 (at' σ main_v121)) := by
  simp only [at', L5, hostOps0_2, List.drop_succ_cons, List.drop_zero, List.take_succ_cons, List.take_zero]
  entry_read
  rfl

/-! Each stretch leaves alone what it does not write. -/

abbrev W1 : List (Ref sig .tc) := [main_cst_7, main_v66, main_v67, main_v68, main_v69, main_v70, main_cst_8, main_v71, main_v72, main_v73, main_v74]

theorem k1 {b : Ref sig .tc} (h : b ∉ W1) : at' (after L1 σ) b = at' σ b :=
  after_of_writes_sub L1 σ (forall_writes_sub_of_map (W := W1) rfl) h

abbrev W2 : List (Ref sig .tc) := [main_v75, main_v76, main_v77, main_v78, main_v79, main_v80, main_v81, main_v82, main_v83, main_v84, main_v85, main_v86, main_v87, main_v88, main_v89, main_v90]

theorem k2 {b : Ref sig .tc} (h : b ∉ W2) : at' (after L2 σ) b = at' σ b :=
  after_of_writes_sub L2 σ (forall_writes_sub_of_map (W := W2) rfl) h

abbrev W3 : List (Ref sig .tc) := [main_v91, main_v92, main_v93, main_v94, main_v95, main_v96, main_v97, main_v98, main_v99, main_v100, main_v101, main_v102]

theorem k3 {b : Ref sig .tc} (h : b ∉ W3) : at' (after L3 σ) b = at' σ b :=
  after_of_writes_sub L3 σ (forall_writes_sub_of_map (W := W3) rfl) h

abbrev W4 : List (Ref sig .tc) := [main_v103, main_v104, main_v105, main_v106, main_v107, main_v108, main_v109, main_v110, main_v111, main_v112, main_v113, main_v114, main_v115, main_v116, main_v117, main_v118, main_v119, main_v120, main_cst_9, main_v121]

theorem k4 {b : Ref sig .tc} (h : b ∉ W4) : at' (after L4 σ) b = at' σ b :=
  after_of_writes_sub L4 σ (forall_writes_sub_of_map (W := W4) rfl) h

abbrev W5 : List (Ref sig .tc) := [main_v122, main_v123, main_v124, main_v125, main_v126, main_v127, main_v128, main_v129, main_v130, main_v131]

theorem k5 {b : Ref sig .tc} (h : b ∉ W5) : at' (after L5 σ) b = at' σ b :=
  after_of_writes_sub L5 σ (forall_writes_sub_of_map (W := W5) rfl) h

variable (m : (ℓ : Loc nD τ sig) → Buf (Elt Ideal) ℓ) (c : Dev nD)

/-- The launch contents of an argument. -/
abbrev A (b : Ref sig .tc) : Buf (Elt Ideal) ((c : Thread nD τ).loc b) := m ((c : Thread nD τ).loc b)

/-- The host's buffers when the scores are masked, and after each further stretch of lines. -/
abbrev σ0 : Valuation τ sig (Elt Ideal) := after (hostOps0 ++ hostOps0_1) (fun b => m (c, b))
abbrev σ1 : Valuation τ sig (Elt Ideal) := after L1 (σ0 m c)
abbrev σ2 : Valuation τ sig (Elt Ideal) := after L2 (σ1 m c)
abbrev σ3 : Valuation τ sig (Elt Ideal) := after L3 (σ2 m c)
abbrev σ4 : Valuation τ sig (Elt Ideal) := after L4 (σ3 m c)

theorem V_eq (b : Ref sig .tc) : V m c b = at' (after L5 (σ4 m c)) b := by
  have h : List.flatten [hostOps0, hostOps0_1, (hostOps0_2 : List (HloOp τ sig (Elt Ideal)))]
      = (((((hostOps0 ++ hostOps0_1) ++ L1) ++ L2) ++ L3) ++ L4) ++ L5 := rfl
  show after _ _ _ = _
  rw [h, after_append, after_append, after_append, after_append, after_append]

theorem keep0 {b : Ref sig .tc} (h : b ∈ [main_arg0, main_arg1, main_arg2, main_arg3, main_arg4, main_arg5, main_arg6, main_arg7]) :
    at' (σ0 m c) b = A m c b := by
  fin_cases h <;> (simp only [at', σ0, hostOps0, hostOps0_1, List.cons_append, List.nil_append]; entry_read; rfl)

theorem t0_v3 : @Eq (FVec Ideal S16x1024x128 .bf16) (at' (σ0 m c) main_v3) <| truncf .bf16 (rowsOf (fv S4096x4x128 .f32 (A m c main_arg0))) bitsLt_bf16_f32 := by
  simp only [at', σ0, hostOps0, hostOps0_1, List.cons_append, List.nil_append]
  entry_read
  rfl

theorem t0_v7 : @Eq (FVec Ideal S16x1024x128 .bf16) (at' (σ0 m c) main_v7) <| truncf .bf16 (rowsOf (fv S4096x4x128 .f32 (A m c main_arg1))) bitsLt_bf16_f32 := by
  simp only [at', σ0, hostOps0, hostOps0_1, List.cons_append, List.nil_append]
  entry_read
  rfl

theorem t0_v11 : @Eq (FVec Ideal S16x1024x128 .bf16) (at' (σ0 m c) main_v11) <| truncf .bf16 (rowsOf (fv S4096x4x128 .f32 (A m c main_arg2))) bitsLt_bf16_f32 := by
  simp only [at', σ0, hostOps0, hostOps0_1, List.cons_append, List.nil_append]
  entry_read
  rfl

theorem t0_v18 : at' (σ0 m c) main_v30 = Cert.ReferenceIdeal.Read.val_main_v20 (F := Ideal) (A m c main_arg2) := by
  simp only [at', σ0, hostOps0, hostOps0_1, List.cons_append, List.nil_append]
  entry_read
  rfl

theorem t0_v53 : at' (σ0 m c) main_v65 = Cert.ReferenceIdeal.Read.val_main_v55_0 (F := Ideal) (A m c main_arg0) (A m c main_arg1) := by
  simp only [at', σ0, hostOps0, hostOps0_1, List.cons_append, List.nil_append]
  entry_read
  rfl

theorem keep1 {b : Ref sig .tc} (h : b ∈ [main_arg0, main_arg1, main_arg2, main_arg3, main_arg4, main_arg5, main_arg6, main_arg7]) : at' (σ1 m c) b = A m c b := by
  rw [σ1, k1 _ (by fin_cases h <;> decide), keep0 m c h]

theorem keep2 {b : Ref sig .tc} (h : b ∈ [main_arg0, main_arg1, main_arg2, main_arg3, main_arg4, main_arg5, main_arg6, main_arg7]) : at' (σ2 m c) b = A m c b := by
  rw [σ2, k2 _ (by fin_cases h <;> decide), keep1 m c h]

theorem keep3 {b : Ref sig .tc} (h : b ∈ [main_arg0, main_arg1, main_arg2, main_arg3, main_arg4, main_arg5, main_arg6, main_arg7]) : at' (σ3 m c) b = A m c b := by
  rw [σ3, k3 _ (by fin_cases h <;> decide), keep2 m c h]

theorem keep4 {b : Ref sig .tc} (h : b ∈ [main_arg0, main_arg1, main_arg2, main_arg3, main_arg4, main_arg5, main_arg6, main_arg7]) : at' (σ4 m c) b = A m c b := by
  rw [σ4, k4 _ (by fin_cases h <;> decide), keep3 m c h]

theorem t1_v55 : @Eq (FVec Ideal S4x8x4x128x1 .f32) (at' (σ1 m c) main_v67) <| Cert.ReferenceIdeal.Read.val_main_v62 (F := Ideal) (A m c main_arg0) (A m c main_arg1) := by
  rw [σ1, s55, t0_v53]; rfl

theorem t1_v60 : @Eq (FVec Ideal S4x8x4x128x1 .f32) (at' (σ1 m c) main_v72) <| Cert.ReferenceIdeal.Read.val_main_v67 (F := Ideal) (A m c main_arg0) (A m c main_arg1) := by
  rw [σ1, s60, t0_v53]; rfl

theorem t1_v62 : @Eq (FVec Ideal S4x8x4x128x256 .f32) (at' (σ1 m c) main_v74) <| Cert.ReferenceIdeal.Read.val_main_v69 (F := Ideal) (A m c main_arg0) (A m c main_arg1) := by
  rw [σ1, s62, t0_v53]; rfl

theorem t2_v70 : @Eq (FVec Ideal S4096x4x128 .f32) (at' (σ2 m c) main_v86) <| Cert.ReferenceIdeal.Read.val_main_v80 (F := Ideal) (A m c main_arg0) (A m c main_arg1) (A m c main_arg2) := by
  rw [σ2, s70, σ1, k1 _ (b := main_v30) (by decide), t0_v18, t1_v62]; rfl

theorem t2_v74 : @Eq (FVec Ideal S4096x4 .f32) (at' (σ2 m c) main_v90) <| Cert.ReferenceIdeal.Read.val_main_v84 (F := Ideal) (A m c main_arg0) (A m c main_arg1) := by
  rw [σ2, s74, t1_v55, t1_v60]; rfl

theorem t3_v86 : @Eq (FVec Ideal S4096x4 .f32) (at' (σ3 m c) main_v102) <| addf (Cert.ReferenceIdeal.Read.val_main_v93 (F := Ideal) (A m c main_arg0) (A m c main_arg1) (A m c main_arg4) (A m c main_arg6)) (Host.log (Cert.ReferenceIdeal.Read.val_main_v108 (F := Ideal) (A m c main_arg0) (A m c main_arg1) (A m c main_arg4) (A m c main_arg6))) := by
  rw [σ3, s86, t2_v74, keep2 m c (b := main_arg4) (by decide), keep2 m c (b := main_arg6) (by decide)]; rfl

/-- What the first lines left is what the call reads. -/
theorem V_early {b : Ref sig .tc} (h1 : b ∉ W1) (h2 : b ∉ W2) (h3 : b ∉ W3) (h4 : b ∉ W4) (h5 : b ∉ W5) : V m c b = at' (σ0 m c) b := by
  rw [V_eq, k5 _ h5, σ4, k4 _ h4, σ3, k3 _ h3, σ2, k2 _ h2, σ1, k1 _ h1]

theorem V_v78 : @Eq (FVec Ideal S16x1024x128 .bf16) (V m c main_v78) <| truncf .bf16 (rowsOf (fv S4096x4x128 .f32 (A m c main_arg7))) bitsLt_bf16_f32 := by
  rw [V_eq, k5 _ (by decide), σ4, k4 _ (by decide), σ3, k3 _ (by decide), σ2, s121, keep1 m c (by decide)]

end Cert.Attn

end
-- ==== Proof.HostB.lean ====
module

public import proofs.«01_k».proof.Proof.Host

@[expose] public section

set_option maxRecDepth 16384

noncomputable section

namespace Cert.Attn

open Cert.KernelIdeal Cert.KernelIdeal.Gen Idealize.ShloMosaic.StableHlo
open Idealize.ShloMosaic Idealize.ShloMosaic.TcCoe Idealize.SL.Sem

/-! # The host lines' results, as real numbers -/

/-- Row `4 r + h` of the call's arrays, and the position of a query within it. -/
def rowIx (r h : Fin 4) : Fin 16 := ⟨r.val * 4 + h.val, by omega⟩
def posIx (n : Fin 8) (i : Fin 128) : Fin 1024 := ⟨n.val * 128 + i.val, by omega⟩

theorem rowsOf_at (t : FVec Ideal S4096x4x128 .f32) (r h : Fin 4) (n : Fin 8) (i e : Fin 128) :
    rowsOf t (ix3 (rowIx r h) (posIx n i) e) = t (ix3 (tok r n i) h e) := by
  pointwise [rowsOf]
  congr 2
  all_goals first | rfl | (apply Fin.ext; simp only [rowIx, posIx, tok]; omega)

theorem lanes_at (t : FVec Ideal S4096x4 .f32) (a : Fin 4096) (h : Fin 4) (e : Fin 128) :
    broadcastInDim S4096x4x128 ![0, 1, 2] bcast_S4096x4x1_S4096x4x128_0_1_2
      (broadcastInDim S4096x4x1 ![0, 1] bcast_S4096x4_S4096x4x1_0_1 t) (ix3 a h e) = t (ix2 a h) := by
  pointwise

theorem lanesOf_at (t : FVec Ideal S4096x4 .f32) (r h : Fin 4) (n : Fin 8) (i e : Fin 128) :
    lanesOf t (ix3 (rowIx r h) (posIx n i) e) = t (ix2 (tok r n i) h) := by
  rw [lanesOf, rowsOf_at, lanes_at]

theorem sum_lanes (t : FVec Ideal S4096x4x128 .f32) (a : Fin 4096) (h : Fin 4) :
    Host.reduceAdd t (constant S_ .f32 0x00000000#32) reducesTo_S4096x4x128_S4096x4_d2 h_S_ (ix2 a h)
      = ∑ e : Fin 128, (t (ix3 a h e) : EReal) := by
  pointwise

theorem narrow_at (t : FVec Ideal S16x1024x128 .f32) (j : S16x1024x128.Idx) : truncf .bf16 t bitsLt_bf16_f32 j = t j := rfl

theorem lse_of (f g : FVec Ideal S4096x4 .f32) (i : S4096x4.Idx) (a b : ℝ) (hb : 0 < b) (hf : f i = (a : EReal)) (hg : g i = (b : EReal)) :
    addf f (Host.log g) i = ((a + Real.log b : ℝ) : EReal) := by
  show FloatOps.addf (F := Ideal) (φ := .f32) (f i) (FloatOps.hostUnary (F := Ideal) (φ := .f32) .log (g i)) = _
  rw [hf, hg, r_log _ hb, r_add]

theorem weight_of (l u : FVec Ideal S4096x4 .f32) (t : Fin 4096) (h : Fin 4) (e : Fin 128) (a b : ℝ) (hl : l (ix2 t h) = (a : EReal))
    (hu : u (ix2 t h) = (b : EReal)) :
    (broadcastInDim S4096x4x128 ![0, 1, 2] bcast_S4096x4x1_S4096x4x128_0_1_2 (broadcastInDim S4096x4x1 ![0, 1] bcast_S4096x4_S4096x4x1_0_1 (Host.exp (subf l u)))) (ix3 t h e) = ((Real.exp (a - b) : ℝ) : EReal) := by
  rw [lanes_at]
  show FloatOps.hostUnary (F := Ideal) (φ := .f32) .exp (FloatOps.subf (F := Ideal) (φ := .f32) (l (ix2 t h)) (u (ix2 t h))) = _
  rw [hl, hu, r_sub, r_exp]

theorem mix_of (d w0 p0 w1 p1 w2 p2 : FVec Ideal S4096x4x128 .f32) (i : S4096x4x128.Idx) (d' a0 b0 a1 b1 a2 b2 : ℝ) (hd : d i = (d' : EReal))
    (h0 : w0 i = (a0 : EReal)) (g0 : p0 i = (b0 : EReal)) (h1 : w1 i = (a1 : EReal)) (g1 : p1 i = (b1 : EReal)) (h2 : w2 i = (a2 : EReal))
    (g2 : p2 i = (b2 : EReal)) :
    mulf d (addf (addf (mulf w0 p0) (mulf w1 p1)) (mulf w2 p2)) i = ((d' * (a0 * b0 + a1 * b1 + a2 * b2) : ℝ) : EReal) := by
  show FloatOps.mulf (F := Ideal) (φ := .f32) (d i) (FloatOps.addf (F := Ideal) (φ := .f32) (FloatOps.addf (F := Ideal) (φ := .f32)
    (FloatOps.mulf (F := Ideal) (φ := .f32) (w0 i) (p0 i)) (FloatOps.mulf (F := Ideal) (φ := .f32) (w1 i) (p1 i)))
    (FloatOps.mulf (F := Ideal) (φ := .f32) (w2 i) (p2 i))) = _
  rw [hd, h0, g0, h1, g1, h2, g2, r_mul, r_mul, r_mul, r_add, r_add, r_mul]

theorem delta_of (d o0 o1' o2 : FVec Ideal S4096x4x128 .f32) (l0 l1' l2 u : FVec Ideal S4096x4 .f32) (x : Args) (t : Fin 4096) (h : Fin 4)
    (hd : d = up3 x.ct) (ho0 : o0 = up3 x.o0) (ho2 : o2 = up3 x.o2) (hl0 : l0 = up2 x.l0) (hl2 : l2 = up2 x.l2)
    (ho1 : ∀ e, o1' (ix3 t h e) = ((o1 x t h e : ℝ) : EReal)) (hl1 : l1' (ix2 t h) = ((l1 x t h : ℝ) : EReal))
    (hu : u (ix2 t h) = ((lse x t h : ℝ) : EReal)) :
    Host.reduceAdd (mulf d (addf (addf (mulf (broadcastInDim S4096x4x128 ![0, 1, 2] bcast_S4096x4x1_S4096x4x128_0_1_2 (broadcastInDim S4096x4x1 ![0, 1] bcast_S4096x4_S4096x4x1_0_1 (Host.exp (subf l0 u)))) o0)
      (mulf (broadcastInDim S4096x4x128 ![0, 1, 2] bcast_S4096x4x1_S4096x4x128_0_1_2 (broadcastInDim S4096x4x1 ![0, 1] bcast_S4096x4_S4096x4x1_0_1 (Host.exp (subf l1' u)))) o1')) (mulf (broadcastInDim S4096x4x128 ![0, 1, 2] bcast_S4096x4x1_S4096x4x128_0_1_2 (broadcastInDim S4096x4x1 ![0, 1] bcast_S4096x4_S4096x4x1_0_1 (Host.exp (subf l2 u)))) o2)))
      (constant S_ .f32 0x00000000#32) reducesTo_S4096x4x128_S4096x4_d2 h_S_ (ix2 t h) = ((delta x t h : ℝ) : EReal) := by
  subst hd ho0 ho2 hl0 hl2
  rw [sum_lanes, delta, coe_sum]
  exact Finset.sum_congr (M := EReal) rfl fun e _ => mix_of _ _ _ _ _ _ _ _ _ _ _ _ _ _ _ (up3_at _ _ _ _)
    (weight_of _ _ _ _ _ _ _ (up2_at _ _ _) hu) (up3_at _ _ _ _) (weight_of _ _ _ _ _ _ _ hl1 hu) (ho1 e)
    (weight_of _ _ _ _ _ _ _ (up2_at _ _ _) hu) (up3_at _ _ _ _)

variable (m : (ℓ : Loc nD τ sig) → Buf (Elt Ideal) ℓ) (c : Dev nD) (x : Args)

/-- The launch contents of the eight arguments are the real arrays `x`. -/
structure Given : Prop where
  a0 : A m c main_arg0 = up3 x.q
  a1 : A m c main_arg1 = up3 x.k
  a2 : A m c main_arg2 = up3 x.v
  a3 : A m c main_arg3 = up3 x.o0
  a4 : A m c main_arg4 = up2 x.l0
  a5 : A m c main_arg5 = up3 x.o2
  a6 : A m c main_arg6 = up2 x.l2
  a7 : A m c main_arg7 = up3 x.ct

variable {m c x} (G : Given m c x)
include G

theorem v86_at (t : Fin 4096) (h : Fin 4) : fv S4096x4 .f32 (at' (σ3 m c) main_v102) (ix2 t h) = ((lse x t h : ℝ) : EReal) := by
  rw [fv, t3_v86, G.a0, G.a1, G.a4, G.a6]
  exact lse_of _ _ _ _ _ (z_pos x t h) (v93_at x t h) (v108_at x t h)

theorem v70_at (t : Fin 4096) (h : Fin 4) (e : Fin 128) :
    fv S4096x4x128 .f32 (at' (σ2 m c) main_v86) (ix3 t h e) = ((o1 x t h e : ℝ) : EReal) := by
  rw [fv, t2_v70, G.a0, G.a1, G.a2, v80_at]

theorem v74_at (t : Fin 4096) (h : Fin 4) : fv S4096x4 .f32 (at' (σ2 m c) main_v90) (ix2 t h) = ((l1 x t h : ℝ) : EReal) := by
  rw [fv, t2_v74, G.a0, G.a1, v84_at]

theorem v105_at (t : Fin 4096) (h : Fin 4) : fv S4096x4 .f32 (at' (σ4 m c) main_v121) (ix2 t h) = ((delta x t h : ℝ) : EReal) := by
  have g70 : at' (σ3 m c) main_v86 = at' (σ2 m c) main_v86 := k3 _ (by decide)
  have g74 : at' (σ3 m c) main_v90 = at' (σ2 m c) main_v90 := k3 _ (by decide)
  rw [fv, σ4, s105]
  refine delta_of _ _ _ _ _ _ _ _ x t h ((keep3 m c (by decide)).trans G.a7) ((keep3 m c (by decide)).trans G.a3)
    ((keep3 m c (by decide)).trans G.a5) ((keep3 m c (by decide)).trans G.a4) ((keep3 m c (by decide)).trans G.a6) (fun e => ?_) ?_ (v86_at G t h)
  · rw [g70]; exact v70_at G t h e
  · rw [g74]; exact v74_at G t h

/-! The call's arrays, by row and position. -/

variable (r h : Fin 4) (n : Fin 8) (i e : Fin 128)

theorem V109_at : fv S16x1024x128 .bf16 (V m c main_v3) (ix3 (rowIx r h) (posIx n i) e) = ((x.q (tok r n i) h e : ℝ) : EReal) := by
  rw [fv, V_early m c (b := main_v3) (by decide) (by decide) (by decide) (by decide) (by decide), t0_v3, narrow_at, rowsOf_at, fv, G.a0, up3_at]

theorem V113_at : fv S16x1024x128 .bf16 (V m c main_v7) (ix3 (rowIx r h) (posIx n i) e) = ((x.k (tok r n i) h e : ℝ) : EReal) := by
  rw [fv, V_early m c (b := main_v7) (by decide) (by decide) (by decide) (by decide) (by decide), t0_v7, narrow_at, rowsOf_at, fv, G.a1, up3_at]

theorem V117_at : fv S16x1024x128 .bf16 (V m c main_v11) (ix3 (rowIx r h) (posIx n i) e) = ((x.v (tok r n i) h e : ℝ) : EReal) := by
  rw [fv, V_early m c (b := main_v11) (by decide) (by decide) (by decide) (by decide) (by decide), t0_v11, narrow_at, rowsOf_at, fv, G.a2, up3_at]

theorem V121_at : fv S16x1024x128 .bf16 (V m c main_v78) (ix3 (rowIx r h) (posIx n i) e) = ((x.ct (tok r n i) h e : ℝ) : EReal) := by
  rw [fv, V_v78, narrow_at, rowsOf_at, fv, G.a7, up3_at]

theorem V126_at : fv S16x1024x128 .f32 (V m c main_v126) (ix3 (rowIx r h) (posIx n i) e) = ((lse x (tok r n i) h : ℝ) : EReal) := by
  have g : at' (σ4 m c) main_v102 = at' (σ3 m c) main_v102 := k4 _ (by decide)
  rw [fv, V_eq, s126, lanesOf_at, g]
  exact v86_at G _ _

theorem V131_at : fv S16x1024x128 .f32 (V m c main_v131) (ix3 (rowIx r h) (posIx n i) e) = ((delta x (tok r n i) h : ℝ) : EReal) := by
  rw [fv, V_eq, s131, lanesOf_at]
  exact v105_at G _ _

end Cert.Attn

end
-- ==== Proof.Rows.lean ====
module

public import proofs.«01_k».proof.Proof.Gen.KernelIdeal.Value
public import Idealize.ShloMosaic.Lib.Pointwise

@[expose] public section

set_option maxRecDepth 16384

noncomputable section

namespace Cert.Attn

open Cert.KernelIdeal Cert.KernelIdeal.Gen
open Idealize.ShloMosaic Idealize.ShloMosaic.TcCoe Idealize.SL.Sem

/-! # The kernel's body, one head of one residue at a time

A point of the grid works through sixteen rows, each by the same operations on the row's own slices of the twelve
blocks. Here those operations are named once, for any row. -/

variable {F : FTy → Type} [FloatOps F]

theorem row_inside (a : Fin 16) : ∀ k, (![a.val, 0, 0] : Fin 3 → Nat) k + S1x128x128.size k ≤ S16x128x128.size k := fun k =>
  match k with
  | ⟨0, _⟩ => (show a.val + 1 ≤ 16 by omega)
  | ⟨1, _⟩ => (show 0 + 128 ≤ 128 by omega)
  | ⟨2, _⟩ => (show 0 + 128 ≤ 128 by omega)

/-- Row `a` of a block. -/
abbrev row (a : Fin 16) : Rect S16x128x128 := Rect.unit (s := S16x128x128) ![a.val, 0, 0] S1x128x128.size (row_inside a)

abbrev B16 (F : FTy → Type) := Vec F S1x128x128 .bf16
abbrev B32 (F : FTy → Type) := Vec F S1x128x128 .f32

/-- The weights of the block's queries over its 256 keys. -/
def bP (i : grid0.Coords) (q kp ko : B16 F) (ls : B32 F) : FVec F S128x256 .f32 :=
  k0_pay138 k0_pay3 (k0_pay5 i) (k0_pay15 ls) (k0_pay106 (k0_pay7 kp ko) (k0_pay13 q))

/-- The gradient of the scores. -/
def bS (i : grid0.Coords) (q kp ko vp vo d : B16 F) (ls dl : B32 F) : FVec F S128x256 .bf16 :=
  k0_pay158 (k0_pay157 (k0_pay16 dl) (k0_pay114 (k0_pay8 vp vo) (k0_pay14 d)) (bP i q kp ko ls))

/-- The weights of the next block's queries over this block's keys, and the gradient of those scores. -/
def bPn (i : grid0.Coords) (qn ko : B16 F) (ls : B32 F) : FVec F S128x128 .f32 :=
  k0_pay139 k0_pay4 (k0_pay6 i) (k0_pay11 ls) (k0_pay122 (k0_pay9 qn) (k0_pay17 ko))

def bSn (i : grid0.Coords) (qn ko vo dn : B16 F) (ls dl : B32 F) : FVec F S128x128 .bf16 :=
  k0_pay166 (k0_pay12 dl) (k0_pay130 (k0_pay10 dn) (k0_pay18 vo)) (bPn i qn ko ls)

/-- The three gradients the point stores for the row. -/
def bQ (i : grid0.Coords) (q kp ko vp vo d : B16 F) (ls dl : B32 F) : B16 F :=
  k0_pay175 (k0_pay7 kp ko) (bS i q kp ko vp vo d ls dl)

def bK (i : grid0.Coords) (q qn kp ko vp vo d dn : B16 F) (ls lsn dl dln : B32 F) : B16 F :=
  k0_pay177 (k0_pay9 qn) (k0_pay13 q) (bS i q kp ko vp vo d ls dl) (bSn i qn ko vo dn lsn dln)

def bV (i : grid0.Coords) (q qn kp ko d dn : B16 F) (ls lsn : B32 F) : B16 F :=
  k0_pay179 (bPn i qn ko lsn) (k0_pay176 (k0_pay10 dn) (k0_pay14 d)) (k0_pay178 (bP i q kp ko ls))

variable (i : grid0.Coords) (x0 x1 x2 x3 x4 x5 x6 x7 : Vec F S16x128x128 .bf16) (x8 x9 x10 x11 : Vec F S16x128x128 .f32)

/-- The rows in the order of the last store first. -/
def rowsDown : List (Fin 16) := [15, 14, 13, 12, 11, 10, 9, 8, 7, 6, 5, 4, 3, 2, 1, 0]

def pieceQ (a : Fin 16) : View.Piece (Elt F) S16x128x128 .bf16 :=
  ⟨row a, bQ i (View.ld x0 (row a)) (View.ld x2 (row a)) (View.ld x3 (row a)) (View.ld x4 (row a)) (View.ld x5 (row a))
    (View.ld x6 (row a)) (View.ld x8 (row a)) (View.ld x10 (row a))⟩

theorem out12_rows : out0_12 i x0 x1 x2 x3 x4 x5 x6 x7 x8 x9 x10 x11
    = View.canon (rowsDown.map (pieceQ i x0 x2 x3 x4 x5 x6 x8 x10)) := by
  rfl

def pieceK (a : Fin 16) : View.Piece (Elt F) S16x128x128 .bf16 :=
  ⟨row a, bK i (View.ld x0 (row a)) (View.ld x1 (row a)) (View.ld x2 (row a)) (View.ld x3 (row a)) (View.ld x4 (row a)) (View.ld x5 (row a))
    (View.ld x6 (row a)) (View.ld x7 (row a)) (View.ld x8 (row a)) (View.ld x9 (row a)) (View.ld x10 (row a)) (View.ld x11 (row a))⟩

theorem out13_rows : out0_13 i x0 x1 x2 x3 x4 x5 x6 x7 x8 x9 x10 x11
    = View.canon (rowsDown.map (pieceK i x0 x1 x2 x3 x4 x5 x6 x7 x8 x9 x10 x11)) := by
  rfl

def pieceV (a : Fin 16) : View.Piece (Elt F) S16x128x128 .bf16 :=
  ⟨row a, bV i (View.ld x0 (row a)) (View.ld x1 (row a)) (View.ld x2 (row a)) (View.ld x3 (row a))
    (View.ld x6 (row a)) (View.ld x7 (row a)) (View.ld x8 (row a)) (View.ld x9 (row a))⟩

theorem out14_rows : out0_14 i x0 x1 x2 x3 x4 x5 x6 x7 x8 x9 x10 x11
    = View.canon (rowsDown.map (pieceV i x0 x1 x2 x3 x6 x7 x8 x9)) := by
  rfl

/-- Stores that cover the rows one after the other leave at row `a` what was stored for it. -/
theorem canon_rows (f : Fin 16 → B16 F) (a : Fin 16) (b c : Fin 128) :
    View.canon (rowsDown.map fun a => (⟨row a, f a⟩ : View.Piece (Elt F) S16x128x128 .bf16)) (ix3 a b c) = f a (ix3 0 b c) := by
  refine View.canon_apply_of_pieces (fun y : S16x128x128.Idx => f (y 0) (ix3 0 (y 1) (y 2))) _ (fun p hp z => ?_) _ ?_
  · obtain ⟨a, -, rfl⟩ := List.mem_map.mp hp
    have h0 : (z 0).val = 0 := Nat.lt_one_iff.mp (z 0).isLt
    have e0 : ((row a).emb z) 0 = a := Fin.ext (by show a.val + 1 * (z 0).val = a.val; omega)
    have ez : z = ix3 0 ⟨(z 1).val, (z 1).isLt⟩ ⟨(z 2).val, (z 2).isLt⟩ := by
      funext k; match k with
      | ⟨0, _⟩ => exact Fin.ext h0
      | ⟨1, _⟩ => rfl
      | ⟨2, _⟩ => rfl
    show f a z = f (((row a).emb z) 0) _
    rw [e0]
    conv_lhs => rw [ez]
    congr 1
    funext k; match k with
    | ⟨0, _⟩ => rfl
    | ⟨1, _⟩ => exact Fin.ext (by show (z 1).val = 0 + 1 * (z 1).val; omega)
    | ⟨2, _⟩ => exact Fin.ext (by show (z 2).val = 0 + 1 * (z 2).val; omega)
  · refine ⟨⟨row a, f a⟩, List.mem_map.mpr ⟨a, ?_, rfl⟩, ?_⟩
    · revert a; decide
    · rw [Rect.mem_set_unit]
      intro k; match k with
      | ⟨0, _⟩ => exact ⟨le_refl a.val, show a.val < a.val + 1 by omega⟩
      | ⟨1, _⟩ => exact ⟨Nat.zero_le _, show b.val < 0 + 128 by omega⟩
      | ⟨2, _⟩ => exact ⟨Nat.zero_le _, show c.val < 0 + 128 by omega⟩

end Cert.Attn

end
-- ==== Proof.RowsB.lean ====
module

public import proofs.«01_k».proof.Proof.Rows
public import proofs.«01_k».proof.Proof.Reals

@[expose] public section

set_option maxRecDepth 16384

noncomputable section

namespace Cert.Attn

open Cert.KernelIdeal Cert.KernelIdeal.Gen
open Idealize.ShloMosaic Idealize.ShloMosaic.TcCoe Idealize.SL.Sem

/-! # What a row's operations compute on real slices -/

/-- The block the kernel reads as the previous one, and as the next one: at the ends, the block itself. -/
def prev (n : Fin 8) : Fin 8 := ⟨n.val - 1, by omega⟩
def next (n : Fin 8) : Fin 8 := ⟨min (n.val + 1) 7, by omega⟩

theorem next_eq (n : Fin 8) (h : n.val < 7) : next n = ⟨n.val + 1, by omega⟩ := Fin.ext (by show min (n.val + 1) 7 = n.val + 1; omega)

/-- Key (or value) `j` as the kernel has it: where no query sees it, it may differ from the reference's zeros. -/
def keyB (t : Tok) (r : Fin 4) (n : Fin 8) (j : Fin 256) (h : Fin 4) (e : Fin 128) : ℝ :=
  if hj : j.val < 128 then t (tok r (prev n) ⟨j.val, hj⟩) h e else t (tok r n ⟨j.val - 128, by omega⟩) h e

theorem keyB_eq (t : Tok) (r : Fin 4) (n : Fin 8) (i : Fin 128) (j : Fin 256) (h : Fin 4) (e : Fin 128) (hv : valid n i j) :
    keyB t r n j h e = key t r n j h e := by
  unfold keyB key
  by_cases hj : j.val < 128
  · rw [dif_pos hj, dif_neg (not_le.mpr hj), if_pos (hv.2.resolve_right (not_le.mpr hj))]; rfl
  · rw [dif_neg hj, dif_pos (not_lt.mp hj)]

/-- What the twelve slices of a row hold: block `n` of the tokens of residue `r`, at head `h`. -/
structure Reads (x : Args) (r : Fin 4) (n : Fin 8) (h : Fin 4) (i : grid0.Coords) (q qn kp ko vp vo d dn : B16 Ideal)
    (ls lsn dl dln : B32 Ideal) : Prop where
  hi : (i 1).val = n.val
  q : ∀ a e, q (ix3 0 a e) = ((x.q (tok r n a) h e : ℝ) : EReal)
  qn : ∀ a e, qn (ix3 0 a e) = ((x.q (tok r (next n) a) h e : ℝ) : EReal)
  kp : ∀ a e, kp (ix3 0 a e) = ((x.k (tok r (prev n) a) h e : ℝ) : EReal)
  ko : ∀ a e, ko (ix3 0 a e) = ((x.k (tok r n a) h e : ℝ) : EReal)
  vp : ∀ a e, vp (ix3 0 a e) = ((x.v (tok r (prev n) a) h e : ℝ) : EReal)
  vo : ∀ a e, vo (ix3 0 a e) = ((x.v (tok r n a) h e : ℝ) : EReal)
  d : ∀ a e, d (ix3 0 a e) = ((x.ct (tok r n a) h e : ℝ) : EReal)
  dn : ∀ a e, dn (ix3 0 a e) = ((x.ct (tok r (next n) a) h e : ℝ) : EReal)
  ls : ∀ a e, ls (ix3 0 a e) = ((lse x (tok r n a) h : ℝ) : EReal)
  lsn : ∀ a e, lsn (ix3 0 a e) = ((lse x (tok r (next n) a) h : ℝ) : EReal)
  dl : ∀ a e, dl (ix3 0 a e) = ((delta x (tok r n a) h : ℝ) : EReal)
  dln : ∀ a e, dln (ix3 0 a e) = ((delta x (tok r (next n) a) h : ℝ) : EReal)

section Slices

variable (q kp ko : B16 Ideal) (l : B32 Ideal)

theorem dite_real (t : Tok) (r : Fin 4) (n : Fin 8) (h : Fin 4) (j : Fin 256) (e : Fin 128)
    (hp : ∀ a e, kp (ix3 0 a e) = ((t (tok r (prev n) a) h e : ℝ) : EReal)) (ho : ∀ a e, ko (ix3 0 a e) = ((t (tok r n a) h e : ℝ) : EReal)) :
    (if hj : j.val < 128 then kp (ix3 0 ⟨j.val, hj⟩ e) else ko (ix3 0 ⟨j.val - 128, by omega⟩ e)) = ((keyB t r n j h e : ℝ) : EReal) := by
  unfold keyB
  by_cases hj : j.val < 128
  · rw [dif_pos hj, dif_pos hj, hp]
  · rw [dif_neg hj, dif_neg hj, ho]

theorem keys_at (t u : Tok) (r : Fin 4) (n : Fin 8) (h : Fin 4) (hq : ∀ a e, q (ix3 0 a e) = ((u (tok r n a) h e : ℝ) : EReal))
    (hp : ∀ a e, kp (ix3 0 a e) = ((t (tok r (prev n) a) h e : ℝ) : EReal)) (ho : ∀ a e, ko (ix3 0 a e) = ((t (tok r n a) h e : ℝ) : EReal))
    (a : Fin 128) (j : Fin 256) :
    k0_pay106 (F := Ideal) (k0_pay7 kp ko) (k0_pay13 q) (ix2 a j)
      = ((∑ e : Fin 128, u (tok r n a) h e * keyB t r n j h e : ℝ) : EReal) := by
  pointwise [k0_pay106, k0_pay7, k0_pay13]
  rw [coe_sum]
  refine Finset.sum_congr rfl fun e _ => ?_
  rw [EReal.coe_mul, hq, ← dite_real kp ko t r n h j e hp ho]

theorem wide_at (f : Fin 128 → ℝ) (hl : ∀ a e, l (ix3 0 a e) = ((f a : ℝ) : EReal)) (a : Fin 128) (j : Fin 256) :
    k0_pay15 (F := Ideal) l (ix2 a j) = ((f a : ℝ) : EReal) := by
  pointwise [k0_pay15]
  by_cases hj : j.val < 128
  · rw [dif_pos hj, hl]
  · rw [dif_neg hj, hl]

end Slices

theorem band_word (a : Fin 128) (j : Fin 256) : k0_pay3 (ix2 a j) = bit (a.val ≤ j.val ∧ j.val ≤ a.val + 128) := by
  pointwise [k0_pay3]
  have hd : (IntOp.addi (BitVec.ofNat 32 a.val) 128#32).toInt = (a.val : Int) + 128 := by
    unfold IntOp.addi
    rw [BitVec.toInt_add, toInt_small a.val (by omega), show (128#32).toInt = 128 by decide]
    apply Int.bmod_eq_of_le <;> omega
  rw [WordCmp.cmpi_sge_eq, WordCmp.cmpi_sle_eq, hd, toInt_small a.val (by omega), toInt_small j.val (by omega), ofBool_and]
  unfold bit
  congr 1
  rw [← Bool.decide_and]
  apply decide_eq_decide.mpr
  omega

theorem after_word (a j : Fin 128) : k0_pay4 (ix2 a j) = bit (a.val ≤ j.val) := by
  pointwise [k0_pay4]
  rw [WordCmp.cmpi_sge_eq, toInt_small a.val (by omega), toInt_small j.val (by omega)]
  unfold bit
  congr 1
  apply decide_eq_decide.mpr
  omega

/-- The factor of the first block: zero on the keys before it. -/
theorem first_at (i : grid0.Coords) (n : Fin 8) (hi : (i 1).val = n.val) (a : Fin 128) (j : Fin 256) :
    k0_pay5 (F := Ideal) i (ix2 a j) = (((if 0 < n.val ∨ 128 ≤ j.val then 1 else 0) : ℝ) : EReal) := by
  pointwise [k0_pay5]
  rw [hi, show Scalar.cmpi .sgt (BitVec.ofNat 32 n.val) 0#32 = IntOp.cmpi .sgt (BitVec.ofNat 32 n.val) 0#32 from rfl,
    WordCmp.cmpi_slt_eq, WordCmp.cmpi_sgt_eq, toInt_small n.val (by omega), toInt_small j.val (by omega), show (128#32).toInt = 128 by decide, show (0#32).toInt = 0 by decide]
  erw [select_bit, select_bit]
  by_cases hj : 128 ≤ j.val
  · rw [if_neg (by omega), if_pos (Or.inr hj)]; rfl
  · rw [if_pos (by omega)]
    by_cases hn : 0 < n.val
    · rw [if_pos (by omega), if_pos (Or.inl hn)]; rfl
    · rw [if_neg (by omega), if_neg (by omega)]; rfl

/-- The factor of the last block: it has no next one. -/
theorem last_at (i : grid0.Coords) (n : Fin 8) (hi : (i 1).val = n.val) :
    k0_pay6 (F := Ideal) i = (((if n.val < 7 then 1 else 0) : ℝ) : EReal) := by
  have e : k0_pay6 (F := Ideal) i = Scalar.select (IntOp.cmpi .slt (BitVec.ofNat 32 n.val) 7#32) (Ideal.ofBits .f32 0x3F800000#32) (Ideal.ofBits .f32 0x00000000#32) := by
    rw [← hi]; rfl
  rw [e, WordCmp.cmpi_slt_eq, toInt_small n.val (by omega), show (7#32).toInt = 7 by decide, one_word, Ideal.ofBits_zero_f32]
  erw [select_bit]
  by_cases hn : n.val < 7
  · rw [if_pos (by omega), if_pos hn]
  · rw [if_neg (by omega), if_neg hn]; rfl

section Row

variable {x : Args} {r : Fin 4} {n : Fin 8} {h : Fin 4} {i : grid0.Coords} {q qn kp ko vp vo d dn : B16 Ideal}
  {ls lsn dl dln : B32 Ideal} (R : Reads x r n h i q qn kp ko vp vo d dn ls lsn dl dln)

include R

theorem bP_at (a : Fin 128) (j : Fin 256) : bP i q kp ko ls (ix2 a j) = ((wt x r n h a j : ℝ) : EReal) := by
  pointwise [bP, k0_pay138]
  rw [keys_at q kp ko x.k x.q r n h R.q R.kp R.ko, wide_at ls _ R.ls, first_at i n R.hi, band_word, select_bit, scale_word,
    ← EReal.coe_mul, ← EReal.coe_sub]
  unfold wt score
  by_cases hv : valid n a j
  · rw [if_pos hv.1, if_pos hv.2, if_pos hv, EReal.coe_one, mul_one]
    simp only [keyB_eq x.k r n a j h _ hv]
    rfl
  · rw [if_neg hv]
    by_cases h1 : a.val ≤ j.val ∧ j.val ≤ a.val + 128
    · rw [if_pos h1, if_neg (fun h2 => hv ⟨h1, h2⟩), EReal.coe_zero, mul_zero]
    · rw [if_neg h1]; rfl

theorem bS_at (a : Fin 128) (j : Fin 256) : bS i q kp ko vp vo d ls dl (ix2 a j) = ((ds x r n h a j : ℝ) : EReal) := by
  pointwise [bS, k0_pay158, k0_pay157]
  rw [bP_at R, show k0_pay114 (F := Ideal) (k0_pay8 vp vo) (k0_pay14 d) = k0_pay106 (k0_pay7 vp vo) (k0_pay13 d) from rfl,
    show k0_pay16 (F := Ideal) dl = k0_pay15 dl from rfl,
    keys_at d vp vo x.v x.ct r n h R.d R.vp R.vo, wide_at dl _ R.dl, scale_word, ← EReal.coe_sub, ← EReal.coe_mul, ← EReal.coe_mul]
  unfold ds dp
  by_cases hv : valid n a j
  · simp only [keyB_eq x.v r n a j h _ hv]
  · rw [wt_of_not_valid x r n h a j hv, zero_mul, zero_mul, zero_mul, zero_mul]

/-- The gradient of the queries. -/
theorem bQ_at (a e : Fin 128) : bQ i q kp ko vp vo d ls dl (ix3 0 a e) = ((gq x r n h a e : ℝ) : EReal) := by
  pointwise [bQ, k0_pay175, k0_pay7]
  unfold gq
  rw [coe_sum]
  have hm : ∀ j : Fin 256, ((ds x r n h a j : ℝ) : EReal) * ((keyB x.k r n j h e : ℝ) : EReal)
      = ((ds x r n h a j * key x.k r n j h e : ℝ) : EReal) := fun j => by
    rw [← EReal.coe_mul]
    by_cases hv : valid n a j
    · rw [keyB_eq x.k r n a j h _ hv]
    · rw [ds_of_not_valid x r n h a j hv, zero_mul, zero_mul]
  refine Eq.trans ?_ (Fin.sum_univ_add (a := 128) (b := 128)
    (fun j : Fin 256 => ((ds x r n h a j * key x.k r n j h e : ℝ) : EReal))).symm
  refine congrArg₂ (· + ·) (Finset.sum_congr rfl fun j _ => ?_) (Finset.sum_congr rfl fun j _ => ?_)
  · rw [bS_at R, R.kp, show x.k (tok r (prev n) j) h e = keyB x.k r n ⟨j.val, by omega⟩ h e by
      unfold keyB; rw [dif_pos j.isLt]]
    exact hm ⟨j.val, by omega⟩
  · rw [bS_at R, R.ko, show x.k (tok r n j) h e = keyB x.k r n ⟨128 + j.val, by omega⟩ h e by
      unfold keyB; rw [dif_neg (by show ¬ 128 + j.val < 128; omega)]
      exact congrArg (fun a => x.k (tok r n a) h e) (Fin.ext (by show j.val = 128 + j.val - 128; omega))]
    exact hm ⟨128 + j.val, by omega⟩

theorem valid_next (a j : Fin 128) (hn : n.val < 7) : valid ⟨n.val + 1, by omega⟩ a ⟨j.val, by omega⟩ ↔ a.val ≤ j.val := by
  unfold valid
  constructor
  · intro hv; exact hv.1.1
  · intro hv; exact ⟨⟨hv, by show j.val ≤ a.val + 128; omega⟩, Or.inl (by show 0 < n.val + 1; omega)⟩

theorem key_next (t : Tok) (j e : Fin 128) (hn : n.val < 7) :
    key t r ⟨n.val + 1, by omega⟩ ⟨j.val, by omega⟩ h e = t (tok r n j) h e := by
  unfold key
  rw [dif_neg (by show ¬ 128 ≤ j.val; omega), if_pos (by show 0 < n.val + 1; omega)]; rfl

/-- The weights of the next block's queries. -/
def wtn (x : Args) (r : Fin 4) (n : Fin 8) (h : Fin 4) (a j : Fin 128) : ℝ :=
  if hn : n.val < 7 then wt x r ⟨n.val + 1, by omega⟩ h a ⟨j.val, by omega⟩ else 0

def dsn (x : Args) (r : Fin 4) (n : Fin 8) (h : Fin 4) (a j : Fin 128) : ℝ :=
  if hn : n.val < 7 then ds x r ⟨n.val + 1, by omega⟩ h a ⟨j.val, by omega⟩ else 0

theorem bPn_at (a j : Fin 128) : bPn i qn ko lsn (ix2 a j) = ((wtn x r n h a j : ℝ) : EReal) := by
  pointwise [bPn, k0_pay139, k0_pay11, k0_pay122, k0_pay9, k0_pay17]
  rw [after_word, select_bit, R.lsn, scale_word, last_at i n R.hi]
  simp only [R.qn, R.ko, ← EReal.coe_mul, ← coe_sum]
  unfold wtn
  by_cases hn : n.val < 7
  · rw [dif_pos hn, if_pos hn, next_eq n hn]
    unfold wt score
    simp only [valid_next R a j hn, key_next R x.k j _ hn]
    by_cases hv : a.val ≤ j.val
    · rw [if_pos hv, if_pos hv, ← EReal.coe_sub, EReal.coe_one, mul_one]; rfl
    · rw [if_neg hv, if_neg hv]; rfl
  · rw [dif_neg hn, if_neg hn, EReal.coe_zero, mul_zero, ite_self]

theorem bSn_at (a j : Fin 128) : bSn i qn ko vo dn lsn dln (ix2 a j) = ((dsn x r n h a j : ℝ) : EReal) := by
  pointwise [bSn, k0_pay166, k0_pay12, k0_pay130, k0_pay10, k0_pay18]
  rw [bPn_at R, R.dln, scale_word]
  simp only [R.dn, R.vo, ← EReal.coe_mul, ← coe_sum]
  rw [← EReal.coe_sub, ← EReal.coe_mul, ← EReal.coe_mul]
  unfold wtn dsn
  by_cases hn : n.val < 7
  · rw [dif_pos hn, dif_pos hn, next_eq n hn]
    unfold ds dp
    simp only [key_next R x.v j _ hn]
  · rw [dif_neg hn, dif_neg hn, zero_mul, zero_mul]

/-- The gradients of the keys and of the values. -/
theorem bK_at (j e : Fin 128) : bK i q qn kp ko vp vo d dn ls lsn dl dln (ix3 0 j e) = ((gk x r n h j e : ℝ) : EReal) := by
  pointwise [bK, k0_pay177, k0_pay9, k0_pay13]
  simp only [bS_at R, bSn_at R, R.q, R.qn, ← EReal.coe_mul, ← coe_sum]
  rw [← EReal.coe_add]
  unfold gk dsn
  by_cases hn : n.val < 7
  · simp only [dif_pos hn, next_eq n hn]
  · simp only [dif_neg hn, zero_mul, Finset.sum_const_zero]

theorem bV_at (j e : Fin 128) : bV i q qn kp ko d dn ls lsn (ix3 0 j e) = ((gv x r n h j e : ℝ) : EReal) := by
  pointwise [bV, k0_pay179, k0_pay176, k0_pay178, k0_pay10, k0_pay14]
  simp only [bP_at R, bPn_at R, R.d, R.dn, ← EReal.coe_mul, ← coe_sum]
  rw [← EReal.coe_add]
  unfold gv wtn
  by_cases hn : n.val < 7
  · simp only [dif_pos hn, next_eq n hn]
  · simp only [dif_neg hn, zero_mul, Finset.sum_const_zero]

end Row

end Cert.Attn

end
-- ==== Proof.Blocks.lean ====
module

public import proofs.«01_k».proof.Proof.HostB
public import proofs.«01_k».proof.Proof.RowsB
public import Idealize.ShloMosaic.Lib.Pipeline.ValueKit.Point

@[expose] public section

set_option maxRecDepth 16384

noncomputable section

namespace Cert.Attn

open Cert.KernelIdeal Cert.KernelIdeal.Gen Idealize.ShloMosaic.StableHlo
open Idealize.ShloMosaic Idealize.ShloMosaic.TcCoe Idealize.SL.Sem

/-! # The call's blocks, as real numbers -/

/-- The block of queries a grid point works on. -/
def pt (t : Fin cfg0.N) : Fin 8 := ⟨t.val, t.isLt⟩

theorem coord1 : ∀ t : Fin cfg0.N, (grid0.coords t 1).val = (pt t).val :=
  (by decide +kernel : ∀ t : Fin grid0.N, (grid0.coords t 1).val = t.val)

theorem ix_own : ∀ t : Fin cfg0.N, cc0_transform_0 (grid0.coords t) = ![0, (pt t).val, 0] :=
  (by decide +kernel : ∀ t : Fin grid0.N, cc0_transform_0 (grid0.coords t) = ![0, t.val, 0])
theorem ix_next : ∀ t : Fin cfg0.N, cc0_transform_1 (grid0.coords t) = ![0, (next (pt t)).val, 0] :=
  (by decide +kernel : ∀ t : Fin grid0.N, cc0_transform_1 (grid0.coords t) = ![0, min (t.val + 1) 7, 0])
theorem ix_prev : ∀ t : Fin cfg0.N, cc0_transform_2 (grid0.coords t) = ![0, (prev (pt t)).val, 0] :=
  (by decide +kernel : ∀ t : Fin grid0.N, cc0_transform_2 (grid0.coords t) = ![0, t.val - 1, 0])

/-- A place of row `a` of the block of index `n`, in the array. -/
theorem place (u : Fin 3 → Nat) (n : Fin 8) (hu : u = ![0, n.val, 0]) (a : Fin 16) (p e : Fin 128) (Z : S16x1024x128.Idx)
    (hZ : ∀ k, (Z k).val = u k * S16x128x128.size k + ((row a).emb (ix3 0 p e) k).val) : Z = ix3 a (posIx n p) e := by
  subst hu
  funext k
  apply Fin.ext
  rw [hZ]
  match k with
  | ⟨0, _⟩ => show 0 * 16 + (a.val + 1 * 0) = a.val; omega
  | ⟨1, _⟩ => show n.val * 128 + (0 + 1 * p.val) = n.val * 128 + p.val; omega
  | ⟨2, _⟩ => show 0 * 128 + (0 + 1 * e.val) = e.val; omega

variable (m : (ℓ : Loc nD τ sig) → Buf (Elt Ideal) ℓ) (c : Dev nD) (t : Fin cfg0.N) (a : Fin 16) (p e : Fin 128)

theorem ld0 : View.ld (iblk m c 0 t) (row a) (ix3 0 p e) = fv S16x1024x128 .bf16 (V m c main_v3) (ix3 a (posIx (pt t) p) e) :=
  congrArg (fv S16x1024x128 .bf16 (V m c main_v3)) (place _ _ (ix_own t) a p e (((cfg0.win 0).blk t).view.emb ((row a).emb (ix3 0 p e)))
    fun k => Pipeline.Window.rect_emb_val (cfg0.win 0) t _ k)

theorem ld1 : View.ld (iblk m c 1 t) (row a) (ix3 0 p e) = fv S16x1024x128 .bf16 (V m c main_v3) (ix3 a (posIx (next (pt t)) p) e) :=
  congrArg (fv S16x1024x128 .bf16 (V m c main_v3)) (place _ _ (ix_next t) a p e (((cfg0.win 1).blk t).view.emb ((row a).emb (ix3 0 p e)))
    fun k => Pipeline.Window.rect_emb_val (cfg0.win 1) t _ k)

theorem ld2 : View.ld (iblk m c 2 t) (row a) (ix3 0 p e) = fv S16x1024x128 .bf16 (V m c main_v7) (ix3 a (posIx (prev (pt t)) p) e) :=
  congrArg (fv S16x1024x128 .bf16 (V m c main_v7)) (place _ _ (ix_prev t) a p e (((cfg0.win 2).blk t).view.emb ((row a).emb (ix3 0 p e)))
    fun k => Pipeline.Window.rect_emb_val (cfg0.win 2) t _ k)

theorem ld3 : View.ld (iblk m c 3 t) (row a) (ix3 0 p e) = fv S16x1024x128 .bf16 (V m c main_v7) (ix3 a (posIx (pt t) p) e) :=
  congrArg (fv S16x1024x128 .bf16 (V m c main_v7)) (place _ _ (ix_own t) a p e (((cfg0.win 3).blk t).view.emb ((row a).emb (ix3 0 p e)))
    fun k => Pipeline.Window.rect_emb_val (cfg0.win 3) t _ k)

theorem ld4 : View.ld (iblk m c 4 t) (row a) (ix3 0 p e) = fv S16x1024x128 .bf16 (V m c main_v11) (ix3 a (posIx (prev (pt t)) p) e) :=
  congrArg (fv S16x1024x128 .bf16 (V m c main_v11)) (place _ _ (ix_prev t) a p e (((cfg0.win 4).blk t).view.emb ((row a).emb (ix3 0 p e)))
    fun k => Pipeline.Window.rect_emb_val (cfg0.win 4) t _ k)

theorem ld5 : View.ld (iblk m c 5 t) (row a) (ix3 0 p e) = fv S16x1024x128 .bf16 (V m c main_v11) (ix3 a (posIx (pt t) p) e) :=
  congrArg (fv S16x1024x128 .bf16 (V m c main_v11)) (place _ _ (ix_own t) a p e (((cfg0.win 5).blk t).view.emb ((row a).emb (ix3 0 p e)))
    fun k => Pipeline.Window.rect_emb_val (cfg0.win 5) t _ k)

theorem ld6 : View.ld (iblk m c 6 t) (row a) (ix3 0 p e) = fv S16x1024x128 .bf16 (V m c main_v78) (ix3 a (posIx (pt t) p) e) :=
  congrArg (fv S16x1024x128 .bf16 (V m c main_v78)) (place _ _ (ix_own t) a p e (((cfg0.win 6).blk t).view.emb ((row a).emb (ix3 0 p e)))
    fun k => Pipeline.Window.rect_emb_val (cfg0.win 6) t _ k)

theorem ld7 : View.ld (iblk m c 7 t) (row a) (ix3 0 p e) = fv S16x1024x128 .bf16 (V m c main_v78) (ix3 a (posIx (next (pt t)) p) e) :=
  congrArg (fv S16x1024x128 .bf16 (V m c main_v78)) (place _ _ (ix_next t) a p e (((cfg0.win 7).blk t).view.emb ((row a).emb (ix3 0 p e)))
    fun k => Pipeline.Window.rect_emb_val (cfg0.win 7) t _ k)

theorem ld8 : View.ld (iblk m c 8 t) (row a) (ix3 0 p e) = fv S16x1024x128 .f32 (V m c main_v126) (ix3 a (posIx (pt t) p) e) :=
  congrArg (fv S16x1024x128 .f32 (V m c main_v126)) (place _ _ (ix_own t) a p e (((cfg0.win 8).blk t).view.emb ((row a).emb (ix3 0 p e)))
    fun k => Pipeline.Window.rect_emb_val (cfg0.win 8) t _ k)

theorem ld9 : View.ld (iblk m c 9 t) (row a) (ix3 0 p e) = fv S16x1024x128 .f32 (V m c main_v126) (ix3 a (posIx (next (pt t)) p) e) :=
  congrArg (fv S16x1024x128 .f32 (V m c main_v126)) (place _ _ (ix_next t) a p e (((cfg0.win 9).blk t).view.emb ((row a).emb (ix3 0 p e)))
    fun k => Pipeline.Window.rect_emb_val (cfg0.win 9) t _ k)

theorem ld10 : View.ld (iblk m c 10 t) (row a) (ix3 0 p e) = fv S16x1024x128 .f32 (V m c main_v131) (ix3 a (posIx (pt t) p) e) :=
  congrArg (fv S16x1024x128 .f32 (V m c main_v131)) (place _ _ (ix_own t) a p e (((cfg0.win 10).blk t).view.emb ((row a).emb (ix3 0 p e)))
    fun k => Pipeline.Window.rect_emb_val (cfg0.win 10) t _ k)

theorem ld11 : View.ld (iblk m c 11 t) (row a) (ix3 0 p e) = fv S16x1024x128 .f32 (V m c main_v131) (ix3 a (posIx (next (pt t)) p) e) :=
  congrArg (fv S16x1024x128 .f32 (V m c main_v131)) (place _ _ (ix_next t) a p e (((cfg0.win 11).blk t).view.emb ((row a).emb (ix3 0 p e)))
    fun k => Pipeline.Window.rect_emb_val (cfg0.win 11) t _ k)

theorem reads {x : Args} (G : Given m c x) (r h : Fin 4) :
    Reads x r (pt t) h (grid0.coords t) (View.ld (iblk m c 0 t) (row (rowIx r h))) (View.ld (iblk m c 1 t) (row (rowIx r h)))
      (View.ld (iblk m c 2 t) (row (rowIx r h))) (View.ld (iblk m c 3 t) (row (rowIx r h))) (View.ld (iblk m c 4 t) (row (rowIx r h)))
      (View.ld (iblk m c 5 t) (row (rowIx r h))) (View.ld (iblk m c 6 t) (row (rowIx r h))) (View.ld (iblk m c 7 t) (row (rowIx r h)))
      (View.ld (iblk m c 8 t) (row (rowIx r h))) (View.ld (iblk m c 9 t) (row (rowIx r h))) (View.ld (iblk m c 10 t) (row (rowIx r h)))
      (View.ld (iblk m c 11 t) (row (rowIx r h))) where
  hi := coord1 t
  q a e := (ld0 m c t _ a e).trans (V109_at G r h _ a e)
  qn a e := (ld1 m c t _ a e).trans (V109_at G r h _ a e)
  kp a e := (ld2 m c t _ a e).trans (V113_at G r h _ a e)
  ko a e := (ld3 m c t _ a e).trans (V113_at G r h _ a e)
  vp a e := (ld4 m c t _ a e).trans (V117_at G r h _ a e)
  vo a e := (ld5 m c t _ a e).trans (V117_at G r h _ a e)
  d a e := (ld6 m c t _ a e).trans (V121_at G r h _ a e)
  dn a e := (ld7 m c t _ a e).trans (V121_at G r h _ a e)
  ls a e := (ld8 m c t _ a e).trans (V126_at G r h _ a e)
  lsn a e := (ld9 m c t _ a e).trans (V126_at G r h _ a e)
  dl a e := (ld10 m c t _ a e).trans (V131_at G r h _ a e)
  dln a e := (ld11 m c t _ a e).trans (V131_at G r h _ a e)

end Cert.Attn

end
-- ==== Proof.RefD.lean ====
module

public import proofs.«01_k».proof.Proof.RefC

@[expose] public section

set_option maxRecDepth 16384

noncomputable section

namespace Cert.Attn

open Cert.ReferenceIdeal Cert.ReferenceIdeal.Gen Cert.ReferenceIdeal.Read
open Idealize.ShloMosaic Idealize.ShloMosaic.TcCoe Idealize.SL.Sem

/-! # The gradient through the group's softmax -/

variable (x : Args)

theorem v169_at (r : Fin 4) (n : Fin 8) (h : Fin 4) (i : Fin 128) (u : Fin 1) :
    val_main_v169 (F := Ideal) (up3 x.q) (up3 x.k) (up3 x.v) (up3 x.o0) (up2 x.l0) (up3 x.o2) (up2 x.l2) (up3 x.ct) (ix5 r n h i u)
      = ((dl x (tok r n i) h : ℝ) : EReal) := by
  pointwise [val_main_v169]
  exact v165_at x r n h i

theorem v170_at (r : Fin 4) (n : Fin 8) (h : Fin 4) (i : Fin 128) (u : Fin 1) :
    val_main_v170 (F := Ideal) (up3 x.q) (up3 x.k) (up3 x.v) (up3 x.o0) (up2 x.l0) (up3 x.o2) (up2 x.l2) (up3 x.ct) (ix5 r n h i u)
      = ((dl x (tok r n i) h / den x r n h i : ℝ) : EReal) := by
  rw [val_main_v170_apply, v169_at, v67_at, r_div _ _ (den_pos x r n h i).ne']

theorem v172_at (r : Fin 4) (n : Fin 8) (h : Fin 4) (i : Fin 128) (j : Fin 256) :
    val_main_v172 (F := Ideal) (up3 x.q) (up3 x.k) (up3 x.v) (up2 x.l0) (up2 x.l2) (up3 x.ct) (ix5 r n h i j)
      = ((rdp x r n h i j : ℝ) : EReal) := by
  pointwise [val_main_v172]
  simp only [v171_at, v20_at, ← EReal.coe_mul, ← coe_sum]
  rfl

theorem v71_at (r : Fin 4) (n : Fin 8) (h : Fin 4) (i : Fin 128) (u : Fin 1) : val_main_v71 (F := Ideal) (ix5 r n h i u) = ((1 : ℝ) : EReal) := by
  rw [val_main_v71_apply]; exact one_word

theorem v72_at (r : Fin 4) (n : Fin 8) (h : Fin 4) (i : Fin 128) (u : Fin 1) :
    val_main_v72 (F := Ideal) (up3 x.q) (up3 x.k) (ix5 r n h i u)
      = ((1 / (den x r n h i * den x r n h i) : ℝ) : EReal) := by
  rw [val_main_v72_apply, val_main_v70_apply, v67_at, v71_at, r_mul, r_div _ _ (mul_ne_zero (den_pos x r n h i).ne' (den_pos x r n h i).ne')]

theorem v175_at (r : Fin 4) (n : Fin 8) (h : Fin 4) (i : Fin 128) (j : Fin 256) :
    val_main_v175 (F := Ideal) (up3 x.q) (up3 x.k) (ix5 r n h i j)
      = ((1 / (den x r n h i * den x r n h i) : ℝ) : EReal) := by
  pointwise [val_main_v175]
  exact v72_at x r n h i 0

theorem v177_at (r : Fin 4) (n : Fin 8) (h : Fin 4) (i : Fin 128) (j : Fin 256) :
    val_main_v177 (F := Ideal) (up3 x.q) (up3 x.k) (up3 x.v) (up2 x.l0) (up2 x.l2) (up3 x.ct) (ix5 r n h i j)
      = ((rdp x r n h i j * (1 / (den x r n h i * den x r n h i)) * ex x r n h i j : ℝ) : EReal) := by
  rw [val_main_v177_apply, val_main_v176_apply, v172_at, v175_at, v65_at, r_mul, r_mul]

theorem v178_at (r : Fin 4) (n : Fin 8) (h : Fin 4) (i : Fin 128) :
    val_main_v178 (F := Ideal) (up3 x.q) (up3 x.k) (up3 x.v) (up2 x.l0) (up2 x.l2) (up3 x.ct) (ix4 r n h i)
      = ((∑ j : Fin 256, rdp x r n h i j * (1 / (den x r n h i * den x r n h i)) * ex x r n h i j : ℝ) : EReal) := by
  pointwise [val_main_v178, val_main_cst_28]
  simp only [v177_at, ← coe_sum]

theorem v179_at (r : Fin 4) (n : Fin 8) (h : Fin 4) (i : Fin 128) (u : Fin 1) :
    val_main_v179 (F := Ideal) (up3 x.q) (up3 x.k) (up3 x.v) (up2 x.l0) (up2 x.l2) (up3 x.ct) (ix5 r n h i u)
      = ((∑ j : Fin 256, rdp x r n h i j * (1 / (den x r n h i * den x r n h i)) * ex x r n h i j : ℝ) : EReal) := by
  pointwise [val_main_v179]
  exact v178_at x r n h i

theorem v181_at (r : Fin 4) (n : Fin 8) (h : Fin 4) (i : Fin 128) (u : Fin 1) :
    val_main_v181 (F := Ideal) (up3 x.q) (up3 x.k) (up3 x.v) (up3 x.o0) (up2 x.l0) (up3 x.o2) (up2 x.l2) (up3 x.ct) (ix5 r n h i u)
      = ((dden x r n h i : ℝ) : EReal) := by
  rw [val_main_v181_apply, val_main_v180_apply, v170_at, v179_at, r_neg, r_add, dden]

theorem v184_at (r : Fin 4) (n : Fin 8) (h : Fin 4) (i : Fin 128) :
    val_main_v184 (F := Ideal) (up3 x.q) (up3 x.k) (up3 x.v) (up3 x.o0) (up2 x.l0) (up3 x.o2) (up2 x.l2) (up3 x.ct) (ix4 r n h i)
      = ((dden x r n h i : ℝ) : EReal) := by
  pointwise [val_main_v184, val_main_cst_29]
  simp only [v181_at, ← coe_sum, Fin.sum_univ_one]

theorem v182_at (r : Fin 4) (n : Fin 8) (h : Fin 4) (i : Fin 128) (j : Fin 256) :
    val_main_v182 (F := Ideal) (up3 x.q) (up3 x.k) (ix5 r n h i j)
      = ((den x r n h i : ℝ) : EReal) := by
  pointwise [val_main_v182]
  exact v67_at x r n h i 0

theorem v185_at (r : Fin 4) (n : Fin 8) (h : Fin 4) (i : Fin 128) (j : Fin 256) :
    val_main_v185 (F := Ideal) (up3 x.q) (up3 x.k) (up3 x.v) (up3 x.o0) (up2 x.l0) (up3 x.o2) (up2 x.l2) (up3 x.ct) (ix5 r n h i j)
      = ((dden x r n h i : ℝ) : EReal) := by
  pointwise [val_main_v185]
  exact v184_at x r n h i

theorem v187_at (r : Fin 4) (n : Fin 8) (h : Fin 4) (i : Fin 128) (j : Fin 256) :
    val_main_v187 (F := Ideal) (up3 x.q) (up3 x.k) (up3 x.v) (up3 x.o0) (up2 x.l0) (up3 x.o2) (up2 x.l2) (up3 x.ct) (ix5 r n h i j)
      = ((dex x r n h i j : ℝ) : EReal) := by
  rw [val_main_v187_apply, val_main_v186_apply, val_main_v183_apply, v172_at, v182_at, v185_at, v65_at,
    r_div _ _ (den_pos x r n h i).ne', r_add, r_mul, dex]

theorem v188_at (r : Fin 4) (n : Fin 8) (h : Fin 4) (i : Fin 128) (j : Fin 256) :
    val_main_v188 (F := Ideal) (up3 x.q) (up3 x.k) (up3 x.v) (up3 x.o0) (up2 x.l0) (up3 x.o2) (up2 x.l2) (up3 x.ct) (ix5 r n h i j)
      = ((-dex x r n h i j : ℝ) : EReal) := by
  rw [val_main_v188_apply, v187_at, r_neg]

theorem v189_at (r : Fin 4) (n : Fin 8) (h : Fin 4) (i : Fin 128) :
    val_main_v189 (F := Ideal) (up3 x.q) (up3 x.k) (up3 x.v) (up3 x.o0) (up2 x.l0) (up3 x.o2) (up2 x.l2) (up3 x.ct) (ix4 r n h i)
      = ((∑ j : Fin 256, -dex x r n h i j : ℝ) : EReal) := by
  pointwise [val_main_v189, val_main_cst_30]
  simp only [v188_at, ← coe_sum]

theorem v190_at (r : Fin 4) (n : Fin 8) (h : Fin 4) (i : Fin 128) (u : Fin 1) :
    val_main_v190 (F := Ideal) (up3 x.q) (up3 x.k) (up3 x.v) (up3 x.o0) (up2 x.l0) (up3 x.o2) (up2 x.l2) (up3 x.ct) (ix5 r n h i u)
      = ((∑ j : Fin 256, -dex x r n h i j : ℝ) : EReal) := by
  pointwise [val_main_v190]
  exact v189_at x r n h i

theorem v191_at (r : Fin 4) (n : Fin 8) (h : Fin 4) (i : Fin 128) (u : Fin 1) :
    val_main_v191 (F := Ideal) (up3 x.q) (up3 x.k) (up3 x.v) (up3 x.o0) (up2 x.l0) (up3 x.o2) (up2 x.l2) (up3 x.ct) (ix5 r n h i u)
      = ((dtop x r n h i : ℝ) : EReal) := by
  rw [val_main_v191_apply, v169_at, v190_at, r_add, dtop]

theorem v192_at (r : Fin 4) (n : Fin 8) (h : Fin 4) (i : Fin 128) :
    val_main_v192 (F := Ideal) (up3 x.q) (up3 x.k) (up3 x.v) (up3 x.o0) (up2 x.l0) (up3 x.o2) (up2 x.l2) (up3 x.ct) (ix4 r n h i)
      = ((0 : ℝ) : EReal) := by
  pointwise [val_main_v192, val_main_cst_31]
  simp only [v191_at, dtop_eq, ← coe_sum, Fin.sum_univ_one]

/-- The mark of the keys whose score is the largest: a word of zero or one. -/
theorem v60_word (r : Fin 4) (n : Fin 8) (h : Fin 4) (i : Fin 128) (j : Fin 256) : ∃ b : BitVec 1, val_main_v60 (F := Ideal) (up3 x.q) (up3 x.k) (ix5 r n h i j) = ((b.toNat : ℝ) : EReal)
    ∧ (valid n i j → top x r n h i = score x r n h i j → b = 1#1) := by
  have e58 : val_main_v58 (F := Ideal) (up3 x.q) (up3 x.k) (ix5 r n h i j) = ((top x r n h i : ℝ) : EReal) := by
    pointwise [val_main_v58, val_main_v57]
    exact v56_at x r n h i
  refine ⟨val_main_v59 (F := Ideal) (up3 x.q) (up3 x.k) (ix5 r n h i j), ?_, fun hv ht => ?_⟩
  · rw [val_main_v60_apply]; rfl
  · rw [val_main_v59_apply, e58, v55_at, if_pos hv, ht]
    show BitVec.ofBool (decide _) = 1#1
    rw [decide_eq_true rfl]; rfl

theorem v61_ne (r : Fin 4) (n : Fin 8) (h : Fin 4) (i : Fin 128) : val_main_v61 (F := Ideal) (up3 x.q) (up3 x.k) (ix4 r n h i) ≠ (0 : EReal) := by
  choose b hb hb1 using v60_word x r n h i
  obtain ⟨j, hv, ht⟩ := top_attained x r n h i
  pointwise [val_main_v61, val_main_cst_10]
  simp only [hb]
  exact count_ne_zero b j (hb1 j hv ht)

theorem v193_at (r : Fin 4) (n : Fin 8) (h : Fin 4) (i : Fin 128) :
    val_main_v193 (F := Ideal) (up3 x.q) (up3 x.k) (up3 x.v) (up3 x.o0) (up2 x.l0) (up3 x.o2) (up2 x.l2) (up3 x.ct) (ix4 r n h i)
      = ((0 : ℝ) : EReal) := by
  rw [val_main_v193_apply, v192_at, EReal.coe_zero]
  exact zero_div (v61_ne x r n h i)

theorem v194_at (r : Fin 4) (n : Fin 8) (h : Fin 4) (i : Fin 128) (j : Fin 256) :
    val_main_v194 (F := Ideal) (up3 x.q) (up3 x.k) (up3 x.v) (up3 x.o0) (up2 x.l0) (up3 x.o2) (up2 x.l2) (up3 x.ct) (ix5 r n h i j)
      = ((0 : ℝ) : EReal) := by
  pointwise [val_main_v194]
  exact v193_at x r n h i

theorem v195_at (r : Fin 4) (n : Fin 8) (h : Fin 4) (i : Fin 128) (j : Fin 256) :
    val_main_v195 (F := Ideal) (up3 x.q) (up3 x.k) (up3 x.v) (up3 x.o0) (up2 x.l0) (up3 x.o2) (up2 x.l2) (up3 x.ct) (ix5 r n h i j)
      = ((0 : ℝ) : EReal) := by
  obtain ⟨b, hb, -⟩ := v60_word x r n h i j
  rw [val_main_v195_apply, v194_at, hb, r_mul, zero_mul]

theorem v197_at (r : Fin 4) (n : Fin 8) (h : Fin 4) (i : Fin 128) (j : Fin 256) :
    val_main_v197 (F := Ideal) (up3 x.q) (up3 x.k) (up3 x.v) (up3 x.o0) (up2 x.l0) (up3 x.o2) (up2 x.l2) (up3 x.ct) (ix5 r n h i j)
      = ((if valid n i j then dex x r n h i j else 0 : ℝ) : EReal) := by
  rw [val_main_v197_apply, v55_1_at, select_bit, val_main_v196_apply, v187_at, v195_at, r_add, add_zero]
  have e : val_main_call1_v0 (F := Ideal) (ix5 r n h i j) = ((0 : ℝ) : EReal) := by
    pointwise [val_main_call1_v0, val_main_call1_cst]
    rfl
  rw [e]
  split <;> rfl

theorem v199_at (r : Fin 4) (n : Fin 8) (h : Fin 4) (i : Fin 128) (j : Fin 256) :
    val_main_v199 (F := Ideal) (up3 x.q) (up3 x.k) (up3 x.v) (up3 x.o0) (up2 x.l0) (up3 x.o2) (up2 x.l2) (up3 x.ct) (ix5 r n h i j)
      = ((ds x r n h i j : ℝ) : EReal) := by
  have e : val_main_v198 (F := Ideal) (ix5 r n h i j) = ((scale : ℝ) : EReal) := by
    rw [val_main_v198_apply]; exact scale_word
  rw [val_main_v199_apply, v197_at, e, r_mul]
  split
  · rw [dex_eq_ds]
  · rename_i hv
    rw [ds_of_not_valid x r n h i j hv, zero_mul]

end Cert.Attn

end
-- ==== Proof.RefE.lean ====
module

public import proofs.«01_k».proof.Proof.RefD

@[expose] public section

set_option maxRecDepth 16384

noncomputable section

namespace Cert.Attn

open Cert.ReferenceIdeal Cert.ReferenceIdeal.Gen Cert.ReferenceIdeal.Read
open Idealize.ShloMosaic Idealize.ShloMosaic.TcCoe Idealize.SL.Sem

/-! # The reference's results

The gradients at a place of a block, then in rows: row `4 r + h` is head `h` of the tokens of residue `r`. -/

variable (x : Args)

theorem v201_at (r : Fin 4) (n : Fin 8) (j : Fin 256) (h : Fin 4) (e : Fin 128) :
    val_main_v201 (F := Ideal) (up3 x.q) (up3 x.k) (up3 x.v) (up3 x.o0) (up2 x.l0) (up3 x.o2) (up2 x.l2) (up3 x.ct) (ix5 r n j h e)
      = ((∑ i : Fin 128, ds x r n h i j * x.q (tok r n i) h e : ℝ) : EReal) := by
  pointwise [val_main_v201, val_main_v200]
  simp only [v199_at, v2_at, ← EReal.coe_mul, ← coe_sum]

theorem v203_at (r : Fin 4) (n : Fin 8) (i : Fin 128) (h : Fin 4) (e : Fin 128) :
    val_main_v203 (F := Ideal) (up3 x.q) (up3 x.k) (up3 x.v) (up3 x.o0) (up2 x.l0) (up3 x.o2) (up2 x.l2) (up3 x.ct) (ix5 r n i h e)
      = ((gq x r n h i e : ℝ) : EReal) := by
  pointwise [val_main_v203, val_main_v202]
  simp only [v199_at, v11_at, ← EReal.coe_mul, ← coe_sum]
  rfl

theorem v174_at (r : Fin 4) (n : Fin 8) (j : Fin 256) (h : Fin 4) (e : Fin 128) :
    val_main_v174 (F := Ideal) (up3 x.q) (up3 x.k) (up2 x.l0) (up2 x.l2) (up3 x.ct) (ix5 r n j h e)
      = ((∑ i : Fin 128, wt x r n h i j * x.ct (tok r n i) h e : ℝ) : EReal) := by
  pointwise [val_main_v174, val_main_v173]
  simp only [v171_at, v69_at, ← EReal.coe_mul, al_ct_prob, ← coe_sum]

theorem v205_at (r : Fin 4) (n : Fin 8) (i : Fin 128) (h : Fin 4) (e : Fin 128) :
    val_main_v205 (F := Ideal) (up3 x.q) (up3 x.k) (up2 x.l0) (up2 x.l2) (up3 x.ct) (ix5 r n i h e)
      = ((∑ a : Fin 128, wt x r n h a ⟨128 + i.val, by omega⟩ * x.ct (tok r n a) h e : ℝ) : EReal) := by
  pointwise [val_main_v205]
  exact v174_at x r n ⟨128 + i.val, by omega⟩ h e

theorem v208_at (r : Fin 4) (n : Fin 8) (i : Fin 128) (h : Fin 4) (e : Fin 128) :
    val_main_v208 (F := Ideal) (up3 x.q) (up3 x.k) (up2 x.l0) (up2 x.l2) (up3 x.ct) (ix5 r n i h e)
      = ((if hn : n.val < 7 then ∑ a : Fin 128, wt x r ⟨n.val + 1, by omega⟩ h a ⟨i.val, by omega⟩ * x.ct (tok r ⟨n.val + 1, by omega⟩ a) h e else 0 : ℝ) : EReal) := by
  pointwise [val_main_v208, val_main_cst_33, val_main_v207, val_main_v204]
  by_cases hn : n.val < 7
  · rw [dif_pos hn, dif_pos hn]
    rw [show (⟨1 + n.val, by omega⟩ : Fin 8) = ⟨n.val + 1, by omega⟩ from Fin.ext (Nat.add_comm 1 n.val)]
    exact v174_at x r ⟨n.val + 1, by omega⟩ ⟨i.val, by omega⟩ h e
  · rw [dif_neg hn, dif_neg hn]; rfl

theorem v209_at (r : Fin 4) (n : Fin 8) (i : Fin 128) (h : Fin 4) (e : Fin 128) :
    val_main_v209 (F := Ideal) (up3 x.q) (up3 x.k) (up2 x.l0) (up2 x.l2) (up3 x.ct) (ix5 r n i h e)
      = ((gv x r n h i e : ℝ) : EReal) := by
  rw [val_main_v209_apply, v205_at, v208_at, r_add, gv]

theorem v214_at (r : Fin 4) (n : Fin 8) (i : Fin 128) (h : Fin 4) (e : Fin 128) :
    val_main_v214 (F := Ideal) (up3 x.q) (up3 x.k) (up3 x.v) (up3 x.o0) (up2 x.l0) (up3 x.o2) (up2 x.l2) (up3 x.ct) (ix5 r n i h e)
      = ((∑ a : Fin 128, ds x r n h a ⟨128 + i.val, by omega⟩ * x.q (tok r n a) h e : ℝ) : EReal) := by
  pointwise [val_main_v214]
  exact v201_at x r n ⟨128 + i.val, by omega⟩ h e

theorem v217_at (r : Fin 4) (n : Fin 8) (i : Fin 128) (h : Fin 4) (e : Fin 128) :
    val_main_v217 (F := Ideal) (up3 x.q) (up3 x.k) (up3 x.v) (up3 x.o0) (up2 x.l0) (up3 x.o2) (up2 x.l2) (up3 x.ct) (ix5 r n i h e)
      = ((if hn : n.val < 7 then ∑ a : Fin 128, ds x r ⟨n.val + 1, by omega⟩ h a ⟨i.val, by omega⟩ * x.q (tok r ⟨n.val + 1, by omega⟩ a) h e else 0 : ℝ) : EReal) := by
  pointwise [val_main_v217, val_main_cst_34, val_main_v216, val_main_v213]
  by_cases hn : n.val < 7
  · rw [dif_pos hn, dif_pos hn]
    rw [show (⟨1 + n.val, by omega⟩ : Fin 8) = ⟨n.val + 1, by omega⟩ from Fin.ext (Nat.add_comm 1 n.val)]
    exact v201_at x r ⟨n.val + 1, by omega⟩ ⟨i.val, by omega⟩ h e
  · rw [dif_neg hn, dif_neg hn]; rfl

theorem v218_at (r : Fin 4) (n : Fin 8) (i : Fin 128) (h : Fin 4) (e : Fin 128) :
    val_main_v218 (F := Ideal) (up3 x.q) (up3 x.k) (up3 x.v) (up3 x.o0) (up2 x.l0) (up3 x.o2) (up2 x.l2) (up3 x.ct) (ix5 r n i h e)
      = ((gk x r n h i e : ℝ) : EReal) := by
  rw [val_main_v218_apply, v214_at, v217_at, r_add, gk]

theorem v228_at (r : Fin 4) (h : Fin 4) (n : Fin 8) (i e : Fin 128) :
    val_main_v228 (F := Ideal) (up3 x.q) (up3 x.k) (up3 x.v) (up3 x.o0) (up2 x.l0) (up3 x.o2) (up2 x.l2) (up3 x.ct) (ix3 ⟨r.val * 4 + h.val, by omega⟩ ⟨n.val * 128 + i.val, by omega⟩ e)
      = ((gq x r n h i e : ℝ) : EReal) := by
  pointwise [val_main_v228, val_main_v227, val_main_v226, val_main_v225, val_main_v224, val_main_v223, val_main_v222]
  refine (congrArg _ ?_).trans (v203_at x r n i h e)
  funext a; match a with
  | ⟨0, _⟩ => exact Fin.ext (by show _ = r.val; simp)
  | ⟨1, _⟩ => exact Fin.ext (by show _ = n.val; simp)
  | ⟨2, _⟩ => exact Fin.ext (by show _ = i.val; simp)
  | ⟨3, _⟩ => exact Fin.ext (by show _ = h.val; simp)
  | ⟨4, _⟩ => rfl

theorem v232_at (r : Fin 4) (h : Fin 4) (n : Fin 8) (i e : Fin 128) :
    val_main_v232 (F := Ideal) (up3 x.q) (up3 x.k) (up3 x.v) (up3 x.o0) (up2 x.l0) (up3 x.o2) (up2 x.l2) (up3 x.ct) (ix3 ⟨r.val * 4 + h.val, by omega⟩ ⟨n.val * 128 + i.val, by omega⟩ e)
      = ((gk x r n h i e : ℝ) : EReal) := by
  pointwise [val_main_v232, val_main_v231, val_main_v230, val_main_v229, val_main_v221, val_main_v220, val_main_v219]
  refine (congrArg _ ?_).trans (v218_at x r n i h e)
  funext a; match a with
  | ⟨0, _⟩ => exact Fin.ext (by show _ = r.val; simp)
  | ⟨1, _⟩ => exact Fin.ext (by show _ = n.val; simp)
  | ⟨2, _⟩ => exact Fin.ext (by show _ = i.val; simp)
  | ⟨3, _⟩ => exact Fin.ext (by show _ = h.val; simp)
  | ⟨4, _⟩ => rfl

theorem v236_at (r : Fin 4) (h : Fin 4) (n : Fin 8) (i e : Fin 128) :
    val_main_v236 (F := Ideal) (up3 x.q) (up3 x.k) (up2 x.l0) (up2 x.l2) (up3 x.ct) (ix3 ⟨r.val * 4 + h.val, by omega⟩ ⟨n.val * 128 + i.val, by omega⟩ e)
      = ((gv x r n h i e : ℝ) : EReal) := by
  pointwise [val_main_v236, val_main_v235, val_main_v234, val_main_v233, val_main_v212, val_main_v211, val_main_v210]
  refine (congrArg _ ?_).trans (v209_at x r n i h e)
  funext a; match a with
  | ⟨0, _⟩ => exact Fin.ext (by show _ = r.val; simp)
  | ⟨1, _⟩ => exact Fin.ext (by show _ = n.val; simp)
  | ⟨2, _⟩ => exact Fin.ext (by show _ = i.val; simp)
  | ⟨3, _⟩ => exact Fin.ext (by show _ = h.val; simp)
  | ⟨4, _⟩ => rfl

end Cert.Attn

end
-- ==== Proof.Arrays.lean ====
module

public import proofs.«01_k».proof.Proof.Blocks
public import proofs.«01_k».proof.Proof.Rows
public import proofs.«01_k».proof.Proof.RefE

@[expose] public section

set_option maxRecDepth 16384

noncomputable section

namespace Cert.Attn

open Cert.KernelIdeal Cert.KernelIdeal.Gen Idealize.ShloMosaic.StableHlo
open Idealize.ShloMosaic Idealize.ShloMosaic.TcCoe Idealize.SL.Sem

/-! # The call's results are the gradients, by rows -/

/-- The row and position of a head's query, read back. -/
def headOf (a : Fin 16) : Fin 4 := ⟨a.val % 4, by omega⟩
def residueOf (a : Fin 16) : Fin 4 := ⟨a.val / 4, by omega⟩
def blockOf (b : Fin 1024) : Fin 8 := ⟨b.val / 128, by omega⟩
def placeOf (b : Fin 1024) : Fin 128 := ⟨b.val % 128, by omega⟩

theorem rowIx_of (a : Fin 16) : rowIx (residueOf a) (headOf a) = a := Fin.ext (by simp only [rowIx, residueOf, headOf]; omega)
theorem posIx_of (b : Fin 1024) : posIx (blockOf b) (placeOf b) = b := Fin.ext (by simp only [posIx, blockOf, placeOf]; omega)
theorem residueOf_row (r h : Fin 4) : residueOf (rowIx r h) = r := Fin.ext (by simp only [rowIx, residueOf]; omega)
theorem headOf_row (r h : Fin 4) : headOf (rowIx r h) = h := Fin.ext (by simp only [rowIx, headOf]; omega)
theorem blockOf_pos (n : Fin 8) (i : Fin 128) : blockOf (posIx n i) = n := Fin.ext (by simp only [posIx, blockOf]; omega)
theorem placeOf_pos (n : Fin 8) (i : Fin 128) : placeOf (posIx n i) = i := Fin.ext (by simp only [posIx, placeOf]; omega)

/-- Numbers given by residue, block, head, place and lane, laid out by rows. -/
def byRows (f : Fin 4 → Fin 8 → Fin 4 → Fin 128 → Fin 128 → ℝ) : FVec Ideal S16x1024x128 .bf16 :=
  fun y => ((f (residueOf (y 0)) (blockOf (y 1)) (headOf (y 0)) (placeOf (y 1)) (y 2) : ℝ) : EReal)

theorem byRows_at (f : Fin 4 → Fin 8 → Fin 4 → Fin 128 → Fin 128 → ℝ) (r h : Fin 4) (n : Fin 8) (i e : Fin 128) :
    byRows f (ix3 (rowIx r h) (posIx n i) e) = ((f r n h i e : ℝ) : EReal) := by
  show ((f (residueOf (rowIx r h)) (blockOf (posIx n i)) (headOf (rowIx r h)) (placeOf (posIx n i)) e : ℝ) : EReal) = _
  rw [residueOf_row, headOf_row, blockOf_pos, placeOf_pos]

theorem eq_byRows (f : Fin 4 → Fin 8 → Fin 4 → Fin 128 → Fin 128 → ℝ) (g : FVec Ideal S16x1024x128 .bf16)
    (hg : ∀ r h n i e, g (ix3 (rowIx r h) (posIx n i) e) = ((f r n h i e : ℝ) : EReal)) : g = byRows f := by
  funext y
  obtain ⟨a, b, e, rfl⟩ : ∃ a b e, y = ix3 a b e := ⟨y 0, y 1, y 2, by
    funext k; match k with
    | ⟨0, _⟩ => rfl
    | ⟨1, _⟩ => rfl
    | ⟨2, _⟩ => rfl⟩
  rw [← rowIx_of a, ← posIx_of b, hg, byRows_at]

section Reference

variable (x : Args)

theorem ref_q : Cert.ReferenceIdeal.Read.val_main_v228 (F := Ideal) (up3 x.q) (up3 x.k) (up3 x.v) (up3 x.o0) (up2 x.l0) (up3 x.o2) (up2 x.l2)
    (up3 x.ct) = byRows (gq x) := eq_byRows _ _ (v228_at x)
theorem ref_k : Cert.ReferenceIdeal.Read.val_main_v232 (F := Ideal) (up3 x.q) (up3 x.k) (up3 x.v) (up3 x.o0) (up2 x.l0) (up3 x.o2) (up2 x.l2)
    (up3 x.ct) = byRows (gk x) := eq_byRows _ _ (v232_at x)
theorem ref_v : Cert.ReferenceIdeal.Read.val_main_v236 (F := Ideal) (up3 x.q) (up3 x.k) (up2 x.l0) (up2 x.l2) (up3 x.ct)
    = byRows (gv x) := eq_byRows _ _ (v236_at x)

end Reference

variable {m : (ℓ : Loc nD τ sig) → Buf (Elt Ideal) ℓ} {c : Dev nD} {x : Args} (G : Given m c x)

/-- A block whose rows are right is the block of the array by rows. -/
theorem block_eq (f : Fin 4 → Fin 8 → Fin 4 → Fin 128 → Fin 128 → ℝ) (t : Fin cfg0.N) (u : Fin 16 → B16 Ideal)
    (hu : ∀ r h p e, u (rowIx r h) (ix3 0 p e) = ((f r (pt t) h p e : ℝ) : EReal)) (y : S16x128x128.Idx) (Z : S16x1024x128.Idx)
    (hZ : ∀ k, (Z k).val = cc0_transform_0 (grid0.coords t) k * S16x128x128.size k + (y k).val) :
    View.canon (rowsDown.map fun a => (⟨row a, u a⟩ : View.Piece (Elt Ideal) S16x128x128 .bf16)) y = byRows f Z := by
  obtain ⟨a, b, e, rfl⟩ : ∃ a b e, y = ix3 a b e := ⟨y 0, y 1, y 2, by
    funext k; match k with
    | ⟨0, _⟩ => rfl
    | ⟨1, _⟩ => rfl
    | ⟨2, _⟩ => rfl⟩
  rw [canon_rows, ← rowIx_of a, hu, place _ _ (ix_own t) (rowIx (residueOf a) (headOf a)) b e Z, byRows_at]
  intro k
  rw [hZ, rowIx_of]
  match k with
  | ⟨0, _⟩ => show _ * 16 + a.val = _ * 16 + (a.val + 1 * 0); omega
  | ⟨1, _⟩ => show _ * 128 + b.val = _ * 128 + (0 + 1 * b.val); omega
  | ⟨2, _⟩ => show _ * 128 + e.val = _ * 128 + (0 + 1 * e.val); omega

include G

theorem out_q (t : Fin cfg0.N) (y : S16x128x128.Idx) (Z : S16x1024x128.Idx)
    (hZ : ∀ k, (Z k).val = cc0_transform_0 (grid0.coords t) k * S16x128x128.size k + (y k).val) :
    out0_12 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y = byRows (gq x) Z := by
  rw [out12_rows]
  exact block_eq (gq x) t (fun a => bQ (grid0.coords t) (View.ld (iblk m c 0 t) (row a)) (View.ld (iblk m c 2 t) (row a)) (View.ld (iblk m c 3 t) (row a)) (View.ld (iblk m c 4 t) (row a)) (View.ld (iblk m c 5 t) (row a)) (View.ld (iblk m c 6 t) (row a)) (View.ld (iblk m c 8 t) (row a)) (View.ld (iblk m c 10 t) (row a)))
    (fun r h p e => bQ_at (reads m c t G r h) p e) y Z hZ

omit G in
theorem cov12 : (cfg0.win 12).Covers := by decide +kernel

theorem arr_q : (dats m 0 c).arrAt 12 cfg0.N = byRows (gq x) := by
  refine Pipeline.Dat.arrAt_eq_of_covers (dats m 0 c) 12 (byRows (gq x)) cov12 fun t hf y => ?_
  have hZ : ∀ k, ((((cfg0.win 12).blk t).view.emb y) k : ℕ) = cc0_transform_0 (grid0.coords t) k * S16x128x128.size k + (y k).val :=
    fun k => Pipeline.Window.rect_emb_val (cfg0.win 12) t y k
  have h := out_q G t y (((cfg0.win 12).blk t).view.emb y) hZ
  rw [after0_12, cast_eq]
  exact h

theorem out_k (t : Fin cfg0.N) (y : S16x128x128.Idx) (Z : S16x1024x128.Idx)
    (hZ : ∀ k, (Z k).val = cc0_transform_0 (grid0.coords t) k * S16x128x128.size k + (y k).val) :
    out0_13 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y = byRows (gk x) Z := by
  rw [out13_rows]
  exact block_eq (gk x) t (fun a => bK (grid0.coords t) (View.ld (iblk m c 0 t) (row a)) (View.ld (iblk m c 1 t) (row a)) (View.ld (iblk m c 2 t) (row a)) (View.ld (iblk m c 3 t) (row a)) (View.ld (iblk m c 4 t) (row a)) (View.ld (iblk m c 5 t) (row a)) (View.ld (iblk m c 6 t) (row a)) (View.ld (iblk m c 7 t) (row a)) (View.ld (iblk m c 8 t) (row a)) (View.ld (iblk m c 9 t) (row a)) (View.ld (iblk m c 10 t) (row a)) (View.ld (iblk m c 11 t) (row a)))
    (fun r h p e => bK_at (reads m c t G r h) p e) y Z hZ

omit G in
theorem cov13 : (cfg0.win 13).Covers := by decide +kernel

theorem arr_k : (dats m 0 c).arrAt 13 cfg0.N = byRows (gk x) := by
  refine Pipeline.Dat.arrAt_eq_of_covers (dats m 0 c) 13 (byRows (gk x)) cov13 fun t hf y => ?_
  have hZ : ∀ k, ((((cfg0.win 13).blk t).view.emb y) k : ℕ) = cc0_transform_0 (grid0.coords t) k * S16x128x128.size k + (y k).val :=
    fun k => Pipeline.Window.rect_emb_val (cfg0.win 13) t y k
  have h := out_k G t y (((cfg0.win 13).blk t).view.emb y) hZ
  rw [after0_13, cast_eq]
  exact h

theorem out_v (t : Fin cfg0.N) (y : S16x128x128.Idx) (Z : S16x1024x128.Idx)
    (hZ : ∀ k, (Z k).val = cc0_transform_0 (grid0.coords t) k * S16x128x128.size k + (y k).val) :
    out0_14 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y = byRows (gv x) Z := by
  rw [out14_rows]
  exact block_eq (gv x) t (fun a => bV (grid0.coords t) (View.ld (iblk m c 0 t) (row a)) (View.ld (iblk m c 1 t) (row a)) (View.ld (iblk m c 2 t) (row a)) (View.ld (iblk m c 3 t) (row a)) (View.ld (iblk m c 6 t) (row a)) (View.ld (iblk m c 7 t) (row a)) (View.ld (iblk m c 8 t) (row a)) (View.ld (iblk m c 9 t) (row a)))
    (fun r h p e => bV_at (reads m c t G r h) p e) y Z hZ

omit G in
theorem cov14 : (cfg0.win 14).Covers := by decide +kernel

theorem arr_v : (dats m 0 c).arrAt 14 cfg0.N = byRows (gv x) := by
  refine Pipeline.Dat.arrAt_eq_of_covers (dats m 0 c) 14 (byRows (gv x)) cov14 fun t hf y => ?_
  have hZ : ∀ k, ((((cfg0.win 14).blk t).view.emb y) k : ℕ) = cc0_transform_0 (grid0.coords t) k * S16x128x128.size k + (y k).val :=
    fun k => Pipeline.Window.rect_emb_val (cfg0.win 14) t y k
  have h := out_v G t y (((cfg0.win 14).blk t).view.emb y) hZ
  rw [after0_14, cast_eq]
  exact h

end Cert.Attn

end
-- ==== Proof.Finite.lean ====
module

public import proofs.«01_k».proof.Defs
public import proofs.«01_k».proof.Proof.Gen.Pre_finite
public import proofs.«01_k».proof.Proof.Arrays

@[expose] public section

set_option maxRecDepth 16384

noncomputable section

namespace Cert.Attn

open Idealize.ShloMosaic Idealize.ShloMosaic.TcCoe Idealize.SL.Sem

/-! # Finite arguments are real arrays -/

/-- An extended real whose absolute value is below the word of infinity is real. -/
theorem real_of_lt (a : EReal) (h : FloatOps.cmpf (F := Ideal) (φ := .f32) .olt (FloatOps.hostAbsf (F := Ideal) (φ := .f32) a) (Ideal.ofBits .f32 0x7F800000#32) = 1#1) :
    a = ((a.toReal : ℝ) : EReal) := by
  rw [inf_word] at h
  have h2 : BitVec.ofBool (decide (max a (-a) < (⊤ : EReal))) = 1#1 := h
  have h3 : max a (-a) < (⊤ : EReal) := by
    by_contra hc
    rw [decide_eq_false hc] at h2
    exact absurd h2 (by decide)
  refine (EReal.coe_toReal (fun e => ?_) (fun e => ?_)).symm
  · subst e; simp at h3
  · subst e; simp at h3

/-- A finite array of 4096 tokens, four heads and 128 lanes is real. -/
theorem real3 (B : Cert.Pre_finite.S_.BroadcastsInDim Cert.Pre_finite.S4096x4x128 (![] : Fin 0 → Fin Cert.Pre_finite.S4096x4x128.rank)) (t : FVec Ideal Cert.Pre_finite.S4096x4x128 .f32)
    (h : cmpf .olt (Host.absf t) (broadcastInDim Cert.Pre_finite.S4096x4x128 ![] B (constant Cert.Pre_finite.S_ .f32 0x7F800000#32)) = fun _ => 1#1) :
    ∃ u : Tok, t = up3 u := by
  refine ⟨fun a b e => EReal.toReal (t (ix3 a b e)), ?_⟩
  funext j
  obtain ⟨a, b, e, rfl⟩ : ∃ a b e, j = ix3 a b e := ⟨j 0, j 1, j 2, by
    funext k; match k with | 0 => rfl | 1 => rfl | 2 => rfl⟩
  rw [up3_at]
  exact real_of_lt _ (congrFun h (ix3 a b e))

/-- A finite array of 4096 tokens and four heads is real. -/
theorem real2 (B : Cert.Pre_finite.S_.BroadcastsInDim Cert.Pre_finite.S4096x4 (![] : Fin 0 → Fin Cert.Pre_finite.S4096x4.rank)) (t : FVec Ideal Cert.Pre_finite.S4096x4 .f32)
    (h : cmpf .olt (Host.absf t) (broadcastInDim Cert.Pre_finite.S4096x4 ![] B (constant Cert.Pre_finite.S_ .f32 0x7F800000#32)) = fun _ => 1#1) :
    ∃ u : Row, t = up2 u := by
  refine ⟨fun a b => EReal.toReal (t (ix2 a b)), ?_⟩
  funext j
  obtain ⟨a, b, rfl⟩ : ∃ a b, j = ix2 a b := ⟨j 0, j 1, by
    funext k; match k with | 0 => rfl | 1 => rfl⟩
  rw [up2_at]
  exact real_of_lt _ (congrFun h (ix2 a b))

open Cert.KernelIdeal in
/-- The precondition makes the eight arguments real arrays. -/
theorem given_of_finite (m : (ℓ : Loc nD τ sig) → Buf (Elt Ideal) ℓ) (h : Cert.Pre_KernelIdeal_finite m) (c : Dev nD) :
    ∃ x, Given m c x := by
  obtain ⟨h0, h1, h2, h3, h4, h5, h6, h7⟩ := h c
  obtain ⟨q, e0⟩ := real3 _ _ h0
  obtain ⟨k, e1⟩ := real3 _ _ h1
  obtain ⟨v, e2⟩ := real3 _ _ h2
  obtain ⟨o0, e3⟩ := real3 _ _ h3
  obtain ⟨l0, e4⟩ := real2 _ _ h4
  obtain ⟨o2, e5⟩ := real3 _ _ h5
  obtain ⟨l2, e6⟩ := real2 _ _ h6
  obtain ⟨ct, e7⟩ := real3 _ _ h7
  exact ⟨⟨q, k, v, o0, l0, o2, l2, ct⟩, ⟨e0, e1, e2, e3, e4, e5, e6, e7⟩⟩

end Cert.Attn

end
-- ==== Proof.Ends.lean ====
module

public import proofs.«01_k».proof.Proof.Finite
public import proofs.«01_k».proof.Proof.Gen.KernelIdeal.Value
public import proofs.«01_k».proof.Proof.Gen.ReferenceIdeal.Run
public import proofs.«01_k».proof.Proof.Gen.ReferenceIdeal.Read
public import Idealize.ShloMosaic.Adequacy
public import Idealize.ShloMosaic.Init

@[expose] public section

set_option maxRecDepth 16384

noncomputable section

namespace Cert.Attn

open Idealize.ShloMosaic Idealize.ShloMosaic.TcCoe Idealize.SL.Sem Idealize.ShloMosaic.StableHlo

/-! # Where the two programs end -/

section KernelSide
open Cert.KernelIdeal Cert.KernelIdeal.Gen

/-- From real arguments the call ends with the three gradients by rows, the arguments kept. -/
theorem kernel_end (m : (ℓ : Loc nD τ sig) → Buf (Elt Ideal) ℓ) (g : Dev nD → PrngReg) (x : Dev nD → Args) (G : ∀ c, Given m c (x c)) :
    θ_run (defs (F := Ideal)) (onTc (τ := τ) (main (F := Ideal))) ⟨m, fun _ => 0, g⟩ fun r => ∀ c : Dev nD,
      r.2.mem ((c.tc : Thread nD τ).loc main_v132_0) = byRows (gq (x c))
      ∧ r.2.mem ((c.tc : Thread nD τ).loc main_v132_1) = byRows (gk (x c))
      ∧ r.2.mem ((c.tc : Thread nD τ).loc main_v132_2) = byRows (gv (x c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  θ_run_mono (Cert.KernelIdeal.Value.run_blocks m g) fun _ h c =>
    ⟨(h c).1.trans (arr_q (G c)), (h c).2.1.trans (arr_k (G c)), (h c).2.2.1.trans (arr_v (G c)), (h c).2.2.2⟩

end KernelSide

section ReferenceSide
open Cert.ReferenceIdeal Cert.ReferenceIdeal.Read

variable (m : (ℓ : Loc nD τ sig) → Buf (Elt Ideal) ℓ)

/-- The reference's arguments are the real arrays `x`. -/
structure RefGiven (c : Dev nD) (x : Args) : Prop where
  a0 : m ((c.tc : Thread nD τ).loc main_arg0) = up3 x.q
  a1 : m ((c.tc : Thread nD τ).loc main_arg1) = up3 x.k
  a2 : m ((c.tc : Thread nD τ).loc main_arg2) = up3 x.v
  a3 : m ((c.tc : Thread nD τ).loc main_arg3) = up3 x.o0
  a4 : m ((c.tc : Thread nD τ).loc main_arg4) = up2 x.l0
  a5 : m ((c.tc : Thread nD τ).loc main_arg5) = up3 x.o2
  a6 : m ((c.tc : Thread nD τ).loc main_arg6) = up2 x.l2
  a7 : m ((c.tc : Thread nD τ).loc main_arg7) = up3 x.ct

variable {m}

theorem val_q {c : Dev nD} {x : Args} (G : RefGiven m c x) :
    val_main_v228 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      = byRows (gq x) := by
  rw [G.a0, G.a1, G.a2, G.a3, G.a4, G.a5, G.a6, G.a7]; exact ref_q x

theorem val_k {c : Dev nD} {x : Args} (G : RefGiven m c x) :
    val_main_v232 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      = byRows (gk x) := by
  rw [G.a0, G.a1, G.a2, G.a3, G.a4, G.a5, G.a6, G.a7]; exact ref_k x

theorem val_v {c : Dev nD} {x : Args} (G : RefGiven m c x) :
    val_main_v236 (F := Ideal) (m ((c.tc : Thread nD τ).loc main_arg0)) (m ((c.tc : Thread nD τ).loc main_arg1)) (m ((c.tc : Thread nD τ).loc main_arg4)) (m ((c.tc : Thread nD τ).loc main_arg6)) (m ((c.tc : Thread nD τ).loc main_arg7))
      = byRows (gv x) := by
  rw [G.a0, G.a1, G.a4, G.a6, G.a7]; exact ref_v x

/-- From real arguments the reference ends with the three gradients by rows, the arguments kept. -/
theorem reference_end (g : Dev nD → PrngReg) (x : Dev nD → Args) (G : ∀ c, RefGiven m c (x c)) :
    θ_run (defs (F := Ideal)) (onTc (τ := τ) (main (F := Ideal))) ⟨m, fun _ => 0, g⟩ fun r => ∀ c : Dev nD,
      r.2.mem ((c.tc : Thread nD τ).loc main_v228) = byRows (gq (x c))
      ∧ r.2.mem ((c.tc : Thread nD τ).loc main_v232) = byRows (gk (x c))
      ∧ r.2.mem ((c.tc : Thread nD τ).loc main_v236) = byRows (gv (x c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  θ_run_mono (Cert.ReferenceIdeal.Value.run m g) fun _ h c =>
    ⟨((h c).1.trans (val_main_v228_eq (launchContents m c))).trans (val_q (G c)),
      ((h c).2.1.trans (val_main_v232_eq (launchContents m c))).trans (val_k (G c)),
      ((h c).2.2.1.trans (val_main_v236_eq (launchContents m c))).trans (val_v (G c)), (h c).2.2.2⟩

end ReferenceSide

end Cert.Attn

end
-- ==== Proof.Forward.lean ====
module

public import proofs.«01_k».proof.Proof.Gen.Kernel4Ideal.Value
public import proofs.«01_k».proof.Proof.Gen.Reference4Ideal.Run
public import Idealize.ShloMosaic.Lib.Pointwise
public import Idealize.ShloMosaic.Lib.Claim
public import Idealize.ShloMosaic.Lib.Pipeline.ValueKit.Basic
public import Idealize.ShloMosaic.Lib.Pipeline.ValueKit.Point

@[expose] public section

set_option maxRecDepth 16384

noncomputable section

namespace Cert.Forward

open Idealize.ShloMosaic Idealize.ShloMosaic.TcCoe Idealize.SL.Sem

/-! # The product of the normed stream with the input weights -/

section ReferenceSide
open Cert.Reference4Ideal Cert.Reference4Ideal.Gen

/-- The product, entry by entry. -/
theorem ref_at (h : FVec Ideal S4096x1024 .f32) (w : FVec Ideal S1024x10752 .f32) (t : Fin 4096) (n : Fin 10752) :
    (truncf .bf16 (Host.dotGeneral dot_S4096x1024_S1024x10752_S4096x10752_1_0_0_1_n_n none h w) bitsLt_bf16_f32) (ix2 t n)
      = ∑ d : Fin 1024, (h (ix2 t d) * w (ix2 d n) : EReal) := by
  pointwise []

end ReferenceSide

open Cert.Kernel4Ideal Cert.Kernel4Ideal.Gen

/-- What a grid point computes from a block of rows and one chip's weights. -/
theorem pay_at (x : Vec Ideal S512x1024 .bf16) (y : Vec Ideal S1x1024x2688 .bf16) (a : Fin 512) (b : Fin 2688) :
    k0_pay1 (F := Ideal) x y (ix2 a b) = ∑ d : Fin 1024, ((x (ix2 a d) : EReal) * y (ix3 0 d b) : EReal) := by
  pointwise [k0_pay1]

/-- The block left in the result's buffer is what the point computes from its two blocks. -/
theorem out_eq (x : Vec Ideal S512x1024 .bf16) (y : Vec Ideal S1x1024x2688 .bf16) :
    out0_2 (F := Ideal) x y = k0_pay1 x y := by
  unfold out0_2
  rw [View.canon_cons_unit_lit _ _ _ (by decide), View.ld_unit_lit _ _ (by decide), View.ld_unit_lit _ _ (by decide)]

variable (m : (ℓ : Loc nD τ sig) → Buf (Elt Ideal) ℓ) (c : Dev nD)

/-- The normed stream and the weights by chips, as the call finds them. -/
def arrH : FVec Ideal S4096x1024 .bf16 := V m c main_v0
def arrW : FVec Ideal S4x1024x2688 .bf16 := V m c main_v3

/-- The weights' columns of chip `q`. -/
def col (q : Fin 4) (b : Fin 2688) : Fin 10752 := ⟨q.val * 2688 + b.val, by omega⟩

theorem h_at (t : Fin 4096) (d : Fin 1024) :
    arrH m c (ix2 t d) = (m ((c.tc : Thread nD τ).loc main_arg0) : FVec Ideal S4096x1024 .f32) (ix2 t d) := by
  unfold arrH
  entry_read
  rfl

theorem w_at (q : Fin 4) (d : Fin 1024) (b : Fin 2688) :
    arrW m c (ix3 q d b) = (m ((c.tc : Thread nD τ).loc main_arg1) : FVec Ideal S1024x10752 .f32) (ix2 d (col q b)) := by
  unfold arrW
  entry_read
  pointwise []
  rfl

/-- The product. -/
def mul (h : FVec Ideal S4096x1024 .f32) (w : FVec Ideal S1024x10752 .f32) : FVec Ideal S4096x10752 .bf16 := fun y =>
  ∑ d : Fin 1024, ((h (ix2 (y 0) d) : EReal) * w (ix2 d (y 1)) : EReal)

/-- The product of the arguments. -/
def prod : FVec Ideal S4096x10752 .bf16 := mul (m ((c.tc : Thread nD τ).loc main_arg0)) (m ((c.tc : Thread nD τ).loc main_arg1))

theorem prod_at (r : Fin 4096) (q : Fin 4) (b : Fin 2688) :
    prod m c (ix2 r (col q b)) = ∑ d : Fin 1024, ((arrH m c (ix2 r d) : EReal)
      * arrW m c (ix3 q d b) : EReal) := by
  unfold prod mul
  exact Finset.sum_congr (M := EReal) rfl fun d _ => congrArg₂ (fun x y : EReal => x * y) (h_at m c r d).symm (w_at m c q d b).symm

section Point

variable (t : Fin cfg0.N)

/-- The chip whose weights a grid point reads. -/
def chip : Fin 4 := ⟨t.val / 8, by have h : t.val < 32 := t.isLt; omega⟩
/-- A row of a grid point's block of rows, in the array. -/
def row (a : Fin 512) : Fin 4096 := ⟨t.val % 8 * 512 + a.val, by omega⟩

theorem ix_0 : ∀ t : Fin cfg0.N, cc0_transform_0 (grid0.coords t) = ![t.val % 8, 0] :=
  (by decide +kernel : ∀ t : Fin grid0.N, cc0_transform_0 (grid0.coords t) = ![t.val % 8, 0])
theorem ix_1 : ∀ t : Fin cfg0.N, cc0_transform_1 (grid0.coords t) = ![t.val / 8, 0, 0] :=
  (by decide +kernel : ∀ t : Fin grid0.N, cc0_transform_1 (grid0.coords t) = ![t.val / 8, 0, 0])
theorem ix_2 : ∀ t : Fin cfg0.N, cc0_transform_2 (grid0.coords t) = ![t.val % 8, t.val / 8] :=
  (by decide +kernel : ∀ t : Fin grid0.N, cc0_transform_2 (grid0.coords t) = ![t.val % 8, t.val / 8])

theorem place_0 (u : Fin 2 → Nat) (hu : u = ![t.val % 8, 0]) (a : Fin 512) (d : Fin 1024) (Z : S4096x1024.Idx)
    (hZ : ∀ k, (Z k).val = u k * S512x1024.size k + ((ix2 a d : S512x1024.Idx) k).val) : Z = ix2 (row t a) d := by
  subst hu
  funext k
  apply Fin.ext
  rw [hZ]
  match k with
  | ⟨0, _⟩ => rfl
  | ⟨1, _⟩ => show 0 * 1024 + d.val = d.val; omega

theorem place_1 (u : Fin 3 → Nat) (hu : u = ![t.val / 8, 0, 0]) (d : Fin 1024) (b : Fin 2688) (Z : S4x1024x2688.Idx)
    (hZ : ∀ k, (Z k).val = u k * S1x1024x2688.size k + ((ix3 0 d b : S1x1024x2688.Idx) k).val) : Z = ix3 (chip t) d b := by
  subst hu
  funext k
  apply Fin.ext
  rw [hZ]
  match k with
  | ⟨0, _⟩ => show t.val / 8 * 1 + 0 = t.val / 8; omega
  | ⟨1, _⟩ => show 0 * 1024 + d.val = d.val; omega
  | ⟨2, _⟩ => show 0 * 2688 + b.val = b.val; omega

theorem place_2 (u : Fin 2 → Nat) (hu : u = ![t.val % 8, t.val / 8]) (a : Fin 512) (b : Fin 2688) (Z : S4096x10752.Idx)
    (hZ : ∀ k, (Z k).val = u k * S512x2688.size k + ((ix2 a b : S512x2688.Idx) k).val) : Z = ix2 (row t a) (col (chip t) b) := by
  subst hu
  funext k
  apply Fin.ext
  rw [hZ]
  match k with
  | ⟨0, _⟩ => rfl
  | ⟨1, _⟩ => rfl

theorem block_0 (a : Fin 512) (d : Fin 1024) :
    (iblk m c 0 t : FVec Ideal S512x1024 .bf16) (ix2 a d) = arrH m c (ix2 (row t a) d) :=
  congrArg (arrH m c) (place_0 t _ (ix_0 t) a d (((cfg0.win 0).blk t).view.emb (ix2 a d))
    fun k => Pipeline.Window.rect_emb_val (cfg0.win 0) t _ k)

theorem block_1 (d : Fin 1024) (b : Fin 2688) :
    (iblk m c 1 t : FVec Ideal S1x1024x2688 .bf16) (ix3 0 d b) = arrW m c (ix3 (chip t) d b) :=
  congrArg (arrW m c) (place_1 t _ (ix_1 t) d b (((cfg0.win 1).blk t).view.emb (ix3 0 d b))
    fun k => Pipeline.Window.rect_emb_val (cfg0.win 1) t _ k)

/-- What a grid point leaves is its block of the product. -/
theorem out_at (y : S512x2688.Idx) (Z : S4096x10752.Idx)
    (hZ : ∀ k, (Z k).val = cc0_transform_2 (grid0.coords t) k * S512x2688.size k + (y k).val) :
    out0_2 (F := Ideal) (iblk m c 0 t) (iblk m c 1 t) y = prod m c Z := by
  obtain ⟨a, b, rfl⟩ : ∃ (a : Fin 512) (b : Fin 2688), y = ix2 a b := ⟨y 0, y 1, by
    funext k; match k with
    | ⟨0, _⟩ => rfl
    | ⟨1, _⟩ => rfl⟩
  rw [place_2 t _ (ix_2 t) a b Z hZ, out_eq]
  exact (pay_at _ _ a b).trans ((Finset.sum_congr (M := EReal) rfl fun d _ =>
    congrArg₂ (fun x y : EReal => x * y) (block_0 m c t a d) (block_1 m c t d b)).trans (prod_at m c (row t a) (chip t) b).symm)

end Point

theorem cov : (cfg0.win 2).Covers := by decide +kernel

/-- The result array is the product. -/
theorem arr : (dats m 0 c).arrAt 2 cfg0.N = prod m c := by
  refine Pipeline.Dat.arrAt_eq_of_covers (dats m 0 c) 2 (prod m c) cov fun t hf y => ?_
  have hZ : ∀ k, ((((cfg0.win 2).blk t).view.emb y) k : ℕ) = cc0_transform_2 (grid0.coords t) k * S512x2688.size k + (y k).val :=
    fun k => Pipeline.Window.rect_emb_val (cfg0.win 2) t y k
  have h := out_at m c t y (((cfg0.win 2).blk t).view.emb y) hZ
  rw [after0_2, cast_eq]
  exact h

/-- The reference's result, of arguments equal to the call's, is the product. -/
theorem ref_eq (h : FVec Ideal S4096x1024 .f32) (w : FVec Ideal S1024x10752 .f32)
    (eh : h = m ((c.tc : Thread nD τ).loc main_arg0)) (ew : w = m ((c.tc : Thread nD τ).loc main_arg1)) :
    (truncf .bf16 (Host.dotGeneral Cert.Reference4Ideal.dot_S4096x1024_S1024x10752_S4096x10752_1_0_0_1_n_n none h w) Cert.Reference4Ideal.Gen.facts.bitsLt_bf16_f32)
      = prod m c := by
  subst eh ew
  funext y
  obtain ⟨a, b, rfl⟩ : ∃ (a : Fin 4096) (b : Fin 10752), y = ix2 a b := ⟨y 0, y 1, by
    funext k; match k with
    | ⟨0, _⟩ => rfl
    | ⟨1, _⟩ => rfl⟩
  exact ref_at _ _ a b

end Cert.Forward

end
-- ==== Proof.WeightGrad.lean ====
module

public import proofs.«01_k».proof.Proof.Gen.Kernel2Ideal.Value
public import proofs.«01_k».proof.Proof.Gen.Reference2Ideal.Run
public import Idealize.ShloMosaic.Lib.Pointwise
public import Idealize.ShloMosaic.Lib.Claim
public import Idealize.ShloMosaic.Lib.Pipeline.ValueKit.Basic
public import Idealize.ShloMosaic.Lib.Pipeline.ValueKit.Point
public import Idealize.ShloMosaic.Lib.Pipeline.ValueKit.Tiles

@[expose] public section

set_option maxRecDepth 16384

noncomputable section

namespace Cert.WeightGrad

open Idealize.ShloMosaic Idealize.ShloMosaic.TcCoe Idealize.SL.Sem

/-! # The gradient of the input weights -/

/-- The columns of chip `q`. -/
def col (q : Fin 4) (b : Fin 2688) : Fin 10752 := ⟨q.val * 2688 + b.val, by omega⟩

section ReferenceSide
open Cert.Reference2Ideal Cert.Reference2Ideal.Gen

/-- The reference's term, of the normed stream and the cotangent. -/
def refTerm (h : FVec Ideal S4096x1024 .f32) (ct : FVec Ideal S4096x10752 .f32) : FVec Ideal S4x1024x2688 .bf16 :=
  truncf .bf16 ((concatenate S4x1024x2688 0 [⟨S1x1024x2688, ((broadcastInDim S1x1024x2688 ![1, 2] bcast_S1024x2688_S1x1024x2688_1_2 (extractStridedSlice S1024x2688 ![0, 0] (transpose S1024x10752 [1, 0] (Host.dotGeneral dot_S4096x10752_S4096x1024_S10752x1024_0_0_1_1_n_n none ct h) transposes_S10752x1024_S1024x10752_1_0) slices_S1024x10752_S1024x2688_0_0)) : (⟨S1x1024x2688, .f32⟩ : BufTy).Contents (Elt Ideal))⟩, ⟨S1x1024x2688, ((broadcastInDim S1x1024x2688 ![1, 2] bcast_S1024x2688_S1x1024x2688_1_2 (extractStridedSlice S1024x2688 ![0, 2688] (transpose S1024x10752 [1, 0] (Host.dotGeneral dot_S4096x10752_S4096x1024_S10752x1024_0_0_1_1_n_n none ct h) transposes_S10752x1024_S1024x10752_1_0) slices_S1024x10752_S1024x2688_0_2688)) : (⟨S1x1024x2688, .f32⟩ : BufTy).Contents (Elt Ideal))⟩, ⟨S1x1024x2688, ((broadcastInDim S1x1024x2688 ![1, 2] bcast_S1024x2688_S1x1024x2688_1_2 (extractStridedSlice S1024x2688 ![0, 5376] (transpose S1024x10752 [1, 0] (Host.dotGeneral dot_S4096x10752_S4096x1024_S10752x1024_0_0_1_1_n_n none ct h) transposes_S10752x1024_S1024x10752_1_0) slices_S1024x10752_S1024x2688_0_5376)) : (⟨S1x1024x2688, .f32⟩ : BufTy).Contents (Elt Ideal))⟩, ⟨S1x1024x2688, ((broadcastInDim S1x1024x2688 ![1, 2] bcast_S1024x2688_S1x1024x2688_1_2 (extractStridedSlice S1024x2688 ![0, 8064] (transpose S1024x10752 [1, 0] (Host.dotGeneral dot_S4096x10752_S4096x1024_S10752x1024_0_0_1_1_n_n none ct h) transposes_S10752x1024_S1024x10752_1_0) slices_S1024x10752_S1024x2688_0_8064)) : (⟨S1x1024x2688, .f32⟩ : BufTy).Contents (Elt Ideal))⟩] concatenates_S1x1024x2688_S1x1024x2688_S1x1024x2688_S1x1024x2688_S4x1024x2688_d0 : (⟨S4x1024x2688, .f32⟩ : BufTy).Contents (Elt Ideal))) bitsLt_bf16_f32

theorem ref_at (h : FVec Ideal S4096x1024 .f32) (ct : FVec Ideal S4096x10752 .f32) (q : Fin 4) (d : Fin 1024) (b : Fin 2688) :
    refTerm h ct (ix3 q d b) = ∑ t : Fin 4096, ((ct (ix2 t (col q b)) : EReal) * h (ix2 t d) : EReal) := by
  fin_cases q
  · pointwise [refTerm]
    exact Finset.sum_congr rfl fun t _ => congrArg (fun n : Fin 10752 => ((ct (ix2 t n) : EReal) * h (ix2 t d) : EReal)) (Fin.ext (by simp [col]; try omega))
  · pointwise [refTerm]
    exact Finset.sum_congr rfl fun t _ => congrArg (fun n : Fin 10752 => ((ct (ix2 t n) : EReal) * h (ix2 t d) : EReal)) (Fin.ext (by simp [col]; try omega))
  · pointwise [refTerm]
    exact Finset.sum_congr rfl fun t _ => congrArg (fun n : Fin 10752 => ((ct (ix2 t n) : EReal) * h (ix2 t d) : EReal)) (Fin.ext (by simp [col]; try omega))
  · pointwise [refTerm]
    exact Finset.sum_congr rfl fun t _ => congrArg (fun n : Fin 10752 => ((ct (ix2 t n) : EReal) * h (ix2 t d) : EReal)) (Fin.ext (by simp [col]; try omega))

end ReferenceSide

open Cert.Kernel2Ideal Cert.Kernel2Ideal.Gen

/-- What a grid point computes from the transposed stream and a block of the cotangent's columns. -/
theorem pay_at (x : Vec Ideal S1024x4096 .bf16) (y : Vec Ideal S4096x896 .bf16) (d : Fin 1024) (b : Fin 896) :
    k0_pay1 (F := Ideal) x y (ix3 0 d b) = ∑ t : Fin 4096, ((x (ix2 d t) : EReal) * y (ix2 t b) : EReal) := by
  pointwise [k0_pay1]

/-- The block left in the result's buffer is what the point computes from its two blocks. -/
theorem out_eq (x : Vec Ideal S1024x4096 .bf16) (y : Vec Ideal S4096x896 .bf16) :
    out0_2 (F := Ideal) x y = k0_pay1 x y := by
  unfold out0_2
  rw [View.canon_cons_unit_lit _ _ _ (by decide), View.ld_unit_lit _ _ (by decide), View.ld_unit_lit _ _ (by decide)]

variable (m : (ℓ : Loc nD τ sig) → Buf (Elt Ideal) ℓ) (c : Dev nD)

/-- The transposed stream and the cotangent, as the call finds them. -/
def arrH : FVec Ideal S1024x4096 .bf16 := V m c main_v1
def arrC : FVec Ideal S4096x10752 .bf16 := V m c main_v2

theorem h_at (t : Fin 4096) (d : Fin 1024) :
    arrH m c (ix2 d t) = (m ((c.tc : Thread nD τ).loc main_arg0) : FVec Ideal S4096x1024 .f32) (ix2 t d) := by
  unfold arrH
  entry_read
  pointwise []

theorem c_at (t : Fin 4096) (n : Fin 10752) :
    arrC m c (ix2 t n) = (m ((c.tc : Thread nD τ).loc main_arg2) : FVec Ideal S4096x10752 .f32) (ix2 t n) := by
  unfold arrC
  entry_read
  rfl

theorem ref_prod (h : FVec Ideal S4096x1024 .f32) (ct : FVec Ideal S4096x10752 .f32)
    (eh : h = m ((c.tc : Thread nD τ).loc main_arg0)) (ec : ct = m ((c.tc : Thread nD τ).loc main_arg2)) (q : Fin 4) (d : Fin 1024) (b : Fin 2688) :
    refTerm h ct (ix3 q d b) = ∑ t : Fin 4096, (arrH m c (ix2 d t) * arrC m c (ix2 t (col q b)) : EReal) := by
  subst eh ec
  exact (ref_at _ _ q d b).trans (Finset.sum_congr (M := EReal) rfl fun t _ =>
    (congrArg₂ (fun x y : EReal => x * y) (c_at m c t (col q b)).symm (h_at m c t d).symm).trans (mul_comm (G := EReal) _ _))

/-- The gradient, of the call's arguments. -/
def prod : FVec Ideal S4x1024x2688 .bf16 := refTerm (m ((c.tc : Thread nD τ).loc main_arg0)) (m ((c.tc : Thread nD τ).loc main_arg2))

theorem prod_at (q : Fin 4) (d : Fin 1024) (b : Fin 2688) :
    prod m c (ix3 q d b) = ∑ t : Fin 4096, (arrH m c (ix2 d t) * arrC m c (ix2 t (col q b)) : EReal) :=
  ref_prod m c _ _ rfl rfl q d b

section Point

variable (t : Fin cfg0.N)

/-- The chip whose weights a grid point works on. -/
def chip : Fin 4 := ⟨t.val / 3, by have h : t.val < 12 := t.isLt; omega⟩
/-- A column of a grid point's block among the chip's columns. -/
def within (b : Fin 896) : Fin 2688 := ⟨t.val % 3 * 896 + b.val, by omega⟩

theorem ix_0 : ∀ t : Fin cfg0.N, cc0_transform_0 (grid0.coords t) = ![0, 0] :=
  (by decide +kernel : ∀ t : Fin grid0.N, cc0_transform_0 (grid0.coords t) = ![0, 0])
theorem ix_1 : ∀ t : Fin cfg0.N, cc0_transform_1 (grid0.coords t) = ![0, t.val] :=
  (by decide +kernel : ∀ t : Fin grid0.N, cc0_transform_1 (grid0.coords t) = ![0, t.val])
theorem ix_2 : ∀ t : Fin cfg0.N, cc0_transform_2 (grid0.coords t) = ![t.val / 3, 0, t.val % 3] :=
  (by decide +kernel : ∀ t : Fin grid0.N, cc0_transform_2 (grid0.coords t) = ![t.val / 3, 0, t.val % 3])

theorem place_0 (u : Fin 2 → Nat) (hu : u = ![0, 0]) (d : Fin 1024) (r : Fin 4096) (Z : S1024x4096.Idx)
    (hZ : ∀ k, (Z k).val = u k * S1024x4096.size k + ((ix2 d r : S1024x4096.Idx) k).val) : Z = ix2 d r := by
  subst hu
  funext k
  apply Fin.ext
  rw [hZ]
  match k with
  | ⟨0, _⟩ => show 0 * 1024 + d.val = d.val; omega
  | ⟨1, _⟩ => show 0 * 4096 + r.val = r.val; omega

theorem place_1 (u : Fin 2 → Nat) (hu : u = ![0, t.val]) (r : Fin 4096) (b : Fin 896) (Z : S4096x10752.Idx)
    (hZ : ∀ k, (Z k).val = u k * S4096x896.size k + ((ix2 r b : S4096x896.Idx) k).val) : Z = ix2 r (col (chip t) (within t b)) := by
  subst hu
  funext k
  apply Fin.ext
  rw [hZ]
  match k with
  | ⟨0, _⟩ => show 0 * 4096 + r.val = r.val; omega
  | ⟨1, _⟩ => show t.val * 896 + b.val = t.val / 3 * 2688 + (t.val % 3 * 896 + b.val); omega

theorem place_2 (u : Fin 3 → Nat) (hu : u = ![t.val / 3, 0, t.val % 3]) (d : Fin 1024) (b : Fin 896) (Z : S4x1024x2688.Idx)
    (hZ : ∀ k, (Z k).val = u k * S1x1024x896.size k + ((ix3 0 d b : S1x1024x896.Idx) k).val) : Z = ix3 (chip t) d (within t b) := by
  subst hu
  funext k
  apply Fin.ext
  rw [hZ]
  match k with
  | ⟨0, _⟩ => show t.val / 3 * 1 + 0 = t.val / 3; omega
  | ⟨1, _⟩ => show 0 * 1024 + d.val = d.val; omega
  | ⟨2, _⟩ => rfl

theorem block_0 (d : Fin 1024) (r : Fin 4096) : (iblk m c 0 t : FVec Ideal S1024x4096 .bf16) (ix2 d r) = arrH m c (ix2 d r) :=
  congrArg (arrH m c) (place_0 _ (ix_0 t) d r (((cfg0.win 0).blk t).view.emb (ix2 d r))
    fun k => Pipeline.Window.rect_emb_val (cfg0.win 0) t _ k)

theorem block_1 (r : Fin 4096) (b : Fin 896) :
    (iblk m c 1 t : FVec Ideal S4096x896 .bf16) (ix2 r b) = arrC m c (ix2 r (col (chip t) (within t b))) :=
  congrArg (arrC m c) (place_1 t _ (ix_1 t) r b (((cfg0.win 1).blk t).view.emb (ix2 r b))
    fun k => Pipeline.Window.rect_emb_val (cfg0.win 1) t _ k)

/-- What a grid point leaves is its block of the gradient. -/
theorem out_at (y : S1x1024x896.Idx) (Z : S4x1024x2688.Idx)
    (hZ : ∀ k, (Z k).val = cc0_transform_2 (grid0.coords t) k * S1x1024x896.size k + (y k).val) :
    out0_2 (F := Ideal) (iblk m c 0 t) (iblk m c 1 t) y = prod m c Z := by
  obtain ⟨d, b, rfl⟩ : ∃ (d : Fin 1024) (b : Fin 896), y = ix3 0 d b := ⟨y 1, y 2, by
    funext k; match k with
    | ⟨0, _⟩ => exact Fin.ext (show (y 0).val = 0 from Nat.lt_one_iff.mp (y 0).isLt)
    | ⟨1, _⟩ => rfl
    | ⟨2, _⟩ => rfl⟩
  rw [place_2 t _ (ix_2 t) d b Z hZ, out_eq]
  exact (pay_at _ _ d b).trans ((Finset.sum_congr (M := EReal) rfl fun r _ =>
    congrArg₂ (fun x y : EReal => x * y) (block_0 m c t d r) (block_1 m c t r b)).trans (prod_at m c (chip t) d (within t b)).symm)

end Point

theorem cov : (cfg0.win 2).Covers := by decide +kernel

/-- The result array is the gradient. -/
theorem arr : (dats m 0 c).arrAt 2 cfg0.N = prod m c := by
  refine Pipeline.Dat.arrAt_eq_of_covers (dats m 0 c) 2 (prod m c) cov fun t hf y => ?_
  have hZ : ∀ k, ((((cfg0.win 2).blk t).view.emb y) k : ℕ) = cc0_transform_2 (grid0.coords t) k * S1x1024x896.size k + (y k).val :=
    fun k => Pipeline.Window.rect_emb_val (cfg0.win 2) t y k
  have h := out_at m c t y (((cfg0.win 2).blk t).view.emb y) hZ
  rw [after0_2, cast_eq]
  exact h

end Cert.WeightGrad

end
-- ==== Proof.InputGrad.lean ====
module

public import proofs.«01_k».proof.Proof.Gen.Kernel3Ideal.Value
public import proofs.«01_k».proof.Proof.Gen.Reference3Ideal.Run
public import Idealize.ShloMosaic.Lib.Pointwise
public import Idealize.ShloMosaic.Lib.Claim
public import Idealize.ShloMosaic.Lib.Pipeline.ValueKit.Basic
public import Idealize.ShloMosaic.Lib.Pipeline.ValueKit.Point
public import Idealize.ShloMosaic.Lib.Pipeline.ValueKit.Acc

@[expose] public section

set_option maxRecDepth 16384

noncomputable section

namespace Cert.InputGrad

open Idealize.ShloMosaic Idealize.ShloMosaic.TcCoe Idealize.SL.Sem

/-! # The gradient of the normed stream -/

/-- The columns of chip `q`. -/
def col (q : Fin 4) (b : Fin 2688) : Fin 10752 := ⟨q.val * 2688 + b.val, by omega⟩

/-- A sum over all columns, chip by chip. -/
theorem sum_cols (f : Fin 10752 → EReal) : ∑ n : Fin 10752, f n = ∑ q : Fin 4, ∑ e : Fin 2688, f (col q e) := by
  rw [← Fintype.sum_prod_type']
  refine (Fintype.sum_equiv (finProdFinEquiv (m := 4) (n := 2688)) _ _ fun p => ?_).symm
  refine congrArg f (Fin.ext ?_)
  show p.1.val * 2688 + p.2.val = p.2.val + 2688 * p.1.val
  omega

section ReferenceSide
open Cert.Reference3Ideal Cert.Reference3Ideal.Gen

/-- The reference's term, of the weights and the cotangent. -/
def refTerm (w : FVec Ideal S1024x10752 .f32) (ct : FVec Ideal S4096x10752 .f32) : FVec Ideal S4096x1024 .f32 :=
  Host.dotGeneral dot_S4096x10752_S1024x10752_S4096x1024_1_1_0_0_n_n none ct w

theorem ref_at (w : FVec Ideal S1024x10752 .f32) (ct : FVec Ideal S4096x10752 .f32) (t : Fin 4096) (d : Fin 1024) :
    refTerm w ct (ix2 t d) = ∑ n : Fin 10752, ((ct (ix2 t n) : EReal) * w (ix2 d n) : EReal) := by
  pointwise [refTerm]

end ReferenceSide

open Cert.Kernel3Ideal Cert.Kernel3Ideal.Gen

/-- One chip's product. -/
theorem pay1_at (x : Vec Ideal S1024x2688 .bf16) (y : Vec Ideal S1x1024x2688 .bf16) (a d : Fin 1024) :
    k0_pay1 (F := Ideal) x y (ix2 a d) = ∑ e : Fin 2688, ((x (ix2 a e) : EReal) * y (ix3 0 d e) : EReal) := by
  pointwise [k0_pay1]

/-- One chip's product added to what was there. -/
theorem pay2_at (x : Vec Ideal S1024x2688 .bf16) (y : Vec Ideal S1x1024x2688 .bf16) (z : Vec Ideal S1024x1024 .f32) (a d : Fin 1024) :
    k0_pay2 (F := Ideal) x y z (ix2 a d) = ((z (ix2 a d) : EReal) + ∑ e : Fin 2688, ((x (ix2 a e) : EReal) * y (ix3 0 d e) : EReal) : EReal) := by
  pointwise [k0_pay2, k0_pay1]

variable (m : (ℓ : Loc nD τ sig) → Buf (Elt Ideal) ℓ) (c : Dev nD)

theorem outs_first (t : Fin cfg0.N) (h0 : t.val % 4 = 0) (h1 : ¬1 ≤ t.val % 4) :
    outsAt0 m c t.val t.isLt = k0_pay1 (F := Ideal) (iblk m c 0 t) (iblk m c 1 t) := by
  rw [outsAt0_A m c t h0 h1]
  frame_out

theorem outs_next (t : Fin cfg0.N) (h0 : ¬t.val % 4 = 0) (h1 : 1 ≤ t.val % 4) :
    outsAt0 m c t.val t.isLt = k0_pay2 (F := Ideal) (iblk m c 0 t) (iblk m c 1 t) (outsAt0 m c (t.val - 1) (Nat.lt_of_le_of_lt (Nat.sub_le _ _) t.isLt)) := by
  rw [outsAt0_B m c t h0 h1]
  frame_out

/-- The cotangent and the weights by chips, as the call finds them. -/
def arrC : FVec Ideal S4096x10752 .bf16 := V m c main_v0
def arrW : FVec Ideal S4x1024x2688 .bf16 := V m c main_v3

theorem c_at (t : Fin 4096) (n : Fin 10752) :
    arrC m c (ix2 t n) = (m ((c.tc : Thread nD τ).loc main_arg2) : FVec Ideal S4096x10752 .f32) (ix2 t n) := by
  unfold arrC
  entry_read
  rfl

theorem w_at (q : Fin 4) (d : Fin 1024) (b : Fin 2688) :
    arrW m c (ix3 q d b) = (m ((c.tc : Thread nD τ).loc main_arg1) : FVec Ideal S1024x10752 .f32) (ix2 d (col q b)) := by
  unfold arrW
  entry_read
  pointwise []
  rfl

/-- Chip `q`'s part of an entry of the gradient. -/
def part (r : Fin 4096) (d : Fin 1024) (q : Fin 4) : EReal := ∑ e : Fin 2688, (arrC m c (ix2 r (col q e)) * arrW m c (ix3 q d e) : EReal)

/-- The gradient, of the call's arguments. -/
def prod : FVec Ideal S4096x1024 .f32 := refTerm (m ((c.tc : Thread nD τ).loc main_arg1)) (m ((c.tc : Thread nD τ).loc main_arg2))

theorem prod_at (r : Fin 4096) (d : Fin 1024) : prod m c (ix2 r d) = ∑ q : Fin 4, part m c r d q := by
  unfold prod part
  exact (ref_at _ _ r d).trans ((sum_cols _).trans (Finset.sum_congr (M := EReal) rfl fun q _ => Finset.sum_congr (M := EReal) rfl fun e _ =>
    congrArg₂ (fun x y : EReal => x * y) (c_at m c r (col q e)).symm (w_at m c q d e).symm))

/-- The chip a grid point reads. -/
def chip (n : Nat) : Fin 4 := ⟨n % 4, by omega⟩
/-- A row of a grid point's block, in the array. -/
def row (t : Fin cfg0.N) (a : Fin 1024) : Fin 4096 := ⟨t.val / 4 * 1024 + a.val, by have h : t.val < 16 := t.isLt; omega⟩

section Point

variable (t : Fin cfg0.N)

theorem ix_0 : ∀ t : Fin cfg0.N, cc0_transform_0 (grid0.coords t) = ![t.val / 4, t.val % 4] :=
  (by decide +kernel : ∀ t : Fin grid0.N, cc0_transform_0 (grid0.coords t) = ![t.val / 4, t.val % 4])
theorem ix_1 : ∀ t : Fin cfg0.N, cc0_transform_1 (grid0.coords t) = ![t.val % 4, 0, 0] :=
  (by decide +kernel : ∀ t : Fin grid0.N, cc0_transform_1 (grid0.coords t) = ![t.val % 4, 0, 0])
theorem ix_3 : ∀ t : Fin cfg0.N, cc0_transform_3 (grid0.coords t) = ![t.val / 4, 0] :=
  (by decide +kernel : ∀ t : Fin grid0.N, cc0_transform_3 (grid0.coords t) = ![t.val / 4, 0])

theorem place_0 (u : Fin 2 → Nat) (hu : u = ![t.val / 4, t.val % 4]) (a : Fin 1024) (e : Fin 2688) (Z : S4096x10752.Idx)
    (hZ : ∀ k, (Z k).val = u k * S1024x2688.size k + ((ix2 a e : S1024x2688.Idx) k).val) : Z = ix2 (row t a) (col (chip t.val) e) := by
  subst hu
  funext k
  apply Fin.ext
  rw [hZ]
  match k with
  | ⟨0, _⟩ => rfl
  | ⟨1, _⟩ => rfl

theorem place_1 (u : Fin 3 → Nat) (hu : u = ![t.val % 4, 0, 0]) (d : Fin 1024) (e : Fin 2688) (Z : S4x1024x2688.Idx)
    (hZ : ∀ k, (Z k).val = u k * S1x1024x2688.size k + ((ix3 0 d e : S1x1024x2688.Idx) k).val) : Z = ix3 (chip t.val) d e := by
  subst hu
  funext k
  apply Fin.ext
  rw [hZ]
  match k with
  | ⟨0, _⟩ => show t.val % 4 * 1 + 0 = t.val % 4; omega
  | ⟨1, _⟩ => show 0 * 1024 + d.val = d.val; omega
  | ⟨2, _⟩ => show 0 * 2688 + e.val = e.val; omega

theorem place_3 (u : Fin 2 → Nat) (hu : u = ![t.val / 4, 0]) (a d : Fin 1024) (Z : S4096x1024.Idx)
    (hZ : ∀ k, (Z k).val = u k * S1024x1024.size k + ((ix2 a d : S1024x1024.Idx) k).val) : Z = ix2 (row t a) d := by
  subst hu
  funext k
  apply Fin.ext
  rw [hZ]
  match k with
  | ⟨0, _⟩ => rfl
  | ⟨1, _⟩ => show 0 * 1024 + d.val = d.val; omega

/-- The blocks a grid point reads. -/
def blockC : FVec Ideal S1024x2688 .bf16 := iblk m c 0 t
def blockW : FVec Ideal S1x1024x2688 .bf16 := iblk m c 1 t

theorem block_0 (a : Fin 1024) (e : Fin 2688) :
    blockC m c t (ix2 a e) = arrC m c (ix2 (row t a) (col (chip t.val) e)) :=
  congrArg (arrC m c) (place_0 t _ (ix_0 t) a e (((cfg0.win 0).blk t).view.emb (ix2 a e))
    fun k => Pipeline.Window.rect_emb_val (cfg0.win 0) t _ k)

theorem block_1 (d : Fin 1024) (e : Fin 2688) :
    blockW m c t (ix3 0 d e) = arrW m c (ix3 (chip t.val) d e) :=
  congrArg (arrW m c) (place_1 t _ (ix_1 t) d e (((cfg0.win 1).blk t).view.emb (ix3 0 d e))
    fun k => Pipeline.Window.rect_emb_val (cfg0.win 1) t _ k)

/-- The product of a grid point's two blocks is its chip's part. -/
theorem blocks_part (a d : Fin 1024) :
    (∑ e : Fin 2688, (blockC m c t (ix2 a e) * blockW m c t (ix3 0 d e) : EReal))
      = part m c (row t a) d (chip t.val) :=
  Finset.sum_congr (M := EReal) rfl fun e _ => congrArg₂ (fun x y : EReal => x * y) (block_0 m c t a e) (block_1 m c t d e)

end Point

/-- After a grid point the buffer holds the parts of the chips read since the block's first point. -/
theorem outs_at (n : Nat) : ∀ (hn : n < cfg0.N) (a d : Fin 1024),
    (outsAt0 m c n hn : FVec Ideal S1024x1024 .f32) (ix2 a d) = ∑ k ∈ Finset.range (n % 4 + 1), part m c (row ⟨n, hn⟩ a) d (chip k) := by
  induction n with
  | zero =>
    intro hn a d
    rw [outs_first m c ⟨0, hn⟩ rfl (by show ¬1 ≤ 0 % 4; decide)]
    exact (pay1_at _ _ a d).trans ((blocks_part m c ⟨0, hn⟩ a d).trans (Finset.sum_range_one (fun k => part m c (row ⟨0, hn⟩ a) d (chip k))).symm)
  | succ n ih =>
    intro hn a d
    have hc : chip (n + 1) = chip ((n + 1) % 4) := Fin.ext (Nat.mod_mod _ _).symm
    by_cases h0 : (n + 1) % 4 = 0
    · rw [outs_first m c ⟨n + 1, hn⟩ h0 (by show ¬1 ≤ (n + 1) % 4; omega)]
      refine (pay1_at _ _ a d).trans ((blocks_part m c ⟨n + 1, hn⟩ a d).trans ?_)
      show part m c _ d (chip (n + 1)) = _
      rw [hc, h0]
      exact (Finset.sum_range_one (fun k => part m c (row ⟨n + 1, hn⟩ a) d (chip k))).symm
    · have hp : n % 4 + 1 = (n + 1) % 4 := by omega
      have hr : row ⟨n, Nat.lt_of_succ_lt hn⟩ a = row ⟨n + 1, hn⟩ a := Fin.ext (show n / 4 * 1024 + a.val = (n + 1) / 4 * 1024 + a.val by
        rw [show (n + 1) / 4 = n / 4 by omega])
      rw [outs_next m c ⟨n + 1, hn⟩ h0 (by show 1 ≤ (n + 1) % 4; omega)]
      refine (pay2_at _ _ _ a d).trans ?_
      rw [Finset.sum_range_succ, ← hp, ← hr]
      have e2 := blocks_part m c ⟨n + 1, hn⟩ a d
      rw [← hr] at e2
      have e1 := ih (Nat.lt_of_succ_lt hn) a d
      refine (congrArg₂ (fun x y : EReal => x + y) e1 e2).trans ?_
      show _ + part m c _ d (chip (n + 1)) = _
      rw [hc, ← hp]

theorem flush_last : ∀ t : Fin cfg0.N, (cfg0.win 2).flush t = true → t.val % 4 = 3 :=
  (by decide +kernel : ∀ t : Fin grid0.N, (cfg0.win 2).flush t = true → t.val % 4 = 3)

/-- What a block's last grid point leaves is its block of the gradient. -/
theorem out_at (t : Fin cfg0.N) (ht : t.val % 4 = 3) (y : S1024x1024.Idx) (Z : S4096x1024.Idx)
    (hZ : ∀ k, (Z k).val = cc0_transform_3 (grid0.coords t) k * S1024x1024.size k + (y k).val) :
    (outsAt0 m c t.val t.isLt : FVec Ideal S1024x1024 .f32) y = prod m c Z := by
  obtain ⟨a, d, rfl⟩ : ∃ (a d : Fin 1024), y = ix2 a d := ⟨y 0, y 1, by
    funext k; match k with
    | ⟨0, _⟩ => rfl
    | ⟨1, _⟩ => rfl⟩
  rw [place_3 t _ (ix_3 t) a d Z hZ, outs_at, prod_at, ht, Finset.sum_range]
  exact Finset.sum_congr rfl fun q _ => congrArg (part m c (row t a) d) (Fin.ext (Nat.mod_eq_of_lt q.isLt))

theorem cov : (cfg0.win 2).Covers := by decide +kernel

/-- The result array is the gradient. -/
theorem arr : (dats m 0 c).arrAt 2 cfg0.N = prod m c := by
  refine Pipeline.Dat.arrAt_eq_of_covers (dats m 0 c) 2 (prod m c) cov fun t hf y => ?_
  have hZ : ∀ k, ((((cfg0.win 2).blk t).view.emb y) k : ℕ) = cc0_transform_3 (grid0.coords t) k * S1024x1024.size k + (y k).val :=
    fun k => Pipeline.Window.rect_emb_val (cfg0.win 2) t y k
  have h := out_at m c t (flush_last t hf) y (((cfg0.win 2).blk t).view.emb y) hZ
  rw [after0_2, cast_eq]
  exact h

end Cert.InputGrad

end
-- ==== Proof.OutGrad.lean ====
module

public import proofs.«01_k».proof.Proof.Gen.Kernel5Ideal.Value
public import proofs.«01_k».proof.Proof.Gen.Reference5Ideal.Run
public import Idealize.ShloMosaic.Lib.Pointwise
public import Idealize.ShloMosaic.Lib.Claim
public import Idealize.ShloMosaic.Lib.Pipeline.ValueKit.Basic
public import Idealize.ShloMosaic.Lib.Pipeline.ValueKit.Point
public import Idealize.ShloMosaic.Lib.Pipeline.ValueKit.Acc
public import Idealize.ShloMosaic.Lib.Pipeline.ReadBack

@[expose] public section

set_option maxRecDepth 16384

noncomputable section

namespace Cert.OutGrad

open Idealize.ShloMosaic Idealize.ShloMosaic.TcCoe Idealize.SL.Sem

/-! # The gradients of the merged branches and of the output weights -/

/-- A row of the stream, by its block of 512 rows. -/
def row (q : Fin 8) (e : Fin 512) : Fin 4096 := ⟨q.val * 512 + e.val, by omega⟩

/-- A sum over the rows, block by block. -/
theorem sum_rows (f : Fin 4096 → EReal) : ∑ n : Fin 4096, f n = ∑ q : Fin 8, ∑ e : Fin 512, f (row q e) := by
  rw [← Fintype.sum_prod_type']
  refine (Fintype.sum_equiv (finProdFinEquiv (m := 8) (n := 512)) _ _ fun p => ?_).symm
  refine congrArg f (Fin.ext ?_)
  show p.1.val * 512 + p.2.val = p.2.val + 512 * p.1.val
  omega

section ReferenceSide
open Cert.Reference5Ideal Cert.Reference5Ideal.Gen

/-- The reference's two results, of the cotangent and the weights, and of the cotangent and the merged branches. -/
def dzTerm (dx : FVec Ideal S4096x1024 .f32) (w : FVec Ideal S1024x1024 .f32) : FVec Ideal S4096x1024 .bf16 :=
  truncf .bf16 (Host.dotGeneral dot_S4096x1024_S1024x1024_S4096x1024_1_1_0_0_n_n none dx w) bitsLt_bf16_f32
def dwTerm (dx z : FVec Ideal S4096x1024 .f32) : FVec Ideal S1024x1024 .bf16 :=
  truncf .bf16 (transpose S1024x1024 [1, 0] (Host.dotGeneral dot_S4096x1024_S4096x1024_S1024x1024_0_0_1_1_n_n none dx z) transposes_S1024x1024_S1024x1024_1_0) bitsLt_bf16_f32

theorem dz_at (dx : FVec Ideal S4096x1024 .f32) (w : FVec Ideal S1024x1024 .f32) (t : Fin 4096) (a : Fin 1024) :
    dzTerm dx w (ix2 t a) = ∑ d : Fin 1024, (dx (ix2 t d) * w (ix2 a d) : EReal) := by
  pointwise [dzTerm]

theorem dw_at (dx z : FVec Ideal S4096x1024 .f32) (a d : Fin 1024) :
    dwTerm dx z (ix2 a d) = ∑ t : Fin 4096, (dx (ix2 t d) * z (ix2 t a) : EReal) := by
  pointwise [dwTerm]

end ReferenceSide

open Cert.Kernel5Ideal Cert.Kernel5Ideal.Gen

/-- What a grid point computes from a block of rows of the cotangent, of the branches, and the weights. -/
theorem pay2_at (x : Vec Ideal S512x1024 .f32) (w : Vec Ideal S1024x1024 .bf16) (e : Fin 512) (a : Fin 1024) :
    k0_pay2 x w (ix2 e a) = ∑ d : Fin 1024, ((x (ix2 e d) : EReal) * w (ix2 a d) : EReal) := by
  pointwise [k0_pay2, k0_pay1]

theorem pay4_at (x : Vec Ideal S512x1024 .f32) (z : Vec Ideal S512x1024 .bf16) (a d : Fin 1024) :
    k0_pay4 x z (ix2 a d) = ∑ e : Fin 512, ((z (ix2 e a) : EReal) * x (ix2 e d) : EReal) := by
  pointwise [k0_pay4, k0_pay3, k0_pay1]

theorem pay5_at (x : Vec Ideal S512x1024 .f32) (z : Vec Ideal S512x1024 .bf16) (v : Vec Ideal S1024x1024 .f32) (a d : Fin 1024) :
    k0_pay5 x z v (ix2 a d) = ((v (ix2 a d) : EReal) + ∑ e : Fin 512, ((z (ix2 e a) : EReal) * x (ix2 e d) : EReal) : EReal) := by
  pointwise [k0_pay5, k0_pay3, k0_pay1]

theorem pay6_at (v : Vec Ideal S1024x1024 .f32) (a d : Fin 1024) : k0_pay6 v (ix2 a d) = v (ix2 a d) := by
  pointwise [k0_pay6]

variable (m : (ℓ : Loc nD τ sig) → Buf (Elt Ideal) ℓ) (c : Dev nD)

theorem outs_first (t : Fin cfg0.N) (h0 : t.val % 8 = 0) (h1 : ¬1 ≤ t.val) (h2 : ¬t.val % 8 = 7) :
    (outsAt0 m c t.val t.isLt).1 = k0_pay2 (F := Ideal) (iblk m c 0 t) (iblk m c 2 t)
      ∧ (outsAt0 m c t.val t.isLt).2.2 = k0_pay4 (F := Ideal) (iblk m c 0 t) (iblk m c 1 t) := by
  rw [outsAt0_A m c t h0 h1 h2]
  constructor
  · frame_out
  · frame_out

theorem outs_next (t : Fin cfg0.N) (h0 : ¬t.val % 8 = 0) (h1 : 1 ≤ t.val) (h2 : ¬t.val % 8 = 7) :
    (outsAt0 m c t.val t.isLt).1 = k0_pay2 (F := Ideal) (iblk m c 0 t) (iblk m c 2 t)
      ∧ (outsAt0 m c t.val t.isLt).2.2
        = k0_pay5 (F := Ideal) (iblk m c 0 t) (iblk m c 1 t) (outsAt0 m c (t.val - 1) (Nat.lt_of_le_of_lt (Nat.sub_le _ _) t.isLt)).2.2 := by
  rw [outsAt0_B m c t h0 h1 h2]
  constructor
  · frame_out
  · frame_out
    rw [read_unread_whole]

theorem outs_last (t : Fin cfg0.N) (h0 : ¬t.val % 8 = 0) (h1 : 1 ≤ t.val) (h2 : t.val % 8 = 7) :
    (outsAt0 m c t.val t.isLt).1 = k0_pay2 (F := Ideal) (iblk m c 0 t) (iblk m c 2 t)
      ∧ (outsAt0 m c t.val t.isLt).2.1
        = k0_pay6 (F := Ideal) (k0_pay5 (F := Ideal) (iblk m c 0 t) (iblk m c 1 t) (outsAt0 m c (t.val - 1) (Nat.lt_of_le_of_lt (Nat.sub_le _ _) t.isLt)).2.2) := by
  rw [outsAt0_C m c t h0 h1 h2]
  constructor
  · frame_out
  · frame_out
    rw [read_unread_whole]

/-- Every grid point leaves its rows' product in the first result's buffer. -/
theorem outs_rows (t : Fin cfg0.N) : (outsAt0 m c t.val t.isLt).1 = k0_pay2 (F := Ideal) (iblk m c 0 t) (iblk m c 2 t) := by
  have hN : t.val < 8 := t.isLt
  by_cases h0 : t.val % 8 = 0
  · exact (outs_first m c t h0 (by omega) (by omega)).1
  · by_cases h2 : t.val % 8 = 7
    · exact (outs_last m c t h0 (by omega) h2).1
    · exact (outs_next m c t h0 (by omega) h2).1

/-- The cotangent, the merged branches and the weights, as the call finds them. -/
def arrX : FVec Ideal S4096x1024 .f32 := V m c main_arg0
def arrZ : FVec Ideal S4096x1024 .bf16 := V m c main_v0
def arrW : FVec Ideal S1024x1024 .bf16 := V m c main_v1

theorem x_at (t : Fin 4096) (d : Fin 1024) :
    arrX m c (ix2 t d) = (m ((c.tc : Thread nD τ).loc main_arg0) : FVec Ideal S4096x1024 .f32) (ix2 t d) := by
  unfold arrX
  entry_read
  rfl

theorem z_at (t : Fin 4096) (d : Fin 1024) :
    arrZ m c (ix2 t d) = (m ((c.tc : Thread nD τ).loc main_arg1) : FVec Ideal S4096x1024 .f32) (ix2 t d) := by
  unfold arrZ
  entry_read
  rfl

theorem w_at (a d : Fin 1024) :
    arrW m c (ix2 a d) = (m ((c.tc : Thread nD τ).loc main_arg2) : FVec Ideal S1024x1024 .f32) (ix2 a d) := by
  unfold arrW
  entry_read
  rfl

/-- The two gradients, of the call's arguments. -/
def prodZ : FVec Ideal S4096x1024 .bf16 := dzTerm (m ((c.tc : Thread nD τ).loc main_arg0)) (m ((c.tc : Thread nD τ).loc main_arg2))
def prodW : FVec Ideal S1024x1024 .bf16 := dwTerm (m ((c.tc : Thread nD τ).loc main_arg0)) (m ((c.tc : Thread nD τ).loc main_arg1))

/-- A block of rows' part of an entry of the weights' gradient. -/
def part (a d : Fin 1024) (q : Fin 8) : EReal := ∑ e : Fin 512, (arrZ m c (ix2 (row q e) a) * arrX m c (ix2 (row q e) d) : EReal)

theorem prodZ_at (r : Fin 4096) (a : Fin 1024) :
    prodZ m c (ix2 r a) = ∑ d : Fin 1024, (arrX m c (ix2 r d) * arrW m c (ix2 a d) : EReal) := by
  unfold prodZ
  exact (dz_at _ _ r a).trans (Finset.sum_congr (M := EReal) rfl fun d _ =>
    congrArg₂ (fun x y : EReal => x * y) (x_at m c r d).symm (w_at m c a d).symm)

theorem prodW_at (a d : Fin 1024) : prodW m c (ix2 a d) = ∑ q : Fin 8, part m c a d q := by
  unfold prodW part
  exact (dw_at _ _ a d).trans ((sum_rows _).trans (Finset.sum_congr (M := EReal) rfl fun q _ => Finset.sum_congr (M := EReal) rfl fun e _ =>
    (congrArg₂ (fun x y : EReal => x * y) (x_at m c (row q e) d).symm (z_at m c (row q e) a).symm).trans (mul_comm (G := EReal) _ _)))

/-- The block of rows a grid point reads. -/
def blockOf (n : Nat) : Fin 8 := ⟨n % 8, by omega⟩

section Point

variable (t : Fin cfg0.N)

theorem ix_0 : ∀ t : Fin cfg0.N, cc0_transform_0 (grid0.coords t) = ![t.val % 8, 0] :=
  (by decide +kernel : ∀ t : Fin grid0.N, cc0_transform_0 (grid0.coords t) = ![t.val % 8, 0])
theorem ix_1 : ∀ t : Fin cfg0.N, cc0_transform_1 (grid0.coords t) = ![t.val % 8, 0] :=
  (by decide +kernel : ∀ t : Fin grid0.N, cc0_transform_1 (grid0.coords t) = ![t.val % 8, 0])
theorem ix_2 : ∀ t : Fin cfg0.N, cc0_transform_2 (grid0.coords t) = ![0, 0] :=
  (by decide +kernel : ∀ t : Fin grid0.N, cc0_transform_2 (grid0.coords t) = ![0, 0])
theorem ix_4 : ∀ t : Fin cfg0.N, cc0_transform_4 (grid0.coords t) = ![t.val % 8, 0] :=
  (by decide +kernel : ∀ t : Fin grid0.N, cc0_transform_4 (grid0.coords t) = ![t.val % 8, 0])
theorem ix_5 : ∀ t : Fin cfg0.N, cc0_transform_5 (grid0.coords t) = ![0, 0] :=
  (by decide +kernel : ∀ t : Fin grid0.N, cc0_transform_5 (grid0.coords t) = ![0, 0])

theorem place_rows (u : Fin 2 → Nat) (hu : u = ![t.val % 8, 0]) (e : Fin 512) (d : Fin 1024) (Z : S4096x1024.Idx)
    (hZ : ∀ k, (Z k).val = u k * S512x1024.size k + ((ix2 e d : S512x1024.Idx) k).val) : Z = ix2 (row (blockOf t.val) e) d := by
  subst hu
  funext k
  apply Fin.ext
  rw [hZ]
  match k with
  | ⟨0, _⟩ => rfl
  | ⟨1, _⟩ => show 0 * 1024 + d.val = d.val; omega

theorem place_w (u : Fin 2 → Nat) (hu : u = ![0, 0]) (a d : Fin 1024) (Z : S1024x1024.Idx)
    (hZ : ∀ k, (Z k).val = u k * S1024x1024.size k + ((ix2 a d : S1024x1024.Idx) k).val) : Z = ix2 a d := by
  subst hu
  funext k
  apply Fin.ext
  rw [hZ]
  match k with
  | ⟨0, _⟩ => show 0 * 1024 + a.val = a.val; omega
  | ⟨1, _⟩ => show 0 * 1024 + d.val = d.val; omega

/-- The blocks a grid point reads. -/
def blockX : FVec Ideal S512x1024 .f32 := iblk m c 0 t
def blockZ : FVec Ideal S512x1024 .bf16 := iblk m c 1 t
def blockW : FVec Ideal S1024x1024 .bf16 := iblk m c 2 t

theorem block_0 (e : Fin 512) (d : Fin 1024) : blockX m c t (ix2 e d) = arrX m c (ix2 (row (blockOf t.val) e) d) :=
  congrArg (arrX m c) (place_rows t _ (ix_0 t) e d (((cfg0.win 0).blk t).view.emb (ix2 e d)) fun k => Pipeline.Window.rect_emb_val (cfg0.win 0) t _ k)

theorem block_1 (e : Fin 512) (d : Fin 1024) : blockZ m c t (ix2 e d) = arrZ m c (ix2 (row (blockOf t.val) e) d) :=
  congrArg (arrZ m c) (place_rows t _ (ix_1 t) e d (((cfg0.win 1).blk t).view.emb (ix2 e d)) fun k => Pipeline.Window.rect_emb_val (cfg0.win 1) t _ k)

theorem block_2 (a d : Fin 1024) : blockW m c t (ix2 a d) = arrW m c (ix2 a d) :=
  congrArg (arrW m c) (place_w _ (ix_2 t) a d (((cfg0.win 2).blk t).view.emb (ix2 a d)) fun k => Pipeline.Window.rect_emb_val (cfg0.win 2) t _ k)

/-- The product of a grid point's two blocks of rows is its part. -/
theorem blocks_part (a d : Fin 1024) :
    (∑ e : Fin 512, (blockZ m c t (ix2 e a) * blockX m c t (ix2 e d) : EReal)) = part m c a d (blockOf t.val) :=
  Finset.sum_congr (M := EReal) rfl fun e _ => congrArg₂ (fun x y : EReal => x * y) (block_1 m c t e a) (block_0 m c t e d)

end Point

/-- Before the last grid point the carried buffer holds the parts of the blocks read so far. -/
theorem carried_at (n : Nat) : ∀ (hn : n < cfg0.N) (_ : n < 7) (a d : Fin 1024),
    ((outsAt0 m c n hn).2.2 : FVec Ideal S1024x1024 .f32) (ix2 a d) = ∑ k ∈ Finset.range (n + 1), part m c a d (blockOf k) := by
  induction n with
  | zero =>
    intro hn _ a d
    rw [(outs_first m c ⟨0, hn⟩ rfl (by show ¬1 ≤ 0; decide) (by show ¬0 % 8 = 7; decide)).2]
    exact (pay4_at _ _ a d).trans ((blocks_part m c ⟨0, hn⟩ a d).trans (Finset.sum_range_one (fun k => part m c a d (blockOf k))).symm)
  | succ n ih =>
    intro hn h7 a d
    rw [(outs_next m c ⟨n + 1, hn⟩ (by show ¬(n + 1) % 8 = 0; omega) (by show 1 ≤ n + 1; omega) (by show ¬(n + 1) % 8 = 7; omega)).2]
    refine (pay5_at _ _ _ a d).trans ?_
    rw [Finset.sum_range_succ]
    exact congrArg₂ (fun x y : EReal => x + y) (ih (Nat.lt_of_succ_lt hn) (by omega) a d) (blocks_part m c ⟨n + 1, hn⟩ a d)

/-- The last grid point leaves all the parts in the second result's buffer. -/
theorem last_at (n : Nat) (hn : n < cfg0.N) (h7 : n = 7) (a d : Fin 1024) :
    ((outsAt0 m c n hn).2.1 : FVec Ideal S1024x1024 .bf16) (ix2 a d) = prodW m c (ix2 a d) := by
  subst h7
  rw [(outs_last m c ⟨7, hn⟩ (by show ¬7 % 8 = 0; decide) (by show 1 ≤ 7; decide) (by show 7 % 8 = 7; decide)).2]
  refine (pay6_at _ a d).trans ((pay5_at _ _ _ a d).trans ?_)
  refine (congrArg₂ (fun x y : EReal => x + y) (carried_at m c 6 (Nat.lt_of_succ_lt hn) (by decide) a d) (blocks_part m c ⟨7, hn⟩ a d)).trans ?_
  refine (Finset.sum_range_succ (fun k => part m c a d (blockOf k)) 7).symm.trans ?_
  rw [prodW_at, Finset.sum_range]
  exact Finset.sum_congr (M := EReal) rfl fun q _ => congrArg (part m c a d) (Fin.ext (Nat.mod_eq_of_lt q.isLt))

theorem flush_last : ∀ t : Fin cfg0.N, (cfg0.win 4).flush t = true → t.val = 7 :=
  (by decide +kernel : ∀ t : Fin grid0.N, (cfg0.win 4).flush t = true → t.val = 7)

/-- What a grid point leaves is its block of the first gradient; what the last one leaves is the second. -/
theorem out_3 (t : Fin cfg0.N) (y : S512x1024.Idx) (Z : S4096x1024.Idx)
    (hZ : ∀ k, (Z k).val = cc0_transform_4 (grid0.coords t) k * S512x1024.size k + (y k).val) :
    ((outsAt0 m c t.val t.isLt).1 : FVec Ideal S512x1024 .bf16) y = prodZ m c Z := by
  obtain ⟨e, a, rfl⟩ : ∃ (e : Fin 512) (a : Fin 1024), y = ix2 e a := ⟨y 0, y 1, by
    funext k; match k with
    | ⟨0, _⟩ => rfl
    | ⟨1, _⟩ => rfl⟩
  rw [place_rows t _ (ix_4 t) e a Z hZ, outs_rows]
  exact (pay2_at _ _ e a).trans ((Finset.sum_congr (M := EReal) rfl fun d _ =>
    congrArg₂ (fun x y : EReal => x * y) (block_0 m c t e d) (block_2 m c t a d)).trans (prodZ_at m c (row (blockOf t.val) e) a).symm)

theorem out_4 (t : Fin cfg0.N) (ht : t.val = 7) (y : S1024x1024.Idx) (Z : S1024x1024.Idx)
    (hZ : ∀ k, (Z k).val = cc0_transform_5 (grid0.coords t) k * S1024x1024.size k + (y k).val) :
    ((outsAt0 m c t.val t.isLt).2.1 : FVec Ideal S1024x1024 .bf16) y = prodW m c Z := by
  obtain ⟨a, d, rfl⟩ : ∃ (a d : Fin 1024), y = ix2 a d := ⟨y 0, y 1, by
    funext k; match k with
    | ⟨0, _⟩ => rfl
    | ⟨1, _⟩ => rfl⟩
  rw [place_w _ (ix_5 t) a d Z hZ]
  exact last_at m c t.val t.isLt ht a d

theorem cov3 : (cfg0.win 3).Covers := by decide +kernel
theorem cov4 : (cfg0.win 4).Covers := by decide +kernel

/-- The result arrays are the two gradients. -/
theorem arr3 : (dats m 0 c).arrAt 3 cfg0.N = prodZ m c := by
  refine Pipeline.Dat.arrAt_eq_of_covers (dats m 0 c) 3 (prodZ m c) cov3 fun t hf y => ?_
  have hZ : ∀ k, ((((cfg0.win 3).blk t).view.emb y) k : ℕ) = cc0_transform_4 (grid0.coords t) k * S512x1024.size k + (y k).val :=
    fun k => Pipeline.Window.rect_emb_val (cfg0.win 3) t y k
  have h := out_3 m c t y (((cfg0.win 3).blk t).view.emb y) hZ
  rw [after0_3, cast_eq]
  exact h

theorem arr4 : (dats m 0 c).arrAt 4 cfg0.N = prodW m c := by
  refine Pipeline.Dat.arrAt_eq_of_covers (dats m 0 c) 4 (prodW m c) cov4 fun t hf y => ?_
  have hZ : ∀ k, ((((cfg0.win 4).blk t).view.emb y) k : ℕ) = cc0_transform_5 (grid0.coords t) k * S1024x1024.size k + (y k).val :=
    fun k => Pipeline.Window.rect_emb_val (cfg0.win 4) t y k
  have h := out_4 m c t (flush_last t hf) y (((cfg0.win 4).blk t).view.emb y) hZ
  rw [after0_4, cast_eq]
  exact h

end Cert.OutGrad

end
-- ==== Proof.Merge.lean ====
module

public import proofs.«01_k».proof.Proof.Gen.Kernel6Ideal.Value
public import proofs.«01_k».proof.Proof.Gen.Reference6Ideal.Run
public import Idealize.ShloMosaic.Lib.Pointwise
public import Idealize.ShloMosaic.Lib.Claim
public import Idealize.ShloMosaic.Lib.Pipeline.ValueKit.Basic
public import Idealize.ShloMosaic.Lib.Pipeline.ValueKit.Point
public import Idealize.ShloMosaic.Lib.Pipeline.ValueKit.Tiles

@[expose] public section

set_option maxRecDepth 16384

noncomputable section

namespace Cert.Merge

open Idealize.ShloMosaic Idealize.ShloMosaic.TcCoe Idealize.SL.Sem

/-! # The four branches, gated and added -/

/-- A branch's product, times the logistic function of its gate. -/
def gated (v : EReal) (y w : Fin 512 → EReal) : EReal := (∑ e : Fin 512, y e * w e) * Ideal.div 1 (1 + Ideal.exp (0 - v))

theorem gated_congr {v v' : EReal} {y y' w w' : Fin 512 → EReal} (hv : v = v') (hy : ∀ e, y e = y' e) (hw : ∀ e, w e = w' e) :
    gated v y w = gated v' y' w' := by
  rw [hv, funext hy, funext hw]

/-- The gate before the product, as the reference has it. -/
theorem gated_eq (v : EReal) (y w : Fin 512 → EReal) :
    Ideal.div 1 (1 + Ideal.exp (-v)) * (∑ e : Fin 512, y e * w e) = gated v y w := by
  unfold gated
  rw [zero_sub]
  exact mul_comm (G := EReal) _ _

theorem add4 {a b c d a' b' c' d' : EReal} (ha : a = a') (hb : b = b') (hc : c = c') (hd : d = d') :
    a + b + c + d = a' + b' + c' + d' := by
  rw [ha, hb, hc, hd]

/-- The column of branch `k`'s gate for column `n` of the result. -/
def gcol (k : Fin 4) (n : Fin 1024) : Fin 10752 := ⟨6656 + (k.val * 1024 + n.val), by omega⟩
/-- The columns of chip `q`. -/
def col (q : Fin 4) (b : Fin 256) : Fin 1024 := ⟨q.val * 256 + b.val, by omega⟩

section ReferenceSide
open Cert.Reference6Ideal Cert.Reference6Ideal.Gen

/-- The reference's gates. -/
def gates (p : FVec Ideal S4096x10752 .f32) : FVec Ideal S4096x4x1024 .f32 :=
  Host.divf (broadcastInDim S4096x4x1024 ![] bcast_S_S4096x4x1024 (constant S_ .f32 0x3F800000#32)) (addf (broadcastInDim S4096x4x1024 ![] bcast_S_S4096x4x1024 (constant S_ .f32 0x3F800000#32)) (Host.exp (Host.negf (shapeCast _ (extractStridedSlice S4096x4096 ![0, 6656] p slices_S4096x10752_S4096x4096_0_6656) shapeCasts_S4096x4096_S4096x4x1024))))

/-- The reference's result, of the branches, their weights and the projection holding the gates. -/
def refTerm (y : FVec Ideal S4x4096x512 .f32) (w : FVec Ideal S4x512x1024 .f32) (p : FVec Ideal S4096x10752 .f32) : FVec Ideal S4096x1024 .bf16 :=
  truncf .bf16 (addf (addf (addf (mulf (shapeCast _ (extractStridedSlice S4096x1x1024 ![0, 0, 0] (gates p) slices_S4096x4x1024_S4096x1x1024_0_0_0) shapeCasts_S4096x1x1024_S4096x1024) (Host.dotGeneral dot_S4096x512_S512x1024_S4096x1024_1_0_0_1_n_n none (shapeCast _ (extractStridedSlice S1x4096x512 ![0, 0, 0] y slices_S4x4096x512_S1x4096x512_0_0_0) shapeCasts_S1x4096x512_S4096x512) (shapeCast _ (extractStridedSlice S1x512x1024 ![0, 0, 0] w slices_S4x512x1024_S1x512x1024_0_0_0) shapeCasts_S1x512x1024_S512x1024)))
    (mulf (shapeCast _ (extractStridedSlice S4096x1x1024 ![0, 1, 0] (gates p) slices_S4096x4x1024_S4096x1x1024_0_1_0) shapeCasts_S4096x1x1024_S4096x1024) (Host.dotGeneral dot_S4096x512_S512x1024_S4096x1024_1_0_0_1_n_n none (shapeCast _ (extractStridedSlice S1x4096x512 ![1, 0, 0] y slices_S4x4096x512_S1x4096x512_1_0_0) shapeCasts_S1x4096x512_S4096x512) (shapeCast _ (extractStridedSlice S1x512x1024 ![1, 0, 0] w slices_S4x512x1024_S1x512x1024_1_0_0) shapeCasts_S1x512x1024_S512x1024))))
    (mulf (shapeCast _ (extractStridedSlice S4096x1x1024 ![0, 2, 0] (gates p) slices_S4096x4x1024_S4096x1x1024_0_2_0) shapeCasts_S4096x1x1024_S4096x1024) (Host.dotGeneral dot_S4096x512_S512x1024_S4096x1024_1_0_0_1_n_n none (shapeCast _ (extractStridedSlice S1x4096x512 ![2, 0, 0] y slices_S4x4096x512_S1x4096x512_2_0_0) shapeCasts_S1x4096x512_S4096x512) (shapeCast _ (extractStridedSlice S1x512x1024 ![2, 0, 0] w slices_S4x512x1024_S1x512x1024_2_0_0) shapeCasts_S1x512x1024_S512x1024))))
    (mulf (shapeCast _ (extractStridedSlice S4096x1x1024 ![0, 3, 0] (gates p) slices_S4096x4x1024_S4096x1x1024_0_3_0) shapeCasts_S4096x1x1024_S4096x1024) (Host.dotGeneral dot_S4096x512_S512x1024_S4096x1024_1_0_0_1_n_n none (shapeCast _ (extractStridedSlice S1x4096x512 ![3, 0, 0] y slices_S4x4096x512_S1x4096x512_3_0_0) shapeCasts_S1x4096x512_S4096x512) (shapeCast _ (extractStridedSlice S1x512x1024 ![3, 0, 0] w slices_S4x512x1024_S1x512x1024_3_0_0) shapeCasts_S1x512x1024_S512x1024)))) bitsLt_bf16_f32

theorem ref_congr {y y' : FVec Ideal S4x4096x512 .f32} {w w' : FVec Ideal S4x512x1024 .f32} {p p' : FVec Ideal S4096x10752 .f32}
    (hy : y = y') (hw : w = w') (hp : p = p') : refTerm y w p = refTerm y' w' p' := by
  rw [hy, hw, hp]

theorem gates_at (p : FVec Ideal S4096x10752 .f32) (t : Fin 4096) (k : Fin 4) (n : Fin 1024) :
    gates p (ix3 t k n) = Ideal.div 1 (1 + Ideal.exp (-p (ix2 t (gcol k n)))) := by
  pointwise [gates]
  rfl

/-- An entry of the reference's result. -/
theorem ref_at (y : FVec Ideal S4x4096x512 .f32) (w : FVec Ideal S4x512x1024 .f32) (p : FVec Ideal S4096x10752 .f32) (t : Fin 4096) (n : Fin 1024) :
    refTerm y w p (ix2 t n)
      = (gated (p (ix2 t (gcol 0 n))) (fun e => y (ix3 0 t e)) (fun e => w (ix3 0 e n))
        + gated (p (ix2 t (gcol 1 n))) (fun e => y (ix3 1 t e)) (fun e => w (ix3 1 e n))
        + gated (p (ix2 t (gcol 2 n))) (fun e => y (ix3 2 t e)) (fun e => w (ix3 2 e n))
        + gated (p (ix2 t (gcol 3 n))) (fun e => y (ix3 3 t e)) (fun e => w (ix3 3 e n)) : EReal) := by
  rw [← gated_eq, ← gated_eq, ← gated_eq, ← gated_eq, ← gates_at, ← gates_at, ← gates_at, ← gates_at]
  unfold refTerm
  generalize gates p = g
  pointwise []

end ReferenceSide

open Cert.Kernel6Ideal Cert.Kernel6Ideal.Gen

section Payloads

variable (v0 v1 v2 v3 : Vec Ideal S256x256 .bf16) (y0 y1 y2 y3 : Vec Ideal S1x256x512 .bf16) (w0 w1 w2 w3 : Vec Ideal S1x1x512x256 .bf16)
  (a b : Fin 256)

/-- What a grid point computes for one chip's columns, from the branches' gates, rows and weights. -/
def chipAt : EReal :=
  gated (v0 (ix2 a b)) (fun e => y0 (ix3 0 a e)) (fun e => w0 (ix4 0 0 e b))
    + gated (v1 (ix2 a b)) (fun e => y1 (ix3 0 a e)) (fun e => w1 (ix4 0 0 e b))
    + gated (v2 (ix2 a b)) (fun e => y2 (ix3 0 a e)) (fun e => w2 (ix4 0 0 e b))
    + gated (v3 (ix2 a b)) (fun e => y3 (ix3 0 a e)) (fun e => w3 (ix4 0 0 e b))

theorem chip0_at : k0_pay4 (F := Ideal) (k0_pay3 (k0_pay2 v0 y0 w0 v1 y1 w1) v2 y2 w2 v3 y3 w3) (ix2 a b)
    = chipAt v0 v1 v2 v3 y0 y1 y2 y3 w0 w1 w2 w3 a b := by
  unfold chipAt gated
  pointwise [k0_pay4, k0_pay3, k0_pay2]

theorem chip1_at : k0_pay11 (F := Ideal) (k0_pay8 (k0_pay5 v0 y0 w0) (k0_pay6 y1 w1) (k0_pay7 v1) (Scalar.ofBits .f32 0x3F800000#32) v2 y2 w2)
      (k0_pay9 y3 w3) (k0_pay10 v3) (Scalar.ofBits .f32 0x3F800000#32) (ix2 a b)
    = chipAt v0 v1 v2 v3 y0 y1 y2 y3 w0 w1 w2 w3 a b := by
  unfold chipAt gated
  pointwise [k0_pay11, k0_pay10, k0_pay9, k0_pay8, k0_pay7, k0_pay6, k0_pay5]

theorem chip2_at : k0_pay18 (F := Ideal) (k0_pay15 (k0_pay12 v0 y0 w0) (k0_pay13 y1 w1) (k0_pay14 v1) v2 y2 w2) (k0_pay16 y3 w3) (k0_pay17 v3) (ix2 a b)
    = chipAt v0 v1 v2 v3 y0 y1 y2 y3 w0 w1 w2 w3 a b := by
  unfold chipAt gated
  pointwise [k0_pay18, k0_pay17, k0_pay16, k0_pay15, k0_pay14, k0_pay13, k0_pay12]

theorem chip3_at : k0_pay1 (F := Ideal) (k0_pay22 (k0_pay19 v0 y0 w0) (k0_pay20 v1) (k0_pay21 y1 w1) v2 y2 w2) (k0_pay23 v3) (k0_pay24 y3 w3) (ix2 a b)
    = chipAt v0 v1 v2 v3 y0 y1 y2 y3 w0 w1 w2 w3 a b := by
  unfold chipAt gated
  pointwise [k0_pay1, k0_pay24, k0_pay23, k0_pay22, k0_pay21, k0_pay20, k0_pay19]

end Payloads

variable (m : (ℓ : Loc nD τ sig) → Buf (Elt Ideal) ℓ) (c : Dev nD)

/-- The branches, their weights by chips and the projection, as the call finds them. -/
def arrY : FVec Ideal S4x4096x512 .bf16 := V m c main_v0
def arrW : FVec Ideal S4x4x512x256 .bf16 := V m c main_v3
def arrP : FVec Ideal S4096x10752 .bf16 := V m c main_v4

theorem y_at (k : Fin 4) (t : Fin 4096) (e : Fin 512) :
    arrY m c (ix3 k t e) = (m ((c.tc : Thread nD τ).loc main_arg0) : FVec Ideal S4x4096x512 .f32) (ix3 k t e) := by
  unfold arrY
  entry_read
  rfl

theorem w_at (q k : Fin 4) (e : Fin 512) (b : Fin 256) :
    arrW m c (ix4 q k e b) = (m ((c.tc : Thread nD τ).loc main_arg1) : FVec Ideal S4x512x1024 .f32) (ix3 k e (col q b)) := by
  unfold arrW
  entry_read
  pointwise []
  rfl

theorem p_at (t : Fin 4096) (n : Fin 10752) :
    arrP m c (ix2 t n) = (m ((c.tc : Thread nD τ).loc main_arg2) : FVec Ideal S4096x10752 .f32) (ix2 t n) := by
  unfold arrP
  entry_read
  rfl

/-- The merged branches, of the call's arguments. -/
def prod : FVec Ideal S4096x1024 .bf16 :=
  refTerm (m ((c.tc : Thread nD τ).loc main_arg0)) (m ((c.tc : Thread nD τ).loc main_arg1)) (m ((c.tc : Thread nD τ).loc main_arg2))

/-- One branch's part of an entry of chip `q`'s columns. -/
def part (r : Fin 4096) (q : Fin 4) (b : Fin 256) (k : Fin 4) : EReal :=
  gated (arrP m c (ix2 r (gcol k (col q b)))) (fun e => arrY m c (ix3 k r e)) (fun e => arrW m c (ix4 q k e b))

theorem prod_at (r : Fin 4096) (q : Fin 4) (b : Fin 256) :
    prod m c (ix2 r (col q b)) = (part m c r q b 0 + part m c r q b 1 + part m c r q b 2 + part m c r q b 3 : EReal) := by
  have h : ∀ k : Fin 4, gated ((m ((c.tc : Thread nD τ).loc main_arg2) : FVec Ideal S4096x10752 .f32) (ix2 r (gcol k (col q b))))
      (fun e => (m ((c.tc : Thread nD τ).loc main_arg0) : FVec Ideal S4x4096x512 .f32) (ix3 k r e))
      (fun e => (m ((c.tc : Thread nD τ).loc main_arg1) : FVec Ideal S4x512x1024 .f32) (ix3 k e (col q b))) = part m c r q b k := fun k =>
    gated_congr (p_at m c r _).symm (fun e => (y_at m c k r e).symm) (fun e => (w_at m c q k e b).symm)
  unfold prod
  exact (ref_at _ _ _ r (col q b)).trans (add4 (h 0) (h 1) (h 2) (h 3))

section Point

variable (t : Fin cfg0.N)

/-- A row of a grid point's block, in the array. -/
def row (a : Fin 256) : Fin 4096 := ⟨t.val * 256 + a.val, by have h : t.val < 16 := t.isLt; omega⟩
/-- A column of the lower or upper half. -/
def half (h : Fin 2) (n : Fin 512) : Fin 1024 := ⟨h.val * 512 + n.val, by omega⟩

theorem ix_0 : ∀ t : Fin cfg0.N, cc0_transform_0 (grid0.coords t) = ![0, t.val, 0] :=
  (by decide +kernel : ∀ t : Fin grid0.N, cc0_transform_0 (grid0.coords t) = ![0, t.val, 0])
theorem ix_1 : ∀ t : Fin cfg0.N, cc0_transform_1 (grid0.coords t) = ![0, 0, 0, 0] :=
  (by decide +kernel : ∀ t : Fin grid0.N, cc0_transform_1 (grid0.coords t) = ![0, 0, 0, 0])
theorem ix_2 : ∀ t : Fin cfg0.N, cc0_transform_2 (grid0.coords t) = ![t.val, 13] :=
  (by decide +kernel : ∀ t : Fin grid0.N, cc0_transform_2 (grid0.coords t) = ![t.val, 13])
theorem ix_3 : ∀ t : Fin cfg0.N, cc0_transform_3 (grid0.coords t) = ![t.val, 14] :=
  (by decide +kernel : ∀ t : Fin grid0.N, cc0_transform_3 (grid0.coords t) = ![t.val, 14])
theorem ix_4 : ∀ t : Fin cfg0.N, cc0_transform_4 (grid0.coords t) = ![t.val, 15] :=
  (by decide +kernel : ∀ t : Fin grid0.N, cc0_transform_4 (grid0.coords t) = ![t.val, 15])
theorem ix_5 : ∀ t : Fin cfg0.N, cc0_transform_5 (grid0.coords t) = ![t.val, 16] :=
  (by decide +kernel : ∀ t : Fin grid0.N, cc0_transform_5 (grid0.coords t) = ![t.val, 16])
theorem ix_6 : ∀ t : Fin cfg0.N, cc0_transform_6 (grid0.coords t) = ![t.val, 17] :=
  (by decide +kernel : ∀ t : Fin grid0.N, cc0_transform_6 (grid0.coords t) = ![t.val, 17])
theorem ix_7 : ∀ t : Fin cfg0.N, cc0_transform_7 (grid0.coords t) = ![t.val, 18] :=
  (by decide +kernel : ∀ t : Fin grid0.N, cc0_transform_7 (grid0.coords t) = ![t.val, 18])
theorem ix_8 : ∀ t : Fin cfg0.N, cc0_transform_8 (grid0.coords t) = ![t.val, 19] :=
  (by decide +kernel : ∀ t : Fin grid0.N, cc0_transform_8 (grid0.coords t) = ![t.val, 19])
theorem ix_9 : ∀ t : Fin cfg0.N, cc0_transform_9 (grid0.coords t) = ![t.val, 20] :=
  (by decide +kernel : ∀ t : Fin grid0.N, cc0_transform_9 (grid0.coords t) = ![t.val, 20])
theorem ix_10 : ∀ t : Fin cfg0.N, cc0_transform_10 (grid0.coords t) = ![t.val, 0] :=
  (by decide +kernel : ∀ t : Fin grid0.N, cc0_transform_10 (grid0.coords t) = ![t.val, 0])

theorem place_y (u : Fin 3 → Nat) (hu : u = ![0, t.val, 0]) (k : Fin 4) (a : Fin 256) (e : Fin 512) (Z : S4x4096x512.Idx)
    (hZ : ∀ i, (Z i).val = u i * S4x256x512.size i + ((ix3 k a e : S4x256x512.Idx) i).val) : Z = ix3 k (row t a) e := by
  subst hu
  funext i
  apply Fin.ext
  rw [hZ]
  match i with
  | ⟨0, _⟩ => show 0 * 4 + k.val = k.val; omega
  | ⟨1, _⟩ => rfl
  | ⟨2, _⟩ => show 0 * 512 + e.val = e.val; omega

theorem place_w (u : Fin 4 → Nat) (hu : u = ![0, 0, 0, 0]) (q k : Fin 4) (e : Fin 512) (b : Fin 256) (Z : S4x4x512x256.Idx)
    (hZ : ∀ i, (Z i).val = u i * S4x4x512x256.size i + ((ix4 q k e b : S4x4x512x256.Idx) i).val) : Z = ix4 q k e b := by
  subst hu
  funext i
  apply Fin.ext
  rw [hZ]
  match i with
  | ⟨0, _⟩ => show 0 * 4 + q.val = q.val; omega
  | ⟨1, _⟩ => show 0 * 4 + k.val = k.val; omega
  | ⟨2, _⟩ => show 0 * 512 + e.val = e.val; omega
  | ⟨3, _⟩ => show 0 * 256 + b.val = b.val; omega

/-- Where an entry of a gate block lies in the projection. -/
theorem place_g (k : Fin 4) (h : Fin 2) (u : Fin 2 → Nat) (hu : u = ![t.val, 13 + (k.val * 2 + h.val)]) (a : Fin 256) (n : Fin 512) (Z : S4096x10752.Idx)
    (hZ : ∀ i, (Z i).val = u i * S256x512.size i + ((ix2 a n : S256x512.Idx) i).val) : Z = ix2 (row t a) (gcol k (half h n)) := by
  subst hu
  funext i
  apply Fin.ext
  rw [hZ]
  match i with
  | ⟨0, _⟩ => rfl
  | ⟨1, _⟩ => show (13 + (k.val * 2 + h.val)) * 512 + n.val = 6656 + (k.val * 1024 + (h.val * 512 + n.val)); omega

theorem place_z (u : Fin 2 → Nat) (hu : u = ![t.val, 0]) (a : Fin 256) (n : Fin 1024) (Z : S4096x1024.Idx)
    (hZ : ∀ i, (Z i).val = u i * S256x1024.size i + ((ix2 a n : S256x1024.Idx) i).val) : Z = ix2 (row t a) n := by
  subst hu
  funext i
  apply Fin.ext
  rw [hZ]
  match i with
  | ⟨0, _⟩ => rfl
  | ⟨1, _⟩ => show 0 * 1024 + n.val = n.val; omega

/-- A branch's rows, read from a block of the branches. -/
theorem ld_y (X : Vec Ideal S4x256x512 .bf16) (hX : ∀ k a e, X (ix3 k a e) = arrY m c (ix3 k (row t a) e)) (k : Fin 4) (inb) (a : Fin 256) (e : Fin 512) :
    View.ld X (Rect.unit (s := S4x256x512) ![k.val, 0, 0] S1x256x512.size inb) (ix3 0 a e) = arrY m c (ix3 k (row t a) e) :=
  (View.ld_unit_apply_of X _ _ inb (ix3 0 a e) (ix3 k a e) fun i => by
    match i with
    | ⟨0, _⟩ => rfl
    | ⟨1, _⟩ => show a.val = 0 + a.val; omega
    | ⟨2, _⟩ => show e.val = 0 + e.val; omega).trans (hX k a e)

/-- A branch's weights for one chip. -/
theorem ld_w (X : Vec Ideal S4x4x512x256 .bf16) (hX : ∀ q k e b, X (ix4 q k e b) = arrW m c (ix4 q k e b)) (q k : Fin 4) (inb) (e : Fin 512) (b : Fin 256) :
    View.ld X (Rect.unit (s := S4x4x512x256) ![q.val, k.val, 0, 0] S1x1x512x256.size inb) (ix4 0 0 e b) = arrW m c (ix4 q k e b) :=
  (View.ld_unit_apply_of X _ _ inb (ix4 0 0 e b) (ix4 q k e b) fun i => by
    match i with
    | ⟨0, _⟩ => rfl
    | ⟨1, _⟩ => rfl
    | ⟨2, _⟩ => show e.val = 0 + e.val; omega
    | ⟨3, _⟩ => show b.val = 0 + b.val; omega).trans (hX q k e b)

/-- A branch's gates for one chip, the left or right half of a gate block. -/
theorem ld_g (q k : Fin 4) (h : Fin 2) (X : Vec Ideal S256x512 .bf16) (hX : ∀ a n, X (ix2 a n) = arrP m c (ix2 (row t a) (gcol k (half h n))))
    (off : ℕ) (ho : off + 256 ≤ 512) (hq : h.val * 512 + off = q.val * 256) (inb) (a b : Fin 256) :
    View.ld X (Rect.unit (s := S256x512) ![0, off] S256x256.size inb) (ix2 a b) = arrP m c (ix2 (row t a) (gcol k (col q b))) :=
  (View.ld_unit_apply_of X _ _ inb (ix2 a b) (ix2 a ⟨off + b.val, by omega⟩) fun i => by
    match i with
    | ⟨0, _⟩ => show a.val = 0 + a.val; omega
    | ⟨1, _⟩ => rfl).trans ((hX a _).trans (congrArg (fun n => arrP m c (ix2 (row t a) (gcol k n))) (Fin.ext (by
      show h.val * 512 + (off + b.val) = q.val * 256 + b.val; omega))))

section Blocks

variable (x0 : Vec Ideal S4x256x512 .bf16) (x1 : Vec Ideal S4x4x512x256 .bf16) (x2 x3 x4 x5 x6 x7 x8 x9 : Vec Ideal S256x512 .bf16)
  (h0 : ∀ k a e, x0 (ix3 k a e) = arrY m c (ix3 k (row t a) e)) (h1 : ∀ q k e b, x1 (ix4 q k e b) = arrW m c (ix4 q k e b))
  (h2 : ∀ a n, x2 (ix2 a n) = arrP m c (ix2 (row t a) (gcol 0 (half 0 n)))) (h3 : ∀ a n, x3 (ix2 a n) = arrP m c (ix2 (row t a) (gcol 0 (half 1 n))))
  (h4 : ∀ a n, x4 (ix2 a n) = arrP m c (ix2 (row t a) (gcol 1 (half 0 n)))) (h5 : ∀ a n, x5 (ix2 a n) = arrP m c (ix2 (row t a) (gcol 1 (half 1 n))))
  (h6 : ∀ a n, x6 (ix2 a n) = arrP m c (ix2 (row t a) (gcol 2 (half 0 n)))) (h7 : ∀ a n, x7 (ix2 a n) = arrP m c (ix2 (row t a) (gcol 2 (half 1 n))))
  (h8 : ∀ a n, x8 (ix2 a n) = arrP m c (ix2 (row t a) (gcol 3 (half 0 n)))) (h9 : ∀ a n, x9 (ix2 a n) = arrP m c (ix2 (row t a) (gcol 3 (half 1 n))))
include h0 h1

/-- One chip's columns, computed from what the four gate loads hold. -/
theorem chip_eq (q : Fin 4) (v0 v1 v2 v3 : Vec Ideal S256x256 .bf16) (i0 i1 i2 i3) (j0 j1 j2 j3) (a b : Fin 256)
    (g0 : v0 (ix2 a b) = arrP m c (ix2 (row t a) (gcol 0 (col q b)))) (g1 : v1 (ix2 a b) = arrP m c (ix2 (row t a) (gcol 1 (col q b))))
    (g2 : v2 (ix2 a b) = arrP m c (ix2 (row t a) (gcol 2 (col q b)))) (g3 : v3 (ix2 a b) = arrP m c (ix2 (row t a) (gcol 3 (col q b)))) :
    chipAt v0 v1 v2 v3 (View.ld x0 (Rect.unit (s := S4x256x512) ![0, 0, 0] S1x256x512.size i0)) (View.ld x0 (Rect.unit (s := S4x256x512) ![1, 0, 0] S1x256x512.size i1))
      (View.ld x0 (Rect.unit (s := S4x256x512) ![2, 0, 0] S1x256x512.size i2)) (View.ld x0 (Rect.unit (s := S4x256x512) ![3, 0, 0] S1x256x512.size i3))
      (View.ld x1 (Rect.unit (s := S4x4x512x256) ![q.val, 0, 0, 0] S1x1x512x256.size j0)) (View.ld x1 (Rect.unit (s := S4x4x512x256) ![q.val, 1, 0, 0] S1x1x512x256.size j1))
      (View.ld x1 (Rect.unit (s := S4x4x512x256) ![q.val, 2, 0, 0] S1x1x512x256.size j2)) (View.ld x1 (Rect.unit (s := S4x4x512x256) ![q.val, 3, 0, 0] S1x1x512x256.size j3)) a b
      = prod m c (ix2 (row t a) (col q b)) := by
  refine Eq.trans ?_ (prod_at m c (row t a) q b).symm
  unfold chipAt
  exact add4 (gated_congr g0 (fun e => ld_y m c t x0 h0 0 i0 a e) (fun e => ld_w m c x1 h1 q 0 j0 e b))
    (gated_congr g1 (fun e => ld_y m c t x0 h0 1 i1 a e) (fun e => ld_w m c x1 h1 q 1 j1 e b))
    (gated_congr g2 (fun e => ld_y m c t x0 h0 2 i2 a e) (fun e => ld_w m c x1 h1 q 2 j2 e b))
    (gated_congr g3 (fun e => ld_y m c t x0 h0 3 i3 a e) (fun e => ld_w m c x1 h1 q 3 j3 e b))

include h2 h3 h4 h5 h6 h7 h8 h9

/-- The four stores leave the block's rows of the result. -/
theorem blocks_eq (y : S256x1024.Idx) :
    out0_10 (F := Ideal) x0 x1 x2 x3 x4 x5 x6 x7 x8 x9 y = prod m c (ix2 (row t (y 0)) (y 1)) := by
  unfold out0_10
  refine View.canon_apply_of_pieces (Val := Elt Ideal) (fun y : S256x1024.Idx => prod m c (ix2 (row t (y 0)) (y 1))) _ (fun p hp z => ?_) y (cover0_10 _ _ _ _ y)
  simp only [List.mem_cons, List.not_mem_nil, or_false] at hp
  rcases hp with rfl | rfl | rfl | rfl
  · obtain ⟨a, b, rfl⟩ : ∃ (a b : Fin 256), z = ix2 a b := ⟨z 0, z 1, by
      funext k; match k with
      | ⟨0, _⟩ => rfl
      | ⟨1, _⟩ => rfl⟩
    have e0 : (r0_25.emb (ix2 a b)) 0 = a := Fin.ext (by show 0 + 1 * a.val = a.val; omega)
    have e1 : (r0_25.emb (ix2 a b)) 1 = col 3 b := Fin.ext (by show 768 + 1 * b.val = 3 * 256 + b.val; omega)
    refine (chip3_at _ _ _ _ _ _ _ _ _ _ _ _ a b).trans ((chip_eq m c t x0 x1 h0 h1 3 _ _ _ _ _ _ _ _ _ _ _ _ a b
      (ld_g m c t 3 0 1 x3 h3 256 (by decide) rfl _ a b) (ld_g m c t 3 1 1 x5 h5 256 (by decide) rfl _ a b)
      (ld_g m c t 3 2 1 x7 h7 256 (by decide) rfl _ a b) (ld_g m c t 3 3 1 x9 h9 256 (by decide) rfl _ a b)).trans ?_)
    exact (congrArg₂ (fun a n => prod m c (ix2 (row t a) n)) e0 e1).symm
  · obtain ⟨a, b, rfl⟩ : ∃ (a b : Fin 256), z = ix2 a b := ⟨z 0, z 1, by
      funext k; match k with
      | ⟨0, _⟩ => rfl
      | ⟨1, _⟩ => rfl⟩
    have e0 : (r0_20.emb (ix2 a b)) 0 = a := Fin.ext (by show 0 + 1 * a.val = a.val; omega)
    have e1 : (r0_20.emb (ix2 a b)) 1 = col 2 b := Fin.ext (by show 512 + 1 * b.val = 2 * 256 + b.val; omega)
    refine (chip2_at _ _ _ _ _ _ _ _ _ _ _ _ a b).trans ((chip_eq m c t x0 x1 h0 h1 2 _ _ _ _ _ _ _ _ _ _ _ _ a b
      (ld_g m c t 2 0 1 x3 h3 0 (by decide) rfl _ a b) (ld_g m c t 2 1 1 x5 h5 0 (by decide) rfl _ a b)
      (ld_g m c t 2 2 1 x7 h7 0 (by decide) rfl _ a b) (ld_g m c t 2 3 1 x9 h9 0 (by decide) rfl _ a b)).trans ?_)
    exact (congrArg₂ (fun a n => prod m c (ix2 (row t a) n)) e0 e1).symm
  · obtain ⟨a, b, rfl⟩ : ∃ (a b : Fin 256), z = ix2 a b := ⟨z 0, z 1, by
      funext k; match k with
      | ⟨0, _⟩ => rfl
      | ⟨1, _⟩ => rfl⟩
    have e0 : (r0_15.emb (ix2 a b)) 0 = a := Fin.ext (by show 0 + 1 * a.val = a.val; omega)
    have e1 : (r0_15.emb (ix2 a b)) 1 = col 1 b := Fin.ext (by show 256 + 1 * b.val = 1 * 256 + b.val; omega)
    refine (chip1_at _ _ _ _ _ _ _ _ _ _ _ _ a b).trans ((chip_eq m c t x0 x1 h0 h1 1 _ _ _ _ _ _ _ _ _ _ _ _ a b
      (ld_g m c t 1 0 0 x2 h2 256 (by decide) rfl _ a b) (ld_g m c t 1 1 0 x4 h4 256 (by decide) rfl _ a b)
      (ld_g m c t 1 2 0 x6 h6 256 (by decide) rfl _ a b) (ld_g m c t 1 3 0 x8 h8 256 (by decide) rfl _ a b)).trans ?_)
    exact (congrArg₂ (fun a n => prod m c (ix2 (row t a) n)) e0 e1).symm
  · obtain ⟨a, b, rfl⟩ : ∃ (a b : Fin 256), z = ix2 a b := ⟨z 0, z 1, by
      funext k; match k with
      | ⟨0, _⟩ => rfl
      | ⟨1, _⟩ => rfl⟩
    have e0 : (r0_9.emb (ix2 a b)) 0 = a := Fin.ext (by show 0 + 1 * a.val = a.val; omega)
    have e1 : (r0_9.emb (ix2 a b)) 1 = col 0 b := Fin.ext (by show 0 + 1 * b.val = 0 * 256 + b.val; omega)
    refine (chip0_at _ _ _ _ _ _ _ _ _ _ _ _ a b).trans ((chip_eq m c t x0 x1 h0 h1 0 _ _ _ _ _ _ _ _ _ _ _ _ a b
      (ld_g m c t 0 0 0 x2 h2 0 (by decide) rfl _ a b) (ld_g m c t 0 1 0 x4 h4 0 (by decide) rfl _ a b)
      (ld_g m c t 0 2 0 x6 h6 0 (by decide) rfl _ a b) (ld_g m c t 0 3 0 x8 h8 0 (by decide) rfl _ a b)).trans ?_)
    exact (congrArg₂ (fun a n => prod m c (ix2 (row t a) n)) e0 e1).symm

end Blocks

/-- The blocks a grid point reads: the branches, the weights, and the two halves of each branch's gates. -/
def blockY : FVec Ideal S4x256x512 .bf16 := iblk m c 0 t
def blockW : FVec Ideal S4x4x512x256 .bf16 := iblk m c 1 t
def gate0l : FVec Ideal S256x512 .bf16 := iblk m c 2 t
def gate0r : FVec Ideal S256x512 .bf16 := iblk m c 3 t
def gate1l : FVec Ideal S256x512 .bf16 := iblk m c 4 t
def gate1r : FVec Ideal S256x512 .bf16 := iblk m c 5 t
def gate2l : FVec Ideal S256x512 .bf16 := iblk m c 6 t
def gate2r : FVec Ideal S256x512 .bf16 := iblk m c 7 t
def gate3l : FVec Ideal S256x512 .bf16 := iblk m c 8 t
def gate3r : FVec Ideal S256x512 .bf16 := iblk m c 9 t

theorem block_0 (k : Fin 4) (a : Fin 256) (e : Fin 512) : blockY m c t (ix3 k a e) = arrY m c (ix3 k (row t a) e) :=
  congrArg (arrY m c) (place_y t _ (ix_0 t) k a e (((cfg0.win 0).blk t).view.emb (ix3 k a e)) fun i => Pipeline.Window.rect_emb_val (cfg0.win 0) t _ i)

theorem block_1 (q k : Fin 4) (e : Fin 512) (b : Fin 256) : blockW m c t (ix4 q k e b) = arrW m c (ix4 q k e b) :=
  congrArg (arrW m c) (place_w _ (ix_1 t) q k e b (((cfg0.win 1).blk t).view.emb (ix4 q k e b)) fun i => Pipeline.Window.rect_emb_val (cfg0.win 1) t _ i)

theorem block_2 (a : Fin 256) (n : Fin 512) : gate0l m c t (ix2 a n) = arrP m c (ix2 (row t a) (gcol 0 (half 0 n))) :=
  congrArg (arrP m c) (place_g t 0 0 _ (ix_2 t) a n (((cfg0.win 2).blk t).view.emb (ix2 a n)) fun i => Pipeline.Window.rect_emb_val (cfg0.win 2) t _ i)
theorem block_3 (a : Fin 256) (n : Fin 512) : gate0r m c t (ix2 a n) = arrP m c (ix2 (row t a) (gcol 0 (half 1 n))) :=
  congrArg (arrP m c) (place_g t 0 1 _ (ix_3 t) a n (((cfg0.win 3).blk t).view.emb (ix2 a n)) fun i => Pipeline.Window.rect_emb_val (cfg0.win 3) t _ i)
theorem block_4 (a : Fin 256) (n : Fin 512) : gate1l m c t (ix2 a n) = arrP m c (ix2 (row t a) (gcol 1 (half 0 n))) :=
  congrArg (arrP m c) (place_g t 1 0 _ (ix_4 t) a n (((cfg0.win 4).blk t).view.emb (ix2 a n)) fun i => Pipeline.Window.rect_emb_val (cfg0.win 4) t _ i)
theorem block_5 (a : Fin 256) (n : Fin 512) : gate1r m c t (ix2 a n) = arrP m c (ix2 (row t a) (gcol 1 (half 1 n))) :=
  congrArg (arrP m c) (place_g t 1 1 _ (ix_5 t) a n (((cfg0.win 5).blk t).view.emb (ix2 a n)) fun i => Pipeline.Window.rect_emb_val (cfg0.win 5) t _ i)
theorem block_6 (a : Fin 256) (n : Fin 512) : gate2l m c t (ix2 a n) = arrP m c (ix2 (row t a) (gcol 2 (half 0 n))) :=
  congrArg (arrP m c) (place_g t 2 0 _ (ix_6 t) a n (((cfg0.win 6).blk t).view.emb (ix2 a n)) fun i => Pipeline.Window.rect_emb_val (cfg0.win 6) t _ i)
theorem block_7 (a : Fin 256) (n : Fin 512) : gate2r m c t (ix2 a n) = arrP m c (ix2 (row t a) (gcol 2 (half 1 n))) :=
  congrArg (arrP m c) (place_g t 2 1 _ (ix_7 t) a n (((cfg0.win 7).blk t).view.emb (ix2 a n)) fun i => Pipeline.Window.rect_emb_val (cfg0.win 7) t _ i)
theorem block_8 (a : Fin 256) (n : Fin 512) : gate3l m c t (ix2 a n) = arrP m c (ix2 (row t a) (gcol 3 (half 0 n))) :=
  congrArg (arrP m c) (place_g t 3 0 _ (ix_8 t) a n (((cfg0.win 8).blk t).view.emb (ix2 a n)) fun i => Pipeline.Window.rect_emb_val (cfg0.win 8) t _ i)
theorem block_9 (a : Fin 256) (n : Fin 512) : gate3r m c t (ix2 a n) = arrP m c (ix2 (row t a) (gcol 3 (half 1 n))) :=
  congrArg (arrP m c) (place_g t 3 1 _ (ix_9 t) a n (((cfg0.win 9).blk t).view.emb (ix2 a n)) fun i => Pipeline.Window.rect_emb_val (cfg0.win 9) t _ i)

/-- What a grid point leaves is its block of the result. -/
theorem out_at (y : S256x1024.Idx) (Z : S4096x1024.Idx)
    (hZ : ∀ k, (Z k).val = cc0_transform_10 (grid0.coords t) k * S256x1024.size k + (y k).val) :
    out0_10 (F := Ideal) (iblk m c 0 t) (iblk m c 1 t) (iblk m c 2 t) (iblk m c 3 t) (iblk m c 4 t) (iblk m c 5 t) (iblk m c 6 t) (iblk m c 7 t)
      (iblk m c 8 t) (iblk m c 9 t) y = prod m c Z := by
  obtain ⟨a, n, rfl⟩ : ∃ (a : Fin 256) (n : Fin 1024), y = ix2 a n := ⟨y 0, y 1, by
    funext k; match k with
    | ⟨0, _⟩ => rfl
    | ⟨1, _⟩ => rfl⟩
  rw [place_z t _ (ix_10 t) a n Z hZ]
  exact blocks_eq m c t (blockY m c t) (blockW m c t) (gate0l m c t) (gate0r m c t) (gate1l m c t) (gate1r m c t) (gate2l m c t) (gate2r m c t)
    (gate3l m c t) (gate3r m c t) (block_0 m c t) (block_1 m c t) (block_2 m c t) (block_3 m c t) (block_4 m c t) (block_5 m c t) (block_6 m c t)
    (block_7 m c t) (block_8 m c t) (block_9 m c t) (ix2 a n)

end Point

theorem cov : (cfg0.win 10).Covers := by decide +kernel

/-- The result array is the merged branches. -/
theorem arr : (dats m 0 c).arrAt 10 cfg0.N = prod m c := by
  refine Pipeline.Dat.arrAt_eq_of_covers (dats m 0 c) 10 (prod m c) cov fun t hf y => ?_
  have hZ : ∀ k, ((((cfg0.win 10).blk t).view.emb y) k : ℕ) = cc0_transform_10 (grid0.coords t) k * S256x1024.size k + (y k).val :=
    fun k => Pipeline.Window.rect_emb_val (cfg0.win 10) t y k
  have h := out_at m c t y (((cfg0.win 10).blk t).view.emb y) hZ
  rw [after0_10, cast_eq]
  exact h

end Cert.Merge

end
-- ==== Proof.OutNorm.lean ====
module

public import proofs.«01_k».proof.Proof.Gen.Kernel7Ideal.Value
public import proofs.«01_k».proof.Proof.Gen.Reference7Ideal.Run
public import Idealize.ShloMosaic.Lib.Pointwise
public import Idealize.ShloMosaic.Lib.Claim
public import Idealize.ShloMosaic.Lib.Pipeline.ValueKit.Basic
public import Idealize.ShloMosaic.Lib.Pipeline.ValueKit.Point

@[expose] public section

set_option maxRecDepth 16384

noncomputable section

namespace Cert.OutNorm

open Idealize.ShloMosaic Idealize.ShloMosaic.TcCoe Idealize.SL.Sem

/-! # The output product added to the stream, and the next layer's norm -/

/-- An entry of a row divided by the root of the row's mean square, times a gain. -/
def normed (v g : Fin 1024 → EReal) (d : Fin 1024) : EReal :=
  v d * Ideal.rsqrt (Ideal.div (∑ e : Fin 1024, v e * v e) (Ideal.ofBits .f32 0x44800000#32) + Ideal.ofBits .f32 0x358637BD#32) * g d

section ReferenceSide
open Cert.Reference7Ideal Cert.Reference7Ideal.Gen

/-- The reference's stream, of the merged branches, the output weights and the stream before. -/
def xnTerm (z : FVec Ideal S4096x1024 .f32) (w : FVec Ideal S1024x1024 .f32) (x : FVec Ideal S4096x1024 .f32) : FVec Ideal S4096x1024 .f32 :=
  addf x (Host.dotGeneral dot_S4096x1024_S1024x1024_S4096x1024_1_0_0_1_n_n none z w)

/-- The reference's norm of a stream. -/
def normTerm (xn : FVec Ideal S4096x1024 .f32) (g : FVec Ideal S1024 .f32) : FVec Ideal S4096x1024 .f32 :=
  mulf (mulf xn (broadcastInDim S4096x1024 ![0, 1] bcast_S4096x1_S4096x1024_0_1 (Host.rsqrt (addf (Host.divf (broadcastInDim S4096x1 ![0] bcast_S4096_S4096x1_0 (Host.reduceAdd (mulf xn xn) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 g))

/-- The reference's normed stream, and the same transposed. -/
def hTerm (xn : FVec Ideal S4096x1024 .f32) (g : FVec Ideal S1024 .f32) : FVec Ideal S4096x1024 .bf16 :=
  truncf .bf16 (normTerm xn g) bitsLt_bf16_f32
def htTerm (xn : FVec Ideal S4096x1024 .f32) (g : FVec Ideal S1024 .f32) : FVec Ideal S1024x4096 .bf16 :=
  truncf .bf16 (transpose S1024x4096 [1, 0] (normTerm xn g) transposes_S4096x1024_S1024x4096_1_0) bitsLt_bf16_f32

theorem xn_congr {z z' : FVec Ideal S4096x1024 .f32} {w w' : FVec Ideal S1024x1024 .f32} {x x' : FVec Ideal S4096x1024 .f32}
    (hz : z = z') (hw : w = w') (hx : x = x') : xnTerm z w x = xnTerm z' w' x' := by
  rw [hz, hw, hx]

theorem xn_at (z : FVec Ideal S4096x1024 .f32) (w : FVec Ideal S1024x1024 .f32) (x : FVec Ideal S4096x1024 .f32) (t : Fin 4096) (d : Fin 1024) :
    xnTerm z w x (ix2 t d) = (x (ix2 t d) + ∑ e : Fin 1024, (z (ix2 t e) * w (ix2 e d) : EReal) : EReal) := by
  pointwise [xnTerm]

theorem h_at (xn : FVec Ideal S4096x1024 .f32) (g : FVec Ideal S1024 .f32) (t : Fin 4096) (d : Fin 1024) :
    hTerm xn g (ix2 t d) = normed (fun e => xn (ix2 t e)) (fun e => g (ix1 e)) d := by
  unfold normed
  pointwise [hTerm, normTerm]

theorem ht_at (xn : FVec Ideal S4096x1024 .f32) (g : FVec Ideal S1024 .f32) (t : Fin 4096) (d : Fin 1024) :
    htTerm xn g (ix2 d t) = normed (fun e => xn (ix2 t e)) (fun e => g (ix1 e)) d := by
  unfold normed
  pointwise [htTerm, normTerm]

end ReferenceSide

open Cert.Kernel7Ideal Cert.Kernel7Ideal.Gen

/-- What a grid point computes from its blocks. -/
theorem pay1_at (x : Vec Ideal S512x1024 .f32) (z : Vec Ideal S512x1024 .bf16) (w : Vec Ideal S1024x1024 .bf16) (a : Fin 512) (d : Fin 1024) :
    k0_pay1 x z w (ix2 a d) = (x (ix2 a d) + ∑ e : Fin 1024, (z (ix2 a e) * w (ix2 e d) : EReal) : EReal) := by
  pointwise [k0_pay1]

theorem pay2_at (x : Vec Ideal S512x1024 .f32) (z : Vec Ideal S512x1024 .bf16) (w : Vec Ideal S1024x1024 .bf16) (g : Vec Ideal S1x1024 .f32)
    (a : Fin 512) (d : Fin 1024) :
    k0_pay2 x z w g (ix2 a d) = normed (fun e => k0_pay1 x z w (ix2 a e)) (fun e => g (ix2 0 e)) d := by
  unfold k0_pay2 normed
  generalize k0_pay1 x z w = xn
  pointwise []

theorem pay3_at (x : Vec Ideal S512x1024 .f32) (z : Vec Ideal S512x1024 .bf16) (w : Vec Ideal S1024x1024 .bf16) (g : Vec Ideal S1x1024 .f32)
    (a : Fin 512) (d : Fin 1024) :
    k0_pay3 x z w g (ix2 a d) = normed (fun e => k0_pay1 x z w (ix2 a e)) (fun e => g (ix2 0 e)) d := by
  rw [← pay2_at]
  unfold k0_pay3
  generalize k0_pay2 x z w g = h
  pointwise []

theorem pay4_at (x : Vec Ideal S512x1024 .f32) (z : Vec Ideal S512x1024 .bf16) (w : Vec Ideal S1024x1024 .bf16) (g : Vec Ideal S1x1024 .f32)
    (a : Fin 512) (d : Fin 1024) :
    k0_pay4 x z w g (ix2 d a) = normed (fun e => k0_pay1 x z w (ix2 a e)) (fun e => g (ix2 0 e)) d := by
  rw [← pay2_at]
  unfold k0_pay4
  generalize k0_pay2 x z w g = h
  pointwise []

/-- The blocks left in the results' buffers are what the point computes. -/
theorem out4_eq (z : Vec Ideal S512x1024 .bf16) (w : Vec Ideal S1024x1024 .bf16) (x : Vec Ideal S512x1024 .f32) (g : Vec Ideal S1x1024 .f32) :
    out0_4 z w x g = k0_pay1 x z w := by
  unfold out0_4
  rw [View.canon_cons_unit_lit _ _ _ (by decide), View.ld_unit_lit _ _ (by decide), View.ld_unit_lit _ _ (by decide), View.ld_unit_lit _ _ (by decide)]

theorem out5_eq (z : Vec Ideal S512x1024 .bf16) (w : Vec Ideal S1024x1024 .bf16) (x : Vec Ideal S512x1024 .f32) (g : Vec Ideal S1x1024 .f32) :
    out0_5 z w x g = k0_pay3 x z w g := by
  unfold out0_5
  rw [View.canon_cons_unit_lit _ _ _ (by decide), View.ld_unit_lit _ _ (by decide), View.ld_unit_lit _ _ (by decide), View.ld_unit_lit _ _ (by decide), View.ld_unit_lit _ _ (by decide)]

theorem out6_eq (z : Vec Ideal S512x1024 .bf16) (w : Vec Ideal S1024x1024 .bf16) (x : Vec Ideal S512x1024 .f32) (g : Vec Ideal S1x1024 .f32) :
    out0_6 z w x g = k0_pay4 x z w g := by
  unfold out0_6
  rw [View.canon_cons_unit_lit _ _ _ (by decide), View.ld_unit_lit _ _ (by decide), View.ld_unit_lit _ _ (by decide), View.ld_unit_lit _ _ (by decide), View.ld_unit_lit _ _ (by decide)]

variable (m : (ℓ : Loc nD τ sig) → Buf (Elt Ideal) ℓ) (c : Dev nD)

/-- The call's arguments, as it finds them. -/
def arrZ : FVec Ideal S4096x1024 .bf16 := V m c main_v0
def arrW : FVec Ideal S1024x1024 .bf16 := V m c main_v1
def arrX : FVec Ideal S4096x1024 .f32 := V m c main_arg2
def arrG : FVec Ideal S1x1024 .f32 := V m c main_v2

theorem z_at (t : Fin 4096) (d : Fin 1024) :
    arrZ m c (ix2 t d) = (m ((c.tc : Thread nD τ).loc main_arg0) : FVec Ideal S4096x1024 .f32) (ix2 t d) := by
  unfold arrZ
  entry_read
  rfl

theorem w_at (e d : Fin 1024) :
    arrW m c (ix2 e d) = (m ((c.tc : Thread nD τ).loc main_arg1) : FVec Ideal S1024x1024 .f32) (ix2 e d) := by
  unfold arrW
  entry_read
  rfl

theorem x_at (t : Fin 4096) (d : Fin 1024) :
    arrX m c (ix2 t d) = (m ((c.tc : Thread nD τ).loc main_arg2) : FVec Ideal S4096x1024 .f32) (ix2 t d) := by
  unfold arrX
  entry_read
  rfl

theorem g_at (d : Fin 1024) :
    arrG m c (ix2 0 d) = (m ((c.tc : Thread nD τ).loc main_arg3) : FVec Ideal S1024 .f32) (ix1 d) := by
  unfold arrG
  entry_read
  pointwise []

/-- The stream, its norm and the norm transposed, of the call's arguments. -/
def prodX : FVec Ideal S4096x1024 .f32 :=
  xnTerm (m ((c.tc : Thread nD τ).loc main_arg0)) (m ((c.tc : Thread nD τ).loc main_arg1)) (m ((c.tc : Thread nD τ).loc main_arg2))
def prodH : FVec Ideal S4096x1024 .bf16 := hTerm (prodX m c) (m ((c.tc : Thread nD τ).loc main_arg3))
def prodT : FVec Ideal S1024x4096 .bf16 := htTerm (prodX m c) (m ((c.tc : Thread nD τ).loc main_arg3))

theorem prodX_at (r : Fin 4096) (d : Fin 1024) :
    prodX m c (ix2 r d) = (arrX m c (ix2 r d) + ∑ e : Fin 1024, (arrZ m c (ix2 r e) * arrW m c (ix2 e d) : EReal) : EReal) := by
  unfold prodX
  exact (xn_at _ _ _ r d).trans (congrArg₂ (fun x y : EReal => x + y) (x_at m c r d).symm (Finset.sum_congr (M := EReal) rfl fun e _ =>
    congrArg₂ (fun x y : EReal => x * y) (z_at m c r e).symm (w_at m c e d).symm))

section Point

variable (t : Fin cfg0.N)

/-- A row of a grid point's block, in the array. -/
def row (a : Fin 512) : Fin 4096 := ⟨t.val * 512 + a.val, by have h : t.val < 8 := t.isLt; omega⟩

theorem ix_0 : ∀ t : Fin cfg0.N, cc0_transform_0 (grid0.coords t) = ![t.val, 0] :=
  (by decide +kernel : ∀ t : Fin grid0.N, cc0_transform_0 (grid0.coords t) = ![t.val, 0])
theorem ix_1 : ∀ t : Fin cfg0.N, cc0_transform_1 (grid0.coords t) = ![0, 0] :=
  (by decide +kernel : ∀ t : Fin grid0.N, cc0_transform_1 (grid0.coords t) = ![0, 0])
theorem ix_2 : ∀ t : Fin cfg0.N, cc0_transform_2 (grid0.coords t) = ![t.val, 0] :=
  (by decide +kernel : ∀ t : Fin grid0.N, cc0_transform_2 (grid0.coords t) = ![t.val, 0])
theorem ix_3 : ∀ t : Fin cfg0.N, cc0_transform_3 (grid0.coords t) = ![0, 0] :=
  (by decide +kernel : ∀ t : Fin grid0.N, cc0_transform_3 (grid0.coords t) = ![0, 0])
theorem ix_4 : ∀ t : Fin cfg0.N, cc0_transform_4 (grid0.coords t) = ![t.val, 0] :=
  (by decide +kernel : ∀ t : Fin grid0.N, cc0_transform_4 (grid0.coords t) = ![t.val, 0])
theorem ix_5 : ∀ t : Fin cfg0.N, cc0_transform_5 (grid0.coords t) = ![t.val, 0] :=
  (by decide +kernel : ∀ t : Fin grid0.N, cc0_transform_5 (grid0.coords t) = ![t.val, 0])
theorem ix_6 : ∀ t : Fin cfg0.N, cc0_transform_6 (grid0.coords t) = ![0, t.val] :=
  (by decide +kernel : ∀ t : Fin grid0.N, cc0_transform_6 (grid0.coords t) = ![0, t.val])

/-- Where an entry of a block of rows lies in its array. -/
theorem place_rows (u : Fin 2 → Nat) (hu : u = ![t.val, 0]) (a : Fin 512) (d : Fin 1024) (Z : S4096x1024.Idx)
    (hZ : ∀ k, (Z k).val = u k * S512x1024.size k + ((ix2 a d : S512x1024.Idx) k).val) : Z = ix2 (row t a) d := by
  subst hu
  funext k
  apply Fin.ext
  rw [hZ]
  match k with
  | ⟨0, _⟩ => rfl
  | ⟨1, _⟩ => show 0 * 1024 + d.val = d.val; omega

theorem place_w (u : Fin 2 → Nat) (hu : u = ![0, 0]) (e d : Fin 1024) (Z : S1024x1024.Idx)
    (hZ : ∀ k, (Z k).val = u k * S1024x1024.size k + ((ix2 e d : S1024x1024.Idx) k).val) : Z = ix2 e d := by
  subst hu
  funext k
  apply Fin.ext
  rw [hZ]
  match k with
  | ⟨0, _⟩ => show 0 * 1024 + e.val = e.val; omega
  | ⟨1, _⟩ => show 0 * 1024 + d.val = d.val; omega

theorem place_g (u : Fin 2 → Nat) (hu : u = ![0, 0]) (d : Fin 1024) (Z : S1x1024.Idx)
    (hZ : ∀ k, (Z k).val = u k * S1x1024.size k + ((ix2 0 d : S1x1024.Idx) k).val) : Z = ix2 0 d := by
  subst hu
  funext k
  apply Fin.ext
  rw [hZ]
  match k with
  | ⟨0, _⟩ => rfl
  | ⟨1, _⟩ => show 0 * 1024 + d.val = d.val; omega

theorem place_cols (u : Fin 2 → Nat) (hu : u = ![0, t.val]) (d : Fin 1024) (a : Fin 512) (Z : S1024x4096.Idx)
    (hZ : ∀ k, (Z k).val = u k * S1024x512.size k + ((ix2 d a : S1024x512.Idx) k).val) : Z = ix2 d (row t a) := by
  subst hu
  funext k
  apply Fin.ext
  rw [hZ]
  match k with
  | ⟨0, _⟩ => show 0 * 1024 + d.val = d.val; omega
  | ⟨1, _⟩ => rfl

/-- The blocks a grid point reads. -/
def blockZ : FVec Ideal S512x1024 .bf16 := iblk m c 0 t
def blockW : FVec Ideal S1024x1024 .bf16 := iblk m c 1 t
def blockX : FVec Ideal S512x1024 .f32 := iblk m c 2 t
def blockG : FVec Ideal S1x1024 .f32 := iblk m c 3 t

theorem block_0 (a : Fin 512) (d : Fin 1024) : blockZ m c t (ix2 a d) = arrZ m c (ix2 (row t a) d) :=
  congrArg (arrZ m c) (place_rows t _ (ix_0 t) a d (((cfg0.win 0).blk t).view.emb (ix2 a d)) fun k => Pipeline.Window.rect_emb_val (cfg0.win 0) t _ k)

theorem block_1 (e d : Fin 1024) : blockW m c t (ix2 e d) = arrW m c (ix2 e d) :=
  congrArg (arrW m c) (place_w _ (ix_1 t) e d (((cfg0.win 1).blk t).view.emb (ix2 e d)) fun k => Pipeline.Window.rect_emb_val (cfg0.win 1) t _ k)

theorem block_2 (a : Fin 512) (d : Fin 1024) : blockX m c t (ix2 a d) = arrX m c (ix2 (row t a) d) :=
  congrArg (arrX m c) (place_rows t _ (ix_2 t) a d (((cfg0.win 2).blk t).view.emb (ix2 a d)) fun k => Pipeline.Window.rect_emb_val (cfg0.win 2) t _ k)

theorem block_3 (d : Fin 1024) : blockG m c t (ix2 0 d) = arrG m c (ix2 0 d) :=
  congrArg (arrG m c) (place_g _ (ix_3 t) d (((cfg0.win 3).blk t).view.emb (ix2 0 d)) fun k => Pipeline.Window.rect_emb_val (cfg0.win 3) t _ k)

/-- A grid point's rows of the stream. -/
theorem xn_block (a : Fin 512) (d : Fin 1024) :
    k0_pay1 (blockX m c t) (blockZ m c t) (blockW m c t) (ix2 a d) = prodX m c (ix2 (row t a) d) :=
  (pay1_at _ _ _ a d).trans ((congrArg₂ (fun x y : EReal => x + y) (block_2 m c t a d) (Finset.sum_congr (M := EReal) rfl fun e _ =>
    congrArg₂ (fun x y : EReal => x * y) (block_0 m c t a e) (block_1 m c t e d))).trans (prodX_at m c (row t a) d).symm)

/-- The norm of a grid point's rows is the norm of the array's rows. -/
theorem normed_block (a : Fin 512) (d : Fin 1024) :
    normed (fun e => k0_pay1 (F := Ideal) (blockX m c t) (blockZ m c t) (blockW m c t) (ix2 a e)) (fun e => blockG m c t (ix2 0 e)) d
      = normed (fun e => prodX m c (ix2 (row t a) e)) (fun e => (m ((c.tc : Thread nD τ).loc main_arg3) : FVec Ideal S1024 .f32) (ix1 e)) d :=
  congrArg₂ (fun v g => normed v g d) (funext fun e => xn_block m c t a e) (funext fun e => (block_3 m c t e).trans (g_at m c e))

/-- What a grid point leaves is its block of each result. -/
theorem out_4 (y : S512x1024.Idx) (Z : S4096x1024.Idx)
    (hZ : ∀ k, (Z k).val = cc0_transform_4 (grid0.coords t) k * S512x1024.size k + (y k).val) :
    out0_4 (F := Ideal) (iblk m c 0 t) (iblk m c 1 t) (iblk m c 2 t) (iblk m c 3 t) y = prodX m c Z := by
  obtain ⟨a, d, rfl⟩ : ∃ (a : Fin 512) (d : Fin 1024), y = ix2 a d := ⟨y 0, y 1, by
    funext k; match k with
    | ⟨0, _⟩ => rfl
    | ⟨1, _⟩ => rfl⟩
  rw [place_rows t _ (ix_4 t) a d Z hZ, out4_eq]
  exact xn_block m c t a d

theorem out_5 (y : S512x1024.Idx) (Z : S4096x1024.Idx)
    (hZ : ∀ k, (Z k).val = cc0_transform_5 (grid0.coords t) k * S512x1024.size k + (y k).val) :
    out0_5 (F := Ideal) (iblk m c 0 t) (iblk m c 1 t) (iblk m c 2 t) (iblk m c 3 t) y = prodH m c Z := by
  obtain ⟨a, d, rfl⟩ : ∃ (a : Fin 512) (d : Fin 1024), y = ix2 a d := ⟨y 0, y 1, by
    funext k; match k with
    | ⟨0, _⟩ => rfl
    | ⟨1, _⟩ => rfl⟩
  rw [place_rows t _ (ix_5 t) a d Z hZ, out5_eq]
  exact (pay3_at _ _ _ _ a d).trans ((normed_block m c t a d).trans (h_at _ _ (row t a) d).symm)

theorem out_6 (y : S1024x512.Idx) (Z : S1024x4096.Idx)
    (hZ : ∀ k, (Z k).val = cc0_transform_6 (grid0.coords t) k * S1024x512.size k + (y k).val) :
    out0_6 (F := Ideal) (iblk m c 0 t) (iblk m c 1 t) (iblk m c 2 t) (iblk m c 3 t) y = prodT m c Z := by
  obtain ⟨d, a, rfl⟩ : ∃ (d : Fin 1024) (a : Fin 512), y = ix2 d a := ⟨y 0, y 1, by
    funext k; match k with
    | ⟨0, _⟩ => rfl
    | ⟨1, _⟩ => rfl⟩
  rw [place_cols t _ (ix_6 t) d a Z hZ, out6_eq]
  exact (pay4_at _ _ _ _ a d).trans ((normed_block m c t a d).trans (ht_at _ _ (row t a) d).symm)

end Point

theorem cov4 : (cfg0.win 4).Covers := by decide +kernel
theorem cov5 : (cfg0.win 5).Covers := by decide +kernel
theorem cov6 : (cfg0.win 6).Covers := by decide +kernel

/-- The result arrays are the stream, its norm and the norm transposed. -/
theorem arr4 : (dats m 0 c).arrAt 4 cfg0.N = prodX m c := by
  refine Pipeline.Dat.arrAt_eq_of_covers (dats m 0 c) 4 (prodX m c) cov4 fun t hf y => ?_
  have hZ : ∀ k, ((((cfg0.win 4).blk t).view.emb y) k : ℕ) = cc0_transform_4 (grid0.coords t) k * S512x1024.size k + (y k).val :=
    fun k => Pipeline.Window.rect_emb_val (cfg0.win 4) t y k
  have h := out_4 m c t y (((cfg0.win 4).blk t).view.emb y) hZ
  rw [after0_4, cast_eq]
  exact h

theorem arr5 : (dats m 0 c).arrAt 5 cfg0.N = prodH m c := by
  refine Pipeline.Dat.arrAt_eq_of_covers (dats m 0 c) 5 (prodH m c) cov5 fun t hf y => ?_
  have hZ : ∀ k, ((((cfg0.win 5).blk t).view.emb y) k : ℕ) = cc0_transform_5 (grid0.coords t) k * S512x1024.size k + (y k).val :=
    fun k => Pipeline.Window.rect_emb_val (cfg0.win 5) t y k
  have h := out_5 m c t y (((cfg0.win 5).blk t).view.emb y) hZ
  rw [after0_5, cast_eq]
  exact h

theorem arr6 : (dats m 0 c).arrAt 6 cfg0.N = prodT m c := by
  refine Pipeline.Dat.arrAt_eq_of_covers (dats m 0 c) 6 (prodT m c) cov6 fun t hf y => ?_
  have hZ : ∀ k, ((((cfg0.win 6).blk t).view.emb y) k : ℕ) = cc0_transform_6 (grid0.coords t) k * S1024x512.size k + (y k).val :=
    fun k => Pipeline.Window.rect_emb_val (cfg0.win 6) t y k
  have h := out_6 m c t y (((cfg0.win 6).blk t).view.emb y) hZ
  rw [after0_6, cast_eq]
  exact h

end Cert.OutNorm

end
-- ==== Proof.OutSum.lean ====
module

public import proofs.«01_k».proof.Proof.Gen.Kernel8Ideal.Value
public import proofs.«01_k».proof.Proof.Gen.Reference8Ideal.Run
public import Idealize.ShloMosaic.Lib.Pointwise
public import Idealize.ShloMosaic.Lib.Claim
public import Idealize.ShloMosaic.Lib.Pipeline.ValueKit.Basic
public import Idealize.ShloMosaic.Lib.Pipeline.ValueKit.Point

@[expose] public section

set_option maxRecDepth 16384

noncomputable section

namespace Cert.OutSum

open Idealize.ShloMosaic Idealize.ShloMosaic.TcCoe Idealize.SL.Sem

/-! # The last layer's output product added to the stream -/

section ReferenceSide
open Cert.Reference8Ideal Cert.Reference8Ideal.Gen

/-- The reference's stream, of the merged branches, the output weights and the stream before. -/
def xnTerm (z : FVec Ideal S4096x1024 .f32) (w : FVec Ideal S1024x1024 .f32) (x : FVec Ideal S4096x1024 .f32) : FVec Ideal S4096x1024 .f32 :=
  addf x (Host.dotGeneral dot_S4096x1024_S1024x1024_S4096x1024_1_0_0_1_n_n none z w)

theorem xn_congr {z z' : FVec Ideal S4096x1024 .f32} {w w' : FVec Ideal S1024x1024 .f32} {x x' : FVec Ideal S4096x1024 .f32}
    (hz : z = z') (hw : w = w') (hx : x = x') : xnTerm z w x = xnTerm z' w' x' := by
  rw [hz, hw, hx]

theorem xn_at (z : FVec Ideal S4096x1024 .f32) (w : FVec Ideal S1024x1024 .f32) (x : FVec Ideal S4096x1024 .f32) (t : Fin 4096) (d : Fin 1024) :
    xnTerm z w x (ix2 t d) = (x (ix2 t d) + ∑ e : Fin 1024, (z (ix2 t e) * w (ix2 e d) : EReal) : EReal) := by
  pointwise [xnTerm]

end ReferenceSide

open Cert.Kernel8Ideal Cert.Kernel8Ideal.Gen

/-- What a grid point computes from its blocks. -/
theorem pay1_at (x : Vec Ideal S512x1024 .f32) (z : Vec Ideal S512x1024 .bf16) (w : Vec Ideal S1024x1024 .bf16) (a : Fin 512) (d : Fin 1024) :
    k0_pay1 x z w (ix2 a d) = (x (ix2 a d) + ∑ e : Fin 1024, (z (ix2 a e) * w (ix2 e d) : EReal) : EReal) := by
  pointwise [k0_pay1]

/-- The block left in the result's buffer is what the point computes. -/
theorem out3_eq (z : Vec Ideal S512x1024 .bf16) (w : Vec Ideal S1024x1024 .bf16) (x : Vec Ideal S512x1024 .f32) :
    out0_3 z w x = k0_pay1 x z w := by
  unfold out0_3
  rw [View.canon_cons_unit_lit _ _ _ (by decide), View.ld_unit_lit _ _ (by decide), View.ld_unit_lit _ _ (by decide), View.ld_unit_lit _ _ (by decide)]

variable (m : (ℓ : Loc nD τ sig) → Buf (Elt Ideal) ℓ) (c : Dev nD)

/-- The call's arguments, as it finds them. -/
def arrZ : FVec Ideal S4096x1024 .bf16 := V m c main_v0
def arrW : FVec Ideal S1024x1024 .bf16 := V m c main_v1
def arrX : FVec Ideal S4096x1024 .f32 := V m c main_arg2

theorem z_at (t : Fin 4096) (d : Fin 1024) :
    arrZ m c (ix2 t d) = (m ((c.tc : Thread nD τ).loc main_arg0) : FVec Ideal S4096x1024 .f32) (ix2 t d) := by
  unfold arrZ
  entry_read
  rfl

theorem w_at (e d : Fin 1024) :
    arrW m c (ix2 e d) = (m ((c.tc : Thread nD τ).loc main_arg1) : FVec Ideal S1024x1024 .f32) (ix2 e d) := by
  unfold arrW
  entry_read
  rfl

theorem x_at (t : Fin 4096) (d : Fin 1024) :
    arrX m c (ix2 t d) = (m ((c.tc : Thread nD τ).loc main_arg2) : FVec Ideal S4096x1024 .f32) (ix2 t d) := by
  unfold arrX
  entry_read
  rfl

/-- The stream, of the call's arguments. -/
def prodX : FVec Ideal S4096x1024 .f32 :=
  xnTerm (m ((c.tc : Thread nD τ).loc main_arg0)) (m ((c.tc : Thread nD τ).loc main_arg1)) (m ((c.tc : Thread nD τ).loc main_arg2))

theorem prodX_at (r : Fin 4096) (d : Fin 1024) :
    prodX m c (ix2 r d) = (arrX m c (ix2 r d) + ∑ e : Fin 1024, (arrZ m c (ix2 r e) * arrW m c (ix2 e d) : EReal) : EReal) := by
  unfold prodX
  exact (xn_at _ _ _ r d).trans (congrArg₂ (fun x y : EReal => x + y) (x_at m c r d).symm (Finset.sum_congr (M := EReal) rfl fun e _ =>
    congrArg₂ (fun x y : EReal => x * y) (z_at m c r e).symm (w_at m c e d).symm))

section Point

variable (t : Fin cfg0.N)

/-- A row of a grid point's block, in the array. -/
def row (a : Fin 512) : Fin 4096 := ⟨t.val * 512 + a.val, by have h : t.val < 8 := t.isLt; omega⟩

theorem ix_0 : ∀ t : Fin cfg0.N, cc0_transform_0 (grid0.coords t) = ![t.val, 0] :=
  (by decide +kernel : ∀ t : Fin grid0.N, cc0_transform_0 (grid0.coords t) = ![t.val, 0])
theorem ix_1 : ∀ t : Fin cfg0.N, cc0_transform_1 (grid0.coords t) = ![0, 0] :=
  (by decide +kernel : ∀ t : Fin grid0.N, cc0_transform_1 (grid0.coords t) = ![0, 0])
theorem ix_2 : ∀ t : Fin cfg0.N, cc0_transform_2 (grid0.coords t) = ![t.val, 0] :=
  (by decide +kernel : ∀ t : Fin grid0.N, cc0_transform_2 (grid0.coords t) = ![t.val, 0])
theorem ix_3 : ∀ t : Fin cfg0.N, cc0_transform_3 (grid0.coords t) = ![t.val, 0] :=
  (by decide +kernel : ∀ t : Fin grid0.N, cc0_transform_3 (grid0.coords t) = ![t.val, 0])

/-- Where an entry of a block of rows lies in its array. -/
theorem place_rows (u : Fin 2 → Nat) (hu : u = ![t.val, 0]) (a : Fin 512) (d : Fin 1024) (Z : S4096x1024.Idx)
    (hZ : ∀ k, (Z k).val = u k * S512x1024.size k + ((ix2 a d : S512x1024.Idx) k).val) : Z = ix2 (row t a) d := by
  subst hu
  funext k
  apply Fin.ext
  rw [hZ]
  match k with
  | ⟨0, _⟩ => rfl
  | ⟨1, _⟩ => show 0 * 1024 + d.val = d.val; omega

theorem place_w (u : Fin 2 → Nat) (hu : u = ![0, 0]) (e d : Fin 1024) (Z : S1024x1024.Idx)
    (hZ : ∀ k, (Z k).val = u k * S1024x1024.size k + ((ix2 e d : S1024x1024.Idx) k).val) : Z = ix2 e d := by
  subst hu
  funext k
  apply Fin.ext
  rw [hZ]
  match k with
  | ⟨0, _⟩ => show 0 * 1024 + e.val = e.val; omega
  | ⟨1, _⟩ => show 0 * 1024 + d.val = d.val; omega

/-- The blocks a grid point reads. -/
def blockZ : FVec Ideal S512x1024 .bf16 := iblk m c 0 t
def blockW : FVec Ideal S1024x1024 .bf16 := iblk m c 1 t
def blockX : FVec Ideal S512x1024 .f32 := iblk m c 2 t

theorem block_0 (a : Fin 512) (d : Fin 1024) : blockZ m c t (ix2 a d) = arrZ m c (ix2 (row t a) d) :=
  congrArg (arrZ m c) (place_rows t _ (ix_0 t) a d (((cfg0.win 0).blk t).view.emb (ix2 a d)) fun k => Pipeline.Window.rect_emb_val (cfg0.win 0) t _ k)

theorem block_1 (e d : Fin 1024) : blockW m c t (ix2 e d) = arrW m c (ix2 e d) :=
  congrArg (arrW m c) (place_w _ (ix_1 t) e d (((cfg0.win 1).blk t).view.emb (ix2 e d)) fun k => Pipeline.Window.rect_emb_val (cfg0.win 1) t _ k)

theorem block_2 (a : Fin 512) (d : Fin 1024) : blockX m c t (ix2 a d) = arrX m c (ix2 (row t a) d) :=
  congrArg (arrX m c) (place_rows t _ (ix_2 t) a d (((cfg0.win 2).blk t).view.emb (ix2 a d)) fun k => Pipeline.Window.rect_emb_val (cfg0.win 2) t _ k)

/-- A grid point's rows of the stream. -/
theorem xn_block (a : Fin 512) (d : Fin 1024) :
    k0_pay1 (blockX m c t) (blockZ m c t) (blockW m c t) (ix2 a d) = prodX m c (ix2 (row t a) d) :=
  (pay1_at _ _ _ a d).trans ((congrArg₂ (fun x y : EReal => x + y) (block_2 m c t a d) (Finset.sum_congr (M := EReal) rfl fun e _ =>
    congrArg₂ (fun x y : EReal => x * y) (block_0 m c t a e) (block_1 m c t e d))).trans (prodX_at m c (row t a) d).symm)

/-- What a grid point leaves is its block of the result. -/
theorem out_3 (y : S512x1024.Idx) (Z : S4096x1024.Idx)
    (hZ : ∀ k, (Z k).val = cc0_transform_3 (grid0.coords t) k * S512x1024.size k + (y k).val) :
    out0_3 (F := Ideal) (iblk m c 0 t) (iblk m c 1 t) (iblk m c 2 t) y = prodX m c Z := by
  obtain ⟨a, d, rfl⟩ : ∃ (a : Fin 512) (d : Fin 1024), y = ix2 a d := ⟨y 0, y 1, by
    funext k; match k with
    | ⟨0, _⟩ => rfl
    | ⟨1, _⟩ => rfl⟩
  rw [place_rows t _ (ix_3 t) a d Z hZ, out3_eq]
  exact xn_block m c t a d

end Point

theorem cov3 : (cfg0.win 3).Covers := by decide +kernel

/-- The result array is the stream. -/
theorem arr3 : (dats m 0 c).arrAt 3 cfg0.N = prodX m c := by
  refine Pipeline.Dat.arrAt_eq_of_covers (dats m 0 c) 3 (prodX m c) cov3 fun t hf y => ?_
  have hZ : ∀ k, ((((cfg0.win 3).blk t).view.emb y) k : ℕ) = cc0_transform_3 (grid0.coords t) k * S512x1024.size k + (y k).val :=
    fun k => Pipeline.Window.rect_emb_val (cfg0.win 3) t y k
  have h := out_3 m c t y (((cfg0.win 3).blk t).view.emb y) hZ
  rw [after0_3, cast_eq]
  exact h

end Cert.OutSum

end
-- ==== Proof.Adam.lean ====
module

public import proofs.«01_k».proof.Defs
public import proofs.«01_k».proof.Proof.Gen.Kernel9Ideal.Value
public import proofs.«01_k».proof.Proof.Gen.Reference9Ideal.Run
public import proofs.«01_k».proof.Proof.Gen.Kernel10Ideal.Value
public import proofs.«01_k».proof.Proof.Gen.Reference10Ideal.Run
public import proofs.«01_k».proof.Proof.Gen.Kernel11Ideal.Value
public import proofs.«01_k».proof.Proof.Gen.Reference11Ideal.Run
public import proofs.«01_k».proof.Proof.Gen.Kernel12Ideal.Value
public import proofs.«01_k».proof.Proof.Gen.Reference12Ideal.Run
public import proofs.«01_k».proof.Proof.Gen.Kernel13Ideal.Value
public import proofs.«01_k».proof.Proof.Gen.Reference13Ideal.Run
public import Idealize.ShloMosaic.Lib.Claim

@[expose] public section

set_option maxRecDepth 16384

noncomputable section

namespace Cert.Adam

open Idealize.ShloMosaic Idealize.ShloMosaic.TcCoe Idealize.SL.Sem

/-! # The optimiser's step

The call and the reference do the same operations in the same order, element by element. What is left
to compare is the call's result as a function of an index and the reference's as operations on arrays. -/

/-- The step of the two norms' gains. -/
theorem algebraic9 : Cert.algebraic_Kernel9Ideal_Reference9Ideal := by
  intro m g m' g' _ hagree
  refine ⟨fun c => _, fun c => _, fun c => _, Cert.Kernel9Ideal.Value.run m g, ?_⟩
  refine θ_run_mono (Cert.Reference9Ideal.Value.run m' g') fun r h c => ?_
  obtain ⟨h0, h1, h2, h3⟩ := hagree c
  refine ⟨(h c).1.trans ?_, (h c).2.1.trans ?_, (h c).2.2.1.trans ?_, (h c).2.2.2⟩
  · rw [h0, h1, h2, h3]; rfl
  · rw [h1, h2]; rfl
  · rw [h1, h3]; rfl

/-- The step of the mixer's norm and of the pooling's scale. -/
theorem algebraic10 : Cert.algebraic_Kernel10Ideal_Reference10Ideal := by
  intro m g m' g' _ hagree
  refine ⟨fun c => _, fun c => _, fun c => _, Cert.Kernel10Ideal.Value.run m g, ?_⟩
  refine θ_run_mono (Cert.Reference10Ideal.Value.run m' g') fun r h c => ?_
  obtain ⟨h0, h1, h2, h3⟩ := hagree c
  refine ⟨(h c).1.trans ?_, (h c).2.1.trans ?_, (h c).2.2.1.trans ?_, (h c).2.2.2⟩
  · rw [h0, h1, h2, h3]; rfl
  · rw [h1, h2]; rfl
  · rw [h1, h3]; rfl

/-- The step of the mixer's and of the pooling's matrices, as rows. -/
theorem algebraic11 : Cert.algebraic_Kernel11Ideal_Reference11Ideal := by
  intro m g m' g' _ hagree
  refine ⟨fun c => _, fun c => _, fun c => _, Cert.Kernel11Ideal.Value.run m g, ?_⟩
  refine θ_run_mono (Cert.Reference11Ideal.Value.run m' g') fun r h c => ?_
  obtain ⟨h0, h1, h2, h3⟩ := hagree c
  refine ⟨(h c).1.trans ?_, (h c).2.1.trans ?_, (h c).2.2.1.trans ?_, (h c).2.2.2⟩
  · rw [h0, h1, h2, h3]; rfl
  · rw [h1, h2]; rfl
  · rw [h1, h3]; rfl

/-- The step of the mixer's biases, as rows. -/
theorem algebraic12 : Cert.algebraic_Kernel12Ideal_Reference12Ideal := by
  intro m g m' g' _ hagree
  refine ⟨fun c => _, fun c => _, fun c => _, Cert.Kernel12Ideal.Value.run m g, ?_⟩
  refine θ_run_mono (Cert.Reference12Ideal.Value.run m' g') fun r h c => ?_
  obtain ⟨h0, h1, h2, h3⟩ := hagree c
  refine ⟨(h c).1.trans ?_, (h c).2.1.trans ?_, (h c).2.2.1.trans ?_, (h c).2.2.2⟩
  · rw [h0, h1, h2, h3]; rfl
  · rw [h1, h2]; rfl
  · rw [h1, h3]; rfl

/-- The step of the last norm's gain, as a row. -/
theorem algebraic13 : Cert.algebraic_Kernel13Ideal_Reference13Ideal := by
  intro m g m' g' _ hagree
  refine ⟨fun c => _, fun c => _, fun c => _, Cert.Kernel13Ideal.Value.run m g, ?_⟩
  refine θ_run_mono (Cert.Reference13Ideal.Value.run m' g') fun r h c => ?_
  obtain ⟨h0, h1, h2, h3⟩ := hagree c
  refine ⟨(h c).1.trans ?_, (h c).2.1.trans ?_, (h c).2.2.1.trans ?_, (h c).2.2.2⟩
  · rw [h0, h1, h2, h3]; rfl
  · rw [h1, h2]; rfl
  · rw [h1, h3]; rfl

end Cert.Adam

end
-- ==== Proof.LossHead.lean ====
module

public import proofs.«01_k».proof.Proof.Gen.Kernel14Ideal.Value
public import proofs.«01_k».proof.Proof.Gen.Reference14Ideal.Run
public import proofs.«01_k».proof.Proof.OutGrad

@[expose] public section

set_option maxRecDepth 16384

noncomputable section

namespace Cert.LossHead

open Idealize.ShloMosaic Idealize.ShloMosaic.TcCoe Idealize.SL.Sem
open Cert.OutGrad (row sum_rows blockOf)

/-! # The loss and the gradient of the last norm's gain -/

/-- An entry of a row divided by the root of the row's mean square. -/
def hat (v : Fin 1024 → EReal) (d : Fin 1024) : EReal :=
  v d * Ideal.rsqrt (Ideal.div (∑ e : Fin 1024, v e * v e) (Ideal.ofBits .f32 0x44800000#32) + Ideal.ofBits .f32 0x358637BD#32)

/-- How far an entry of the normed row, times a gain, lies from its target. -/
def gap (v g w : Fin 1024 → EReal) (d : Fin 1024) : EReal := hat v d * g d - w d

/-! ## Constants -/

theorem half_word : Ideal.ofBits .f32 0x3F000000#32 = ((1 / 2 : ℝ) : EReal) := by
  simp [Ideal.ofBits, Ideal.ieee, -EReal.coe_mul]; norm_num
theorem one_word : Ideal.ofBits .f32 0x3F800000#32 = ((1 : ℝ) : EReal) := by
  simp [Ideal.ofBits, Ideal.ieee, -EReal.coe_mul]; norm_num
theorem two_word : Ideal.ofBits .f32 0x40000000#32 = ((2 : ℝ) : EReal) := by
  simp [Ideal.ofBits, Ideal.ieee, -EReal.coe_mul]; norm_num
theorem width_word : Ideal.ofBits .f32 0x44800000#32 = ((1024 : ℝ) : EReal) := by
  simp [Ideal.ofBits, Ideal.ieee, -EReal.coe_mul]; norm_num
theorem part_word : Ideal.ofBits .f32 0x3A800000#32 = ((1 / 1024 : ℝ) : EReal) := by
  simp [Ideal.ofBits, Ideal.ieee, -EReal.coe_mul]; norm_num
theorem half_part_word : Ideal.ofBits .f32 0x3A000000#32 = ((1 / 2048 : ℝ) : EReal) := by
  simp [Ideal.ofBits, Ideal.ieee, -EReal.coe_mul]; norm_num

/-- A positive real number times a sum. -/
theorem real_mul_add (r : ℝ) (hr : 0 < r) (x y : EReal) : (r : EReal) * (x + y) = r * x + r * y := by
  exact EReal.left_distrib_of_nonneg_of_ne_top (by exact_mod_cast hr.le) (EReal.coe_ne_top r) x y

theorem real_mul_sum {ι : Type} (s : Finset ι) (r : ℝ) (hr : 0 < r) (f : ι → EReal) : (r : EReal) * ∑ i ∈ s, f i = ∑ i ∈ s, (r : EReal) * f i := by
  classical
  induction s using Finset.induction_on with
  | empty => simp
  | insert a s ha ih => rw [Finset.sum_insert ha, Finset.sum_insert ha, real_mul_add r hr, ih]

/-- The factors of the two gradients come to the same. -/
theorem gain_factor (h u : EReal) : h * (Ideal.div (Ideal.ofBits .f32 0x3F000000#32 * Ideal.ofBits .f32 0x3F800000#32) (Ideal.ofBits .f32 0x44800000#32)
    * (Ideal.ofBits .f32 0x40000000#32 * u)) = u * Ideal.ofBits .f32 0x3A800000#32 * h := by
  have e : ((1 / 2 : ℝ) : EReal) * ((1 : ℝ) : EReal) * ((1 / 1024 : ℝ) : EReal) * ((2 : ℝ) : EReal) = ((1 / 1024 : ℝ) : EReal) := by
    rw [← EReal.coe_mul, ← EReal.coe_mul, ← EReal.coe_mul]
    norm_num
  rw [half_word, one_word, width_word, two_word, part_word, Ideal.div_coe (by norm_num), ← mul_assoc (((1 / 2 : ℝ) : EReal) * _ * _), e, mul_comm h, mul_comm u]

/-- Half the sum of the rows' means is the sum of all, times the one factor. -/
theorem loss_factor (s : Fin 4096 → EReal) : Ideal.ofBits .f32 0x3F000000#32 * ∑ t : Fin 4096, Ideal.div (s t) (Ideal.ofBits .f32 0x44800000#32)
    = (∑ t : Fin 4096, s t) * Ideal.ofBits .f32 0x3A000000#32 := by
  have e : ((1 / 2 : ℝ) : EReal) * ((1 / 1024 : ℝ) : EReal) = ((1 / 2048 : ℝ) : EReal) := by
    rw [← EReal.coe_mul]
    norm_num
  rw [half_word, width_word, half_part_word, mul_comm (∑ t : Fin 4096, s t), real_mul_sum _ _ (by norm_num), real_mul_sum _ _ (by norm_num)]
  refine Finset.sum_congr rfl fun t _ => ?_
  rw [Ideal.div_coe (by norm_num), mul_comm (s t), ← mul_assoc, e]

section ReferenceSide
open Cert.Reference14Ideal Cert.Reference14Ideal.Gen

/-- The reference's normed rows, and how far they lie from the target. -/
def hatTerm (x : FVec Ideal S4096x1024 .f32) : FVec Ideal S4096x1024 .f32 :=
  mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))
def gapTerm (x w : FVec Ideal S4096x1024 .f32) (g : FVec Ideal S1024 .f32) : FVec Ideal S4096x1024 .f32 :=
  subf (mulf (hatTerm x) (broadcastInDim S4096x1024 ![0, 1] bcast_S1x1024_S4096x1024_0_1 (broadcastInDim S1x1024 ![1] bcast_S1024_S1x1024_1 g))) w

/-- The reference's two results, of the normed rows and of their distance from the target. -/
def gainOf (h u : FVec Ideal S4096x1024 .f32) : FVec Ideal S1x1024 .f32 :=
  broadcastInDim S1x1024 ![1] bcast_S1024_S1x1024_1 (Host.reduceAdd (shapeCast _ (Host.reduceAdd (mulf h (mulf (broadcastInDim S4096x1024 ![0] bcast_S4096_S4096x1024_0 (Host.divf (broadcastInDim S4096 ![] bcast_S_S4096 (mulf (constant S_ .f32 0x3F000000#32) (constant S_ .f32 0x3F800000#32))) (broadcastInDim S4096 ![] bcast_S_S4096 (constant S_ .f32 0x44800000#32)))) (mulf (broadcastInDim S4096x1024 ![] bcast_S_S4096x1024 (constant S_ .f32 0x40000000#32)) u))) (constant S_ .f32 0x00000000#32) reducesTo_S4096x1024_S1024_d0 h_S_) shapeCasts_S1024_S1x1024) (constant S_ .f32 0x00000000#32) reducesTo_S1x1024_S1024_d0 h_S_)
def lossOf (u : FVec Ideal S4096x1024 .f32) : FVec Ideal S1x1024 .f32 :=
  broadcastInDim S1x1024 ![] bcast_S_S1x1024 (mulf (constant S_ .f32 0x3F000000#32) (Host.reduceAdd (Host.divf (Host.reduceAdd (mulf u u) (constant S_ .f32 0x00000000#32) reducesTo_S4096x1024_S4096_d1 h_S_) (broadcastInDim S4096 ![] bcast_S_S4096 (constant S_ .f32 0x44800000#32))) (constant S_ .f32 0x00000000#32) reducesTo_S4096_S_d0 h_S_))

theorem hat_at (x : FVec Ideal S4096x1024 .f32) (t : Fin 4096) (d : Fin 1024) : hatTerm x (ix2 t d) = hat (fun e => x (ix2 t e)) d := by
  unfold hat
  pointwise [hatTerm]

theorem gap_at (x w : FVec Ideal S4096x1024 .f32) (g : FVec Ideal S1024 .f32) (t : Fin 4096) (d : Fin 1024) :
    gapTerm x w g (ix2 t d) = gap (fun e => x (ix2 t e)) (fun e => g (ix1 e)) (fun e => w (ix2 t e)) d := by
  unfold gap
  rw [← hat_at]
  unfold gapTerm
  generalize hatTerm x = h
  pointwise []

theorem gain_at (h u : FVec Ideal S4096x1024 .f32) (d : Fin 1024) :
    gainOf h u (ix2 0 d) = ∑ t : Fin 4096, (h (ix2 t d) * (Ideal.div (Ideal.ofBits .f32 0x3F000000#32 * Ideal.ofBits .f32 0x3F800000#32) (Ideal.ofBits .f32 0x44800000#32)
      * (Ideal.ofBits .f32 0x40000000#32 * u (ix2 t d))) : EReal) := by
  pointwise [gainOf]
  exact Fin.sum_univ_one _

theorem loss_at (u : FVec Ideal S4096x1024 .f32) (d : Fin 1024) :
    lossOf u (ix2 0 d) = (Ideal.ofBits .f32 0x3F000000#32 * ∑ t : Fin 4096, Ideal.div (∑ e : Fin 1024, (u (ix2 t e) * u (ix2 t e) : EReal)) (Ideal.ofBits .f32 0x44800000#32) : EReal) := by
  pointwise [lossOf]

theorem gain_congr {x x' w w' : FVec Ideal S4096x1024 .f32} {g g' : FVec Ideal S1024 .f32} (hx : x = x') (hw : w = w') (hg : g = g') :
    gainOf (hatTerm x) (gapTerm x w g) = gainOf (hatTerm x') (gapTerm x' w' g') := by
  rw [hx, hw, hg]
theorem loss_congr {x x' w w' : FVec Ideal S4096x1024 .f32} {g g' : FVec Ideal S1024 .f32} (hx : x = x') (hw : w = w') (hg : g = g') :
    lossOf (gapTerm x w g) = lossOf (gapTerm x' w' g') := by
  rw [hx, hw, hg]

end ReferenceSide

open Cert.Kernel14Ideal Cert.Kernel14Ideal.Gen

/-- What a grid point computes from its blocks. -/
theorem pay5_at (x : Vec Ideal S512x1024 .f32) (a : Fin 512) (d : Fin 1024) : k0_pay5 x (ix2 a d) = hat (fun e => x (ix2 a e)) d := by
  unfold hat
  pointwise [k0_pay5, k0_pay4]

theorem pay7_at (x : Vec Ideal S512x1024 .f32) (g : Vec Ideal S1x1024 .f32) (w : Vec Ideal S512x1024 .f32) (a : Fin 512) (d : Fin 1024) :
    k0_pay7 x g w (ix2 a d) = gap (fun e => x (ix2 a e)) (fun e => g (ix2 0 e)) (fun e => w (ix2 a e)) d := by
  unfold gap
  rw [← pay5_at]
  unfold k0_pay7 k0_pay6
  generalize k0_pay5 x = h
  pointwise []

theorem pay10_at (x : Vec Ideal S512x1024 .f32) (g : Vec Ideal S1x1024 .f32) (w : Vec Ideal S512x1024 .f32) (d : Fin 1024) :
    k0_pay10 x g w (ix2 0 d) = ∑ a : Fin 512, (k0_pay7 x g w (ix2 a d) * Ideal.ofBits .f32 0x3A800000#32 * k0_pay5 x (ix2 a d) : EReal) := by
  unfold k0_pay10 k0_pay8
  generalize k0_pay7 x g w = u
  generalize k0_pay5 x = h
  pointwise []

theorem pay11_at (x : Vec Ideal S512x1024 .f32) (g : Vec Ideal S1x1024 .f32) (w : Vec Ideal S512x1024 .f32) (d : Fin 1024) :
    k0_pay11 x g w (ix2 0 d) = ∑ a : Fin 512, (k0_pay7 x g w (ix2 a d) * k0_pay7 x g w (ix2 a d) : EReal) := by
  unfold k0_pay11
  generalize k0_pay7 x g w = u
  pointwise []

theorem pay1_at (p v : Vec Ideal S1x1024 .f32) (d : Fin 1024) : k0_pay1 p v (ix2 0 d) = (v (ix2 0 d) + p (ix2 0 d) : EReal) := by
  pointwise [k0_pay1]
theorem pay2_at (p v : Vec Ideal S1x1024 .f32) (d : Fin 1024) : k0_pay2 p v (ix2 0 d) = (v (ix2 0 d) + p (ix2 0 d) : EReal) := by
  pointwise [k0_pay2]
theorem pay3_at (v : Vec Ideal S1x1024 .f32) (d : Fin 1024) :
    k0_pay3 v (ix2 0 d) = ((∑ e : Fin 1024, (v (ix2 0 e) : EReal)) * Ideal.ofBits .f32 0x3A000000#32 : EReal) := by
  pointwise [k0_pay3]

variable (m : (ℓ : Loc nD τ sig) → Buf (Elt Ideal) ℓ) (c : Dev nD)

theorem outs_first (t : Fin cfg0.N) (h0 : t.val % 8 = 0) (h1 : ¬1 ≤ t.val) (h2 : ¬t.val % 8 = 7) :
    (outsAt0 m c t.val t.isLt).2.1 = k0_pay10 (F := Ideal) (iblk m c 0 t) (iblk m c 2 t) (iblk m c 1 t)
      ∧ (outsAt0 m c t.val t.isLt).2.2 = k0_pay11 (F := Ideal) (iblk m c 0 t) (iblk m c 2 t) (iblk m c 1 t) := by
  rw [outsAt0_A m c t h0 h1 h2]
  constructor
  · frame_out
  · frame_out

theorem outs_next (t : Fin cfg0.N) (h0 : ¬t.val % 8 = 0) (h1 : 1 ≤ t.val) (h2 : ¬t.val % 8 = 7) :
    (outsAt0 m c t.val t.isLt).2.1
        = k0_pay1 (F := Ideal) (k0_pay10 (F := Ideal) (iblk m c 0 t) (iblk m c 2 t) (iblk m c 1 t)) (outsAt0 m c (t.val - 1) (Nat.lt_of_le_of_lt (Nat.sub_le _ _) t.isLt)).2.1
      ∧ (outsAt0 m c t.val t.isLt).2.2
        = k0_pay2 (F := Ideal) (k0_pay11 (F := Ideal) (iblk m c 0 t) (iblk m c 2 t) (iblk m c 1 t)) (outsAt0 m c (t.val - 1) (Nat.lt_of_le_of_lt (Nat.sub_le _ _) t.isLt)).2.2 := by
  rw [outsAt0_B m c t h0 h1 h2]
  constructor
  · frame_out
  · frame_out

theorem outs_last (t : Fin cfg0.N) (h0 : ¬t.val % 8 = 0) (h1 : 1 ≤ t.val) (h2 : t.val % 8 = 7) :
    (outsAt0 m c t.val t.isLt).2.1
        = k0_pay1 (F := Ideal) (k0_pay10 (F := Ideal) (iblk m c 0 t) (iblk m c 2 t) (iblk m c 1 t)) (outsAt0 m c (t.val - 1) (Nat.lt_of_le_of_lt (Nat.sub_le _ _) t.isLt)).2.1
      ∧ (outsAt0 m c t.val t.isLt).2.2
        = k0_pay3 (F := Ideal) (k0_pay2 (F := Ideal) (k0_pay11 (F := Ideal) (iblk m c 0 t) (iblk m c 2 t) (iblk m c 1 t)) (outsAt0 m c (t.val - 1) (Nat.lt_of_le_of_lt (Nat.sub_le _ _) t.isLt)).2.2) := by
  rw [outsAt0_C m c t h0 h1 h2]
  constructor
  · frame_out
  · frame_out

/-- The stream, the target and the gain, as the call finds them. -/
def arrX : FVec Ideal S4096x1024 .f32 := V m c main_arg0
def arrT : FVec Ideal S4096x1024 .f32 := V m c main_arg1
def arrG : FVec Ideal S1x1024 .f32 := V m c main_v0

theorem x_at (t : Fin 4096) (d : Fin 1024) :
    arrX m c (ix2 t d) = (m ((c.tc : Thread nD τ).loc main_arg0) : FVec Ideal S4096x1024 .f32) (ix2 t d) := by
  unfold arrX
  entry_read
  rfl

theorem t_at (t : Fin 4096) (d : Fin 1024) :
    arrT m c (ix2 t d) = (m ((c.tc : Thread nD τ).loc main_arg1) : FVec Ideal S4096x1024 .f32) (ix2 t d) := by
  unfold arrT
  entry_read
  rfl

theorem g_at (d : Fin 1024) :
    arrG m c (ix2 0 d) = (m ((c.tc : Thread nD τ).loc main_arg2) : FVec Ideal S1024 .f32) (ix1 d) := by
  unfold arrG
  entry_read
  pointwise []

/-- The normed rows and their distance from the target, of the arrays. -/
def hats (t : Fin 4096) (d : Fin 1024) : EReal := hat (fun e => arrX m c (ix2 t e)) d
def gaps (t : Fin 4096) (d : Fin 1024) : EReal := gap (fun e => arrX m c (ix2 t e)) (fun e => arrG m c (ix2 0 e)) (fun e => arrT m c (ix2 t e)) d

/-- A block of rows' part of an entry of the gain's gradient, and of a column's sum of squares. -/
def partG (d : Fin 1024) (q : Fin 8) : EReal := ∑ e : Fin 512, (gaps m c (row q e) d * Ideal.ofBits .f32 0x3A800000#32 * hats m c (row q e) d : EReal)
def partL (d : Fin 1024) (q : Fin 8) : EReal := ∑ e : Fin 512, (gaps m c (row q e) d * gaps m c (row q e) d : EReal)

/-- The reference's normed rows and distances, of the call's arguments, and its two results. -/
def refH : FVec Ideal S4096x1024 .f32 := hatTerm (m ((c.tc : Thread nD τ).loc main_arg0))
def refU : FVec Ideal S4096x1024 .f32 :=
  gapTerm (m ((c.tc : Thread nD τ).loc main_arg0)) (m ((c.tc : Thread nD τ).loc main_arg1)) (m ((c.tc : Thread nD τ).loc main_arg2))
def prodG : FVec Ideal S1x1024 .f32 := gainOf (refH m c) (refU m c)
def prodL : FVec Ideal S1x1024 .f32 := lossOf (refU m c)

theorem refH_at (t : Fin 4096) (d : Fin 1024) : refH m c (ix2 t d) = hats m c t d :=
  (hat_at _ t d).trans (congrArg (fun v => hat v d) (funext fun e => (x_at m c t e).symm))

theorem refU_at (t : Fin 4096) (d : Fin 1024) : refU m c (ix2 t d) = gaps m c t d := by
  refine (gap_at _ _ _ t d).trans ?_
  unfold gaps
  rw [funext fun e => x_at m c t e, funext fun e => t_at m c t e, funext fun e => g_at m c e]

theorem prodG_at (d : Fin 1024) : prodG m c (ix2 0 d) = ∑ q : Fin 8, partG m c d q := by
  refine (gain_at _ _ d).trans ?_
  refine (Finset.sum_congr (M := EReal) rfl fun t _ => ?_).trans
    (sum_rows fun t => (gaps m c t d * Ideal.ofBits .f32 0x3A800000#32 * hats m c t d : EReal))
  rw [gain_factor, refH_at, refU_at]

theorem prodL_at (d : Fin 1024) : prodL m c (ix2 0 d) = ((∑ e : Fin 1024, ∑ q : Fin 8, partL m c e q) * Ideal.ofBits .f32 0x3A000000#32 : EReal) := by
  refine (loss_at _ d).trans ((loss_factor _).trans (congrArg (fun s : EReal => s * Ideal.ofBits .f32 0x3A000000#32) ?_))
  rw [Finset.sum_comm]
  refine Finset.sum_congr rfl fun e _ => ?_
  refine (Finset.sum_congr (M := EReal) rfl fun t _ => ?_).trans (sum_rows fun t => (gaps m c t e * gaps m c t e : EReal))
  rw [refU_at]

section Point

variable (t : Fin cfg0.N)

theorem ix_0 : ∀ t : Fin cfg0.N, cc0_transform_0 (grid0.coords t) = ![t.val % 8, 0] :=
  (by decide +kernel : ∀ t : Fin grid0.N, cc0_transform_0 (grid0.coords t) = ![t.val % 8, 0])
theorem ix_1 : ∀ t : Fin cfg0.N, cc0_transform_1 (grid0.coords t) = ![t.val % 8, 0] :=
  (by decide +kernel : ∀ t : Fin grid0.N, cc0_transform_1 (grid0.coords t) = ![t.val % 8, 0])
theorem ix_2 : ∀ t : Fin cfg0.N, cc0_transform_2 (grid0.coords t) = ![0, 0] :=
  (by decide +kernel : ∀ t : Fin grid0.N, cc0_transform_2 (grid0.coords t) = ![0, 0])
theorem ix_4 : ∀ t : Fin cfg0.N, cc0_transform_4 (grid0.coords t) = ![0, 0] :=
  (by decide +kernel : ∀ t : Fin grid0.N, cc0_transform_4 (grid0.coords t) = ![0, 0])
theorem ix_5 : ∀ t : Fin cfg0.N, cc0_transform_5 (grid0.coords t) = ![0, 0] :=
  (by decide +kernel : ∀ t : Fin grid0.N, cc0_transform_5 (grid0.coords t) = ![0, 0])

theorem place_rows (u : Fin 2 → Nat) (hu : u = ![t.val % 8, 0]) (e : Fin 512) (d : Fin 1024) (Z : S4096x1024.Idx)
    (hZ : ∀ k, (Z k).val = u k * S512x1024.size k + ((ix2 e d : S512x1024.Idx) k).val) : Z = ix2 (row (blockOf t.val) e) d := by
  subst hu
  funext k
  apply Fin.ext
  rw [hZ]
  match k with
  | ⟨0, _⟩ => rfl
  | ⟨1, _⟩ => show 0 * 1024 + d.val = d.val; omega

theorem place_g (u : Fin 2 → Nat) (hu : u = ![0, 0]) (d : Fin 1024) (Z : S1x1024.Idx)
    (hZ : ∀ k, (Z k).val = u k * S1x1024.size k + ((ix2 0 d : S1x1024.Idx) k).val) : Z = ix2 0 d := by
  subst hu
  funext k
  apply Fin.ext
  rw [hZ]
  match k with
  | ⟨0, _⟩ => rfl
  | ⟨1, _⟩ => show 0 * 1024 + d.val = d.val; omega

/-- The blocks a grid point reads. -/
def blockX : FVec Ideal S512x1024 .f32 := iblk m c 0 t
def blockT : FVec Ideal S512x1024 .f32 := iblk m c 1 t
def blockG : FVec Ideal S1x1024 .f32 := iblk m c 2 t

theorem block_0 (e : Fin 512) (d : Fin 1024) : blockX m c t (ix2 e d) = arrX m c (ix2 (row (blockOf t.val) e) d) :=
  congrArg (arrX m c) (place_rows t _ (ix_0 t) e d (((cfg0.win 0).blk t).view.emb (ix2 e d)) fun k => Pipeline.Window.rect_emb_val (cfg0.win 0) t _ k)

theorem block_1 (e : Fin 512) (d : Fin 1024) : blockT m c t (ix2 e d) = arrT m c (ix2 (row (blockOf t.val) e) d) :=
  congrArg (arrT m c) (place_rows t _ (ix_1 t) e d (((cfg0.win 1).blk t).view.emb (ix2 e d)) fun k => Pipeline.Window.rect_emb_val (cfg0.win 1) t _ k)

theorem block_2 (d : Fin 1024) : blockG m c t (ix2 0 d) = arrG m c (ix2 0 d) :=
  congrArg (arrG m c) (place_g _ (ix_2 t) d (((cfg0.win 2).blk t).view.emb (ix2 0 d)) fun k => Pipeline.Window.rect_emb_val (cfg0.win 2) t _ k)

theorem hat_block (e : Fin 512) (d : Fin 1024) : k0_pay5 (F := Ideal) (blockX m c t) (ix2 e d) = hats m c (row (blockOf t.val) e) d :=
  (pay5_at _ e d).trans (congrArg (fun v => hat v d) (funext fun f => block_0 m c t e f))

theorem gap_block (e : Fin 512) (d : Fin 1024) :
    k0_pay7 (F := Ideal) (blockX m c t) (blockG m c t) (blockT m c t) (ix2 e d) = gaps m c (row (blockOf t.val) e) d := by
  refine (pay7_at _ _ _ e d).trans ?_
  unfold gaps
  rw [funext fun f => block_0 m c t e f, funext fun f => block_1 m c t e f, funext fun f => block_2 m c t f]

/-- What a grid point adds to the two buffers is its block's part. -/
theorem gain_block (d : Fin 1024) : k0_pay10 (F := Ideal) (blockX m c t) (blockG m c t) (blockT m c t) (ix2 0 d) = partG m c d (blockOf t.val) := by
  refine (pay10_at _ _ _ d).trans (Finset.sum_congr (M := EReal) rfl fun e _ => ?_)
  rw [gap_block, hat_block]

theorem loss_block (d : Fin 1024) : k0_pay11 (F := Ideal) (blockX m c t) (blockG m c t) (blockT m c t) (ix2 0 d) = partL m c d (blockOf t.val) := by
  refine (pay11_at _ _ _ d).trans (Finset.sum_congr (M := EReal) rfl fun e _ => ?_)
  rw [gap_block]

end Point

/-- Before the last grid point the two buffers hold the parts of the blocks read so far. -/
theorem carried_at (n : Nat) : ∀ (hn : n < cfg0.N) (_ : n < 7) (d : Fin 1024),
    ((outsAt0 m c n hn).2.1 : FVec Ideal S1x1024 .f32) (ix2 0 d) = ∑ k ∈ Finset.range (n + 1), partG m c d (blockOf k)
      ∧ ((outsAt0 m c n hn).2.2 : FVec Ideal S1x1024 .f32) (ix2 0 d) = ∑ k ∈ Finset.range (n + 1), partL m c d (blockOf k) := by
  induction n with
  | zero =>
    intro hn _ d
    have h := outs_first m c ⟨0, hn⟩ rfl (by show ¬1 ≤ 0; decide) (by show ¬0 % 8 = 7; decide)
    rw [h.1, h.2]
    exact ⟨(gain_block m c ⟨0, hn⟩ d).trans (Finset.sum_range_one (fun k => partG m c d (blockOf k))).symm,
      (loss_block m c ⟨0, hn⟩ d).trans (Finset.sum_range_one (fun k => partL m c d (blockOf k))).symm⟩
  | succ n ih =>
    intro hn h7 d
    have h := outs_next m c ⟨n + 1, hn⟩ (by show ¬(n + 1) % 8 = 0; omega) (by show 1 ≤ n + 1; omega) (by show ¬(n + 1) % 8 = 7; omega)
    have hi := ih (Nat.lt_of_succ_lt hn) (by omega) d
    rw [h.1, h.2, Finset.sum_range_succ (fun k => partG m c d (blockOf k)) (n + 1), Finset.sum_range_succ (fun k => partL m c d (blockOf k)) (n + 1)]
    exact ⟨(pay1_at _ _ d).trans (congrArg₂ (fun x y : EReal => x + y) hi.1 (gain_block m c ⟨n + 1, hn⟩ d)),
      (pay2_at _ _ d).trans (congrArg₂ (fun x y : EReal => x + y) hi.2 (loss_block m c ⟨n + 1, hn⟩ d))⟩

/-- All the parts, block by block. -/
theorem all_parts (f : Fin 8 → EReal) : (∑ k ∈ Finset.range 7, f (blockOf k)) + f (blockOf 7) = ∑ q : Fin 8, f q := by
  rw [← Finset.sum_range_succ (fun k => f (blockOf k)) 7, Finset.sum_range]
  exact Finset.sum_congr rfl fun q _ => congrArg f (Fin.ext (Nat.mod_eq_of_lt q.isLt))

/-- The last grid point leaves the gradient and the loss. -/
theorem last_at (n : Nat) (hn : n < cfg0.N) (h7 : n = 7) (d : Fin 1024) :
    ((outsAt0 m c n hn).2.1 : FVec Ideal S1x1024 .f32) (ix2 0 d) = prodG m c (ix2 0 d)
      ∧ ((outsAt0 m c n hn).2.2 : FVec Ideal S1x1024 .f32) (ix2 0 d) = prodL m c (ix2 0 d) := by
  subst h7
  have h := outs_last m c ⟨7, hn⟩ (by show ¬7 % 8 = 0; decide) (by show 1 ≤ 7; decide) (by show 7 % 8 = 7; decide)
  have hc := carried_at m c 6 (Nat.lt_of_succ_lt hn) (by decide)
  rw [h.1, h.2, prodG_at, prodL_at]
  refine ⟨(pay1_at _ _ d).trans ((congrArg₂ (fun x y : EReal => x + y) (hc d).1 (gain_block m c ⟨7, hn⟩ d)).trans (all_parts _)),
    (pay3_at _ d).trans (congrArg (fun s : EReal => s * Ideal.ofBits .f32 0x3A000000#32) (Finset.sum_congr (M := EReal) rfl fun e _ => ?_))⟩
  exact (pay2_at _ _ e).trans ((congrArg₂ (fun x y : EReal => x + y) (hc e).2 (loss_block m c ⟨7, hn⟩ e)).trans (all_parts _))

theorem flush_4 : ∀ t : Fin cfg0.N, (cfg0.win 4).flush t = true → t.val = 7 :=
  (by decide +kernel : ∀ t : Fin grid0.N, (cfg0.win 4).flush t = true → t.val = 7)
theorem flush_5 : ∀ t : Fin cfg0.N, (cfg0.win 5).flush t = true → t.val = 7 :=
  (by decide +kernel : ∀ t : Fin grid0.N, (cfg0.win 5).flush t = true → t.val = 7)

theorem out_at (t : Fin cfg0.N) (ht : t.val = 7) (u : Fin 2 → Nat) (hu : u = ![0, 0]) (y Z : S1x1024.Idx)
    (hZ : ∀ k, (Z k).val = u k * S1x1024.size k + (y k).val) :
    ((outsAt0 m c t.val t.isLt).2.1 : FVec Ideal S1x1024 .f32) y = prodG m c Z ∧ ((outsAt0 m c t.val t.isLt).2.2 : FVec Ideal S1x1024 .f32) y = prodL m c Z := by
  obtain ⟨d, rfl⟩ : ∃ d : Fin 1024, y = ix2 0 d := ⟨y 1, by
    funext k; match k with
    | ⟨0, _⟩ => exact Fin.ext (show (y 0).val = 0 from Nat.lt_one_iff.mp (y 0).isLt)
    | ⟨1, _⟩ => rfl⟩
  rw [place_g u hu d Z hZ]
  exact last_at m c t.val t.isLt ht d

theorem cov4 : (cfg0.win 4).Covers := by decide +kernel
theorem cov5 : (cfg0.win 5).Covers := by decide +kernel

/-- The result arrays are the gradient of the gain and the loss. -/
theorem arr4 : (dats m 0 c).arrAt 4 cfg0.N = prodG m c := by
  refine Pipeline.Dat.arrAt_eq_of_covers (dats m 0 c) 4 (prodG m c) cov4 fun t hf y => ?_
  have hZ : ∀ k, ((((cfg0.win 4).blk t).view.emb y) k : ℕ) = cc0_transform_4 (grid0.coords t) k * S1x1024.size k + (y k).val :=
    fun k => Pipeline.Window.rect_emb_val (cfg0.win 4) t y k
  have h := (out_at m c t (flush_4 t hf) _ (ix_4 t) y (((cfg0.win 4).blk t).view.emb y) hZ).1
  rw [after0_4, cast_eq]
  exact h

theorem arr5 : (dats m 0 c).arrAt 5 cfg0.N = prodL m c := by
  refine Pipeline.Dat.arrAt_eq_of_covers (dats m 0 c) 5 (prodL m c) cov5 fun t hf y => ?_
  have hZ : ∀ k, ((((cfg0.win 5).blk t).view.emb y) k : ℕ) = cc0_transform_5 (grid0.coords t) k * S1x1024.size k + (y k).val :=
    fun k => Pipeline.Window.rect_emb_val (cfg0.win 5) t y k
  have h := (out_at m c t (flush_5 t hf) _ (ix_5 t) y (((cfg0.win 5).blk t).view.emb y) hZ).2
  rw [after0_5, cast_eq]
  exact h

end Cert.LossHead

end
-- ==== Proof.lean ====
/- The claims about the gradient of the dilated attention, the input projection and its two gradients, the merge of the
   branches, and the output projection with its norm and its gradients: the frames are the generated runs, and the values are
   compared in Proof/Ends.lean, Proof/WeightGrad.lean, Proof/InputGrad.lean, Proof/Forward.lean, Proof/OutGrad.lean,
   Proof/Merge.lean, Proof/OutNorm.lean and the modules that they import. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel2.Frame
public import proofs.«01_k».proof.Proof.Gen.Kernel2Ideal.Frame
public import proofs.«01_k».proof.Proof.Gen.Kernel3.Frame
public import proofs.«01_k».proof.Proof.Gen.Kernel3Ideal.Frame
public import proofs.«01_k».proof.Proof.Gen.Kernel4.Frame
public import proofs.«01_k».proof.Proof.Gen.Kernel4Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel5.Frame
public import proofs.«01_k».proof.Proof.Gen.Kernel5Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel6.Frame
public import proofs.«01_k».proof.Proof.Gen.Kernel6Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel7.Frame
public import proofs.«01_k».proof.Proof.Gen.Kernel7Ideal.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel8.Frame
public import proofs.«01_k».proof.Proof.Gen.Kernel8Ideal.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel9.Frame
public import proofs.«01_k».proof.Proof.Gen.Kernel9Ideal.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel10.Frame
public import proofs.«01_k».proof.Proof.Gen.Kernel10Ideal.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel11.Frame
public import proofs.«01_k».proof.Proof.Gen.Kernel11Ideal.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel12.Frame
public import proofs.«01_k».proof.Proof.Gen.Kernel12Ideal.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel13.Frame
public import proofs.«01_k».proof.Proof.Gen.Kernel13Ideal.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel14.Frame
public import proofs.«01_k».proof.Proof.Gen.Kernel14Ideal.Frame
public import proofs.«01_k».proof.Proof.Ends
public import proofs.«01_k».proof.Proof.Forward
public import proofs.«01_k».proof.Proof.WeightGrad
public import proofs.«01_k».proof.Proof.InputGrad
public import proofs.«01_k».proof.Proof.OutGrad
public import proofs.«01_k».proof.Proof.Merge
public import proofs.«01_k».proof.Proof.OutNorm
public import proofs.«01_k».proof.Proof.OutSum
public import proofs.«01_k».proof.Proof.Adam
public import proofs.«01_k».proof.Proof.LossHead
public import Idealize.ShloMosaic.Adequacy
public import Idealize.ShloMosaic.Init
public import Idealize.ShloMosaic.Lib.Quiescent

@[expose] public section

noncomputable section

namespace Cert.Proof

open Idealize.ShloMosaic Idealize.SL.Sem

/-- The reference leaves its arguments as they were, and has no counter. -/
theorem reference_frame : Cert.quiescent_ReferenceIdeal := fun m g _ =>
  θ_run_mono (Cert.ReferenceIdeal.Value.run m g) fun r h =>
    ⟨fun c => (h c).2.2.2, sem_eq_zero_of_no_sems rfl r.2⟩

/-- From the same finite arguments the call and the reference end with the same three gradients. -/
theorem algebraic : Cert.algebraic_KernelIdeal_ReferenceIdeal_pre_finite := by
  intro m g m' g' hpre hagree
  choose x G using Cert.Attn.given_of_finite m hpre
  exact ⟨fun c => Cert.Attn.byRows (Cert.Attn.gq (x c)), fun c => Cert.Attn.byRows (Cert.Attn.gk (x c)), fun c => Cert.Attn.byRows (Cert.Attn.gv (x c)),
    Cert.Attn.kernel_end m g x G,
    Cert.Attn.reference_end g' x fun c => match hagree c with
      | ⟨h0, h1, h2, h3, h4, h5, h6, h7⟩ => ⟨h0.trans (G c).a0, h1.trans (G c).a1, h2.trans (G c).a2, h3.trans (G c).a3, h4.trans (G c).a4,
          h5.trans (G c).a5, h6.trans (G c).a6, h7.trans (G c).a7⟩⟩

theorem reference2_frame : Cert.quiescent_Reference2Ideal := fun m g _ =>
  θ_run_mono (Cert.Reference2Ideal.Value.run m g) fun r h => ⟨fun c => (h c).2, sem_eq_zero_of_no_sems rfl r.2⟩
theorem reference3_frame : Cert.quiescent_Reference3Ideal := fun m g _ =>
  θ_run_mono (Cert.Reference3Ideal.Value.run m g) fun r h => ⟨fun c => (h c).2, sem_eq_zero_of_no_sems rfl r.2⟩
theorem reference4_frame : Cert.quiescent_Reference4Ideal := fun m g _ =>
  θ_run_mono (Cert.Reference4Ideal.Value.run m g) fun r h => ⟨fun c => (h c).2, sem_eq_zero_of_no_sems rfl r.2⟩

theorem reference5_frame : Cert.quiescent_Reference5Ideal := fun m g _ =>
  θ_run_mono (Cert.Reference5Ideal.Value.run m g) fun r h => ⟨fun c => (h c).2.2, sem_eq_zero_of_no_sems rfl r.2⟩
theorem reference6_frame : Cert.quiescent_Reference6Ideal := fun m g _ =>
  θ_run_mono (Cert.Reference6Ideal.Value.run m g) fun r h => ⟨fun c => (h c).2, sem_eq_zero_of_no_sems rfl r.2⟩
theorem reference7_frame : Cert.quiescent_Reference7Ideal := fun m g _ =>
  θ_run_mono (Cert.Reference7Ideal.Value.run m g) fun r h => ⟨fun c => (h c).2.2.2, sem_eq_zero_of_no_sems rfl r.2⟩
theorem reference8_frame : Cert.quiescent_Reference8Ideal := fun m g _ =>
  θ_run_mono (Cert.Reference8Ideal.Value.run m g) fun r h => ⟨fun c => (h c).2, sem_eq_zero_of_no_sems rfl r.2⟩
theorem reference9_frame : Cert.quiescent_Reference9Ideal := fun m g _ =>
  θ_run_mono (Cert.Reference9Ideal.Value.run m g) fun r h => ⟨fun c => (h c).2.2.2, sem_eq_zero_of_no_sems rfl r.2⟩
theorem reference10_frame : Cert.quiescent_Reference10Ideal := fun m g _ =>
  θ_run_mono (Cert.Reference10Ideal.Value.run m g) fun r h => ⟨fun c => (h c).2.2.2, sem_eq_zero_of_no_sems rfl r.2⟩
theorem reference11_frame : Cert.quiescent_Reference11Ideal := fun m g _ =>
  θ_run_mono (Cert.Reference11Ideal.Value.run m g) fun r h => ⟨fun c => (h c).2.2.2, sem_eq_zero_of_no_sems rfl r.2⟩
theorem reference12_frame : Cert.quiescent_Reference12Ideal := fun m g _ =>
  θ_run_mono (Cert.Reference12Ideal.Value.run m g) fun r h => ⟨fun c => (h c).2.2.2, sem_eq_zero_of_no_sems rfl r.2⟩
theorem reference13_frame : Cert.quiescent_Reference13Ideal := fun m g _ =>
  θ_run_mono (Cert.Reference13Ideal.Value.run m g) fun r h => ⟨fun c => (h c).2.2.2, sem_eq_zero_of_no_sems rfl r.2⟩
theorem reference14_frame : Cert.quiescent_Reference14Ideal := fun m g _ =>
  θ_run_mono (Cert.Reference14Ideal.Value.run m g) fun r h => ⟨fun c => (h c).2.2, sem_eq_zero_of_no_sems rfl r.2⟩

/-- From the same arguments the call and the reference end with the same gradient of the input weights. -/
theorem algebraic2 : Cert.algebraic_Kernel2Ideal_Reference2Ideal := by
  intro m g m' g' _ hagree
  refine ⟨fun c => Cert.WeightGrad.prod m c, ?_, ?_⟩
  · exact θ_run_mono (Cert.Kernel2Ideal.Value.run_blocks m g) fun r h c => ⟨(h c).1.trans (Cert.WeightGrad.arr m c), (h c).2⟩
  · exact θ_run_mono (Cert.Reference2Ideal.Value.run m' g') fun r h c =>
      ⟨(h c).1.trans (congrArg₂ Cert.WeightGrad.refTerm (hagree c).1 (hagree c).2.2), (h c).2⟩

/-- From the same arguments the call and the reference end with the same gradient of the normed stream. -/
theorem algebraic3 : Cert.algebraic_Kernel3Ideal_Reference3Ideal := by
  intro m g m' g' _ hagree
  refine ⟨fun c => Cert.InputGrad.prod m c, ?_, ?_⟩
  · exact θ_run_mono (Cert.Kernel3Ideal.Value.run_blocks m g) fun r h c => ⟨(h c).1.trans (Cert.InputGrad.arr m c), (h c).2⟩
  · exact θ_run_mono (Cert.Reference3Ideal.Value.run m' g') fun r h c =>
      ⟨(h c).1.trans (congrArg₂ Cert.InputGrad.refTerm (hagree c).2.1 (hagree c).2.2), (h c).2⟩

/-- From the same arguments the call and the reference end with the same product. -/
theorem algebraic4 : Cert.algebraic_Kernel4Ideal_Reference4Ideal := by
  intro m g m' g' _ hagree
  refine ⟨fun c => Cert.Forward.prod m c, ?_, ?_⟩
  · exact θ_run_mono (Cert.Kernel4Ideal.Value.run_blocks m g) fun r h c => ⟨(h c).1.trans (Cert.Forward.arr m c), (h c).2⟩
  · exact θ_run_mono (Cert.Reference4Ideal.Value.run m' g') fun r h c =>
      ⟨(h c).1.trans (Cert.Forward.ref_eq m c _ _ (hagree c).1 (hagree c).2), (h c).2⟩

/-- From the same arguments the call and the reference end with the same gradients of the merged branches and of the output weights. -/
theorem algebraic5 : Cert.algebraic_Kernel5Ideal_Reference5Ideal := by
  intro m g m' g' _ hagree
  refine ⟨fun c => Cert.OutGrad.prodZ m c, fun c => Cert.OutGrad.prodW m c, ?_, ?_⟩
  · exact θ_run_mono (Cert.Kernel5Ideal.Value.run_blocks m g) fun r h c =>
      ⟨(h c).1.trans (Cert.OutGrad.arr3 m c), (h c).2.1.trans (Cert.OutGrad.arr4 m c), (h c).2.2⟩
  · exact θ_run_mono (Cert.Reference5Ideal.Value.run m' g') fun r h c =>
      ⟨(h c).1.trans (congrArg₂ Cert.OutGrad.dzTerm (hagree c).1 (hagree c).2.2),
        (h c).2.1.trans (congrArg₂ Cert.OutGrad.dwTerm (hagree c).1 (hagree c).2.1), (h c).2.2⟩

/-- From the same arguments the call and the reference end with the same merged branches. -/
theorem algebraic6 : Cert.algebraic_Kernel6Ideal_Reference6Ideal := by
  intro m g m' g' _ hagree
  refine ⟨fun c => Cert.Merge.prod m c, ?_, ?_⟩
  · exact θ_run_mono (Cert.Kernel6Ideal.Value.run_blocks m g) fun r h c => ⟨(h c).1.trans (Cert.Merge.arr m c), (h c).2⟩
  · exact θ_run_mono (Cert.Reference6Ideal.Value.run m' g') fun r h c =>
      ⟨(h c).1.trans (Cert.Merge.ref_congr (hagree c).1 (hagree c).2.1 (hagree c).2.2), (h c).2⟩

/-- From the same arguments the call and the reference end with the same stream, the same norm of it, and the same norm transposed. -/
theorem algebraic7 : Cert.algebraic_Kernel7Ideal_Reference7Ideal := by
  intro m g m' g' _ hagree
  refine ⟨fun c => Cert.OutNorm.prodX m c, fun c => Cert.OutNorm.prodH m c, fun c => Cert.OutNorm.prodT m c, ?_, ?_⟩
  · exact θ_run_mono (Cert.Kernel7Ideal.Value.run_blocks m g) fun r h c =>
      ⟨(h c).1.trans (Cert.OutNorm.arr4 m c), (h c).2.1.trans (Cert.OutNorm.arr5 m c), (h c).2.2.1.trans (Cert.OutNorm.arr6 m c), (h c).2.2.2⟩
  · exact θ_run_mono (Cert.Reference7Ideal.Value.run m' g') fun r h c => by
      have e := Cert.OutNorm.xn_congr (hagree c).1 (hagree c).2.1 (hagree c).2.2.1
      exact ⟨(h c).1.trans e, (h c).2.1.trans (congrArg₂ Cert.OutNorm.hTerm e (hagree c).2.2.2),
        (h c).2.2.1.trans (congrArg₂ Cert.OutNorm.htTerm e (hagree c).2.2.2), (h c).2.2.2⟩

/-- From the same arguments the call and the reference end with the same stream. -/
theorem algebraic8 : Cert.algebraic_Kernel8Ideal_Reference8Ideal := by
  intro m g m' g' _ hagree
  refine ⟨fun c => Cert.OutSum.prodX m c, ?_, ?_⟩
  · exact θ_run_mono (Cert.Kernel8Ideal.Value.run_blocks m g) fun r h c => ⟨(h c).1.trans (Cert.OutSum.arr3 m c), (h c).2⟩
  · exact θ_run_mono (Cert.Reference8Ideal.Value.run m' g') fun r h c =>
      ⟨(h c).1.trans (Cert.OutSum.xn_congr (hagree c).1 (hagree c).2.1 (hagree c).2.2), (h c).2⟩

/-- From the same arguments the call and the reference end with the same gradient of the last norm's gain and the same loss. -/
theorem algebraic14 : Cert.algebraic_Kernel14Ideal_Reference14Ideal := by
  intro m g m' g' _ hagree
  refine ⟨fun c => Cert.LossHead.prodG m c, fun c => Cert.LossHead.prodL m c, ?_, ?_⟩
  · exact θ_run_mono (Cert.Kernel14Ideal.Value.run_blocks m g) fun r h c =>
      ⟨(h c).2.1.trans (Cert.LossHead.arr4 m c), (h c).2.2.1.trans (Cert.LossHead.arr5 m c), (h c).2.2.2⟩
  · refine θ_run_mono (Cert.Reference14Ideal.Value.run m' g') fun r h c => ?_
    obtain ⟨h0, h1, h2⟩ := hagree c
    exact ⟨(h c).1.trans (Cert.LossHead.gain_congr h0 h1 h2), (h c).2.1.trans (Cert.LossHead.loss_congr h0 h1 h2), (h c).2.2⟩

/-- Everything that is claimed. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Pre_finite.Gen.facts,
  fun m ρ _ => Cert.Kernel.Gen.frame m ρ, fun m ρ _ => Cert.KernelIdeal.Gen.frame m ρ, fun m ρ _ => Cert.KernelIdeal.Gen.frame m ρ,
  reference_frame, fun m g _ => reference_frame m g trivial,
  fun m ρ _ => Cert.Kernel2.Gen.frame m ρ, fun m ρ _ => Cert.Kernel2Ideal.Gen.frame m ρ, reference2_frame,
  fun m ρ _ => Cert.Kernel3.Gen.frame m ρ, fun m ρ _ => Cert.Kernel3Ideal.Gen.frame m ρ, reference3_frame,
  fun m ρ _ => Cert.Kernel4.Gen.frame m ρ, fun m ρ _ => Cert.Kernel4Ideal.Gen.frame m ρ, reference4_frame,
  fun m ρ _ => Cert.Kernel5.Gen.frame m ρ, fun m ρ _ => Cert.Kernel5Ideal.Gen.frame m ρ, reference5_frame,
  fun m ρ _ => Cert.Kernel6.Gen.frame m ρ, fun m ρ _ => Cert.Kernel6Ideal.Gen.frame m ρ, reference6_frame,
  fun m ρ _ => Cert.Kernel7.Gen.frame m ρ, fun m ρ _ => Cert.Kernel7Ideal.Gen.frame m ρ, reference7_frame,
  fun m ρ _ => Cert.Kernel8.Gen.frame m ρ, fun m ρ _ => Cert.Kernel8Ideal.Gen.frame m ρ, reference8_frame,
  fun m ρ _ => Cert.Kernel9.Gen.frame m ρ, fun m ρ _ => Cert.Kernel9Ideal.Gen.frame m ρ, reference9_frame,
  fun m ρ _ => Cert.Kernel10.Gen.frame m ρ, fun m ρ _ => Cert.Kernel10Ideal.Gen.frame m ρ, reference10_frame,
  fun m ρ _ => Cert.Kernel11.Gen.frame m ρ, fun m ρ _ => Cert.Kernel11Ideal.Gen.frame m ρ, reference11_frame,
  fun m ρ _ => Cert.Kernel12.Gen.frame m ρ, fun m ρ _ => Cert.Kernel12Ideal.Gen.frame m ρ, reference12_frame,
  fun m ρ _ => Cert.Kernel13.Gen.frame m ρ, fun m ρ _ => Cert.Kernel13Ideal.Gen.frame m ρ, reference13_frame,
  fun m ρ _ => Cert.Kernel14.Gen.frame m ρ, fun m ρ _ => Cert.Kernel14Ideal.Gen.frame m ρ, reference14_frame,
  trivial, algebraic, trivial, algebraic2, trivial, algebraic3, trivial, algebraic4,
  trivial, algebraic5, trivial, algebraic6, trivial, algebraic7, trivial, algebraic8,
  trivial, Cert.Adam.algebraic9, trivial, Cert.Adam.algebraic10,
  trivial, Cert.Adam.algebraic11, trivial, Cert.Adam.algebraic12, trivial, Cert.Adam.algebraic13, trivial, algebraic14⟩

end Cert.Proof

end
